-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11)
      ∧ r.2.mem ((c.tc : Thread Cert.Sample.nD Cert.Sample.τ).loc Cert.Sample.main_arg12) = m ((c.tc : Thread Cert.Sample.nD Cert.Sample.τ).loc Cert.Sample.main_arg12)
      ∧ r.2.mem ((c.tc : Thread Cert.Sample.nD Cert.Sample.τ).loc Cert.Sample.main_arg13) = m ((c.tc : Thread Cert.Sample.nD Cert.Sample.τ).loc Cert.Sample.main_arg13)
      ∧ r.2.mem ((c.tc : Thread Cert.Sample.nD Cert.Sample.τ).loc Cert.Sample.main_arg14) = m ((c.tc : Thread Cert.Sample.nD Cert.Sample.τ).loc Cert.Sample.main_arg14)
      ∧ r.2.mem ((c.tc : Thread Cert.Sample.nD Cert.Sample.τ).loc Cert.Sample.main_arg15) = m ((c.tc : Thread Cert.Sample.nD Cert.Sample.τ).loc Cert.Sample.main_arg15)
      ∧ r.2.mem ((c.tc : Thread Cert.Sample.nD Cert.Sample.τ).loc Cert.Sample.main_arg16) = m ((c.tc : Thread Cert.Sample.nD Cert.Sample.τ).loc Cert.Sample.main_arg16)
      ∧ r.2.mem ((c.tc : Thread Cert.Sample.nD Cert.Sample.τ).loc Cert.Sample.main_arg17) = m ((c.tc : Thread Cert.Sample.nD Cert.Sample.τ).loc Cert.Sample.main_arg17))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
      ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
      ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
      ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
      ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
      ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16)
      ∧ r.2.mem ((c.tc : Thread Cert.SampleIdeal.nD Cert.SampleIdeal.τ).loc Cert.SampleIdeal.main_arg17) = m ((c.tc : Thread Cert.SampleIdeal.nD Cert.SampleIdeal.τ).loc Cert.SampleIdeal.main_arg17))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7)
      ∧ r.2.mem ((c.tc : Thread Cert.SampleReferenceIdeal.nD Cert.SampleReferenceIdeal.τ).loc Cert.SampleReferenceIdeal.main_arg8) = m ((c.tc : Thread Cert.SampleReferenceIdeal.nD Cert.SampleReferenceIdeal.τ).loc Cert.SampleReferenceIdeal.main_arg8)
      ∧ r.2.mem ((c.tc : Thread Cert.SampleReferenceIdeal.nD Cert.SampleReferenceIdeal.τ).loc Cert.SampleReferenceIdeal.main_arg9) = m ((c.tc : Thread Cert.SampleReferenceIdeal.nD Cert.SampleReferenceIdeal.τ).loc Cert.SampleReferenceIdeal.main_arg9)
      ∧ r.2.mem ((c.tc : Thread Cert.SampleReferenceIdeal.nD Cert.SampleReferenceIdeal.τ).loc Cert.SampleReferenceIdeal.main_arg10) = m ((c.tc : Thread Cert.SampleReferenceIdeal.nD Cert.SampleReferenceIdeal.τ).loc Cert.SampleReferenceIdeal.main_arg10)
      ∧ r.2.mem ((c.tc : Thread Cert.SampleReferenceIdeal.nD Cert.SampleReferenceIdeal.τ).loc Cert.SampleReferenceIdeal.main_arg11) = m ((c.tc : Thread Cert.SampleReferenceIdeal.nD Cert.SampleReferenceIdeal.τ).loc Cert.SampleReferenceIdeal.main_arg11)
      ∧ r.2.mem ((c.tc : Thread Cert.SampleReferenceIdeal.nD Cert.SampleReferenceIdeal.τ).loc Cert.SampleReferenceIdeal.main_arg12) = m ((c.tc : Thread Cert.SampleReferenceIdeal.nD Cert.SampleReferenceIdeal.τ).loc Cert.SampleReferenceIdeal.main_arg12)
      ∧ r.2.mem ((c.tc : Thread Cert.SampleReferenceIdeal.nD Cert.SampleReferenceIdeal.τ).loc Cert.SampleReferenceIdeal.main_arg13) = m ((c.tc : Thread Cert.SampleReferenceIdeal.nD Cert.SampleReferenceIdeal.τ).loc Cert.SampleReferenceIdeal.main_arg13)
      ∧ r.2.mem ((c.tc : Thread Cert.SampleReferenceIdeal.nD Cert.SampleReferenceIdeal.τ).loc Cert.SampleReferenceIdeal.main_arg14) = m ((c.tc : Thread Cert.SampleReferenceIdeal.nD Cert.SampleReferenceIdeal.τ).loc Cert.SampleReferenceIdeal.main_arg14)
      ∧ r.2.mem ((c.tc : Thread Cert.SampleReferenceIdeal.nD Cert.SampleReferenceIdeal.τ).loc Cert.SampleReferenceIdeal.main_arg15) = m ((c.tc : Thread Cert.SampleReferenceIdeal.nD Cert.SampleReferenceIdeal.τ).loc Cert.SampleReferenceIdeal.main_arg15)
      ∧ r.2.mem ((c.tc : Thread Cert.SampleReferenceIdeal.nD Cert.SampleReferenceIdeal.τ).loc Cert.SampleReferenceIdeal.main_arg16) = m ((c.tc : Thread Cert.SampleReferenceIdeal.nD Cert.SampleReferenceIdeal.τ).loc Cert.SampleReferenceIdeal.main_arg16)
      ∧ r.2.mem ((c.tc : Thread Cert.SampleReferenceIdeal.nD Cert.SampleReferenceIdeal.τ).loc Cert.SampleReferenceIdeal.main_arg17) = m ((c.tc : Thread Cert.SampleReferenceIdeal.nD Cert.SampleReferenceIdeal.τ).loc Cert.SampleReferenceIdeal.main_arg17))
      ∧ r.2.sem = fun _ => 0)

def preserves_Kernel_KernelIdeal : Prop :=
  True

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v60) = v0 c
          ∧ r.2.mem ((c.tc : Thread Cert.MlpReferenceIdeal.nD Cert.MlpReferenceIdeal.τ).loc Cert.MlpReferenceIdeal.main_v119) = v1 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)
      ∧ m' ((c.tc : Thread Cert.SampleReferenceIdeal.nD Cert.SampleReferenceIdeal.τ).loc Cert.SampleReferenceIdeal.main_arg5) = m ((c.tc : Thread Cert.SampleIdeal.nD Cert.SampleIdeal.τ).loc Cert.SampleIdeal.main_arg5)
      ∧ m' ((c.tc : Thread Cert.SampleReferenceIdeal.nD Cert.SampleReferenceIdeal.τ).loc Cert.SampleReferenceIdeal.main_arg6) = m ((c.tc : Thread Cert.SampleIdeal.nD Cert.SampleIdeal.τ).loc Cert.SampleIdeal.main_arg6)
      ∧ m' ((c.tc : Thread Cert.SampleReferenceIdeal.nD Cert.SampleReferenceIdeal.τ).loc Cert.SampleReferenceIdeal.main_arg7) = m ((c.tc : Thread Cert.SampleIdeal.nD Cert.SampleIdeal.τ).loc Cert.SampleIdeal.main_arg7)
      ∧ m' ((c.tc : Thread Cert.SampleReferenceIdeal.nD Cert.SampleReferenceIdeal.τ).loc Cert.SampleReferenceIdeal.main_arg8) = m ((c.tc : Thread Cert.SampleIdeal.nD Cert.SampleIdeal.τ).loc Cert.SampleIdeal.main_arg8)
      ∧ m' ((c.tc : Thread Cert.SampleReferenceIdeal.nD Cert.SampleReferenceIdeal.τ).loc Cert.SampleReferenceIdeal.main_arg9) = m ((c.tc : Thread Cert.SampleIdeal.nD Cert.SampleIdeal.τ).loc Cert.SampleIdeal.main_arg9)
      ∧ m' ((c.tc : Thread Cert.SampleReferenceIdeal.nD Cert.SampleReferenceIdeal.τ).loc Cert.SampleReferenceIdeal.main_arg10) = m ((c.tc : Thread Cert.SampleIdeal.nD Cert.SampleIdeal.τ).loc Cert.SampleIdeal.main_arg10)
      ∧ m' ((c.tc : Thread Cert.SampleReferenceIdeal.nD Cert.SampleReferenceIdeal.τ).loc Cert.SampleReferenceIdeal.main_arg11) = m ((c.tc : Thread Cert.SampleIdeal.nD Cert.SampleIdeal.τ).loc Cert.SampleIdeal.main_arg11)
      ∧ m' ((c.tc : Thread Cert.SampleReferenceIdeal.nD Cert.SampleReferenceIdeal.τ).loc Cert.SampleReferenceIdeal.main_arg12) = m ((c.tc : Thread Cert.SampleIdeal.nD Cert.SampleIdeal.τ).loc Cert.SampleIdeal.main_arg12)
      ∧ m' ((c.tc : Thread Cert.SampleReferenceIdeal.nD Cert.SampleReferenceIdeal.τ).loc Cert.SampleReferenceIdeal.main_arg13) = m ((c.tc : Thread Cert.SampleIdeal.nD Cert.SampleIdeal.τ).loc Cert.SampleIdeal.main_arg13)
      ∧ m' ((c.tc : Thread Cert.SampleReferenceIdeal.nD Cert.SampleReferenceIdeal.τ).loc Cert.SampleReferenceIdeal.main_arg14) = m ((c.tc : Thread Cert.SampleIdeal.nD Cert.SampleIdeal.τ).loc Cert.SampleIdeal.main_arg14)
      ∧ m' ((c.tc : Thread Cert.SampleReferenceIdeal.nD Cert.SampleReferenceIdeal.τ).loc Cert.SampleReferenceIdeal.main_arg15) = m ((c.tc : Thread Cert.SampleIdeal.nD Cert.SampleIdeal.τ).loc Cert.SampleIdeal.main_arg15)
      ∧ m' ((c.tc : Thread Cert.SampleReferenceIdeal.nD Cert.SampleReferenceIdeal.τ).loc Cert.SampleReferenceIdeal.main_arg16) = m ((c.tc : Thread Cert.SampleIdeal.nD Cert.SampleIdeal.τ).loc Cert.SampleIdeal.main_arg16)
      ∧ m' ((c.tc : Thread Cert.SampleReferenceIdeal.nD Cert.SampleReferenceIdeal.τ).loc Cert.SampleReferenceIdeal.main_arg17) = m ((c.tc : Thread Cert.SampleIdeal.nD Cert.SampleIdeal.τ).loc Cert.SampleIdeal.main_arg17)) →
    ∃ (v0 : (c : Dev Cert.SampleIdeal.nD) → Buf (Elt Ideal) ((c.tc : Thread Cert.SampleIdeal.nD Cert.SampleIdeal.τ).loc Cert.SampleIdeal.main_v6_1)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v6_1) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
          ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
          ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
          ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
          ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
          ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16)
          ∧ r.2.mem ((c.tc : Thread Cert.SampleIdeal.nD Cert.SampleIdeal.τ).loc Cert.SampleIdeal.main_arg17) = m ((c.tc : Thread Cert.SampleIdeal.nD Cert.SampleIdeal.τ).loc Cert.SampleIdeal.main_arg17))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v16) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6)
          ∧ r.2.mem ((c.tc : Thread Cert.SampleReferenceIdeal.nD Cert.SampleReferenceIdeal.τ).loc Cert.SampleReferenceIdeal.main_arg7) = m' ((c.tc : Thread Cert.SampleReferenceIdeal.nD Cert.SampleReferenceIdeal.τ).loc Cert.SampleReferenceIdeal.main_arg7)
          ∧ r.2.mem ((c.tc : Thread Cert.SampleReferenceIdeal.nD Cert.SampleReferenceIdeal.τ).loc Cert.SampleReferenceIdeal.main_arg8) = m' ((c.tc : Thread Cert.SampleReferenceIdeal.nD Cert.SampleReferenceIdeal.τ).loc Cert.SampleReferenceIdeal.main_arg8)
          ∧ r.2.mem ((c.tc : Thread Cert.SampleReferenceIdeal.nD Cert.SampleReferenceIdeal.τ).loc Cert.SampleReferenceIdeal.main_arg9) = m' ((c.tc : Thread Cert.SampleReferenceIdeal.nD Cert.SampleReferenceIdeal.τ).loc Cert.SampleReferenceIdeal.main_arg9)
          ∧ r.2.mem ((c.tc : Thread Cert.SampleReferenceIdeal.nD Cert.SampleReferenceIdeal.τ).loc Cert.SampleReferenceIdeal.main_arg10) = m' ((c.tc : Thread Cert.SampleReferenceIdeal.nD Cert.SampleReferenceIdeal.τ).loc Cert.SampleReferenceIdeal.main_arg10)
          ∧ r.2.mem ((c.tc : Thread Cert.SampleReferenceIdeal.nD Cert.SampleReferenceIdeal.τ).loc Cert.SampleReferenceIdeal.main_arg11) = m' ((c.tc : Thread Cert.SampleReferenceIdeal.nD Cert.SampleReferenceIdeal.τ).loc Cert.SampleReferenceIdeal.main_arg11)
          ∧ r.2.mem ((c.tc : Thread Cert.SampleReferenceIdeal.nD Cert.SampleReferenceIdeal.τ).loc Cert.SampleReferenceIdeal.main_arg12) = m' ((c.tc : Thread Cert.SampleReferenceIdeal.nD Cert.SampleReferenceIdeal.τ).loc Cert.SampleReferenceIdeal.main_arg12)
          ∧ r.2.mem ((c.tc : Thread Cert.SampleReferenceIdeal.nD Cert.SampleReferenceIdeal.τ).loc Cert.SampleReferenceIdeal.main_arg13) = m' ((c.tc : Thread Cert.SampleReferenceIdeal.nD Cert.SampleReferenceIdeal.τ).loc Cert.SampleReferenceIdeal.main_arg13)
          ∧ r.2.mem ((c.tc : Thread Cert.SampleReferenceIdeal.nD Cert.SampleReferenceIdeal.τ).loc Cert.SampleReferenceIdeal.main_arg14) = m' ((c.tc : Thread Cert.SampleReferenceIdeal.nD Cert.SampleReferenceIdeal.τ).loc Cert.SampleReferenceIdeal.main_arg14)
          ∧ r.2.mem ((c.tc : Thread Cert.SampleReferenceIdeal.nD Cert.SampleReferenceIdeal.τ).loc Cert.SampleReferenceIdeal.main_arg15) = m' ((c.tc : Thread Cert.SampleReferenceIdeal.nD Cert.SampleReferenceIdeal.τ).loc Cert.SampleReferenceIdeal.main_arg15)
          ∧ r.2.mem ((c.tc : Thread Cert.SampleReferenceIdeal.nD Cert.SampleReferenceIdeal.τ).loc Cert.SampleReferenceIdeal.main_arg16) = m' ((c.tc : Thread Cert.SampleReferenceIdeal.nD Cert.SampleReferenceIdeal.τ).loc Cert.SampleReferenceIdeal.main_arg16)
          ∧ r.2.mem ((c.tc : Thread Cert.SampleReferenceIdeal.nD Cert.SampleReferenceIdeal.τ).loc Cert.SampleReferenceIdeal.main_arg17) = m' ((c.tc : Thread Cert.SampleReferenceIdeal.nD Cert.SampleReferenceIdeal.τ).loc Cert.SampleReferenceIdeal.main_arg17))

def Claim : Prop :=
  ∃ (hKernel : Cert.Kernel.Facts) (hKernelIdeal : Cert.KernelIdeal.Facts) (hMlp : Cert.Mlp.Facts) (hMlpIdeal : Cert.MlpIdeal.Facts) (hMlpReferenceIdeal : Cert.MlpReferenceIdeal.Facts) (hSample : Cert.Sample.Facts) (hSampleIdeal : Cert.SampleIdeal.Facts) (hSampleReferenceIdeal : Cert.SampleReferenceIdeal.Facts),
    quiescent_Kernel (hKernel := hKernel)
    ∧ quiescent_KernelIdeal (hKernelIdeal := hKernelIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Sample (hSample := hSample)
    ∧ quiescent_SampleIdeal (hSampleIdeal := hSampleIdeal)
    ∧ quiescent_SampleReferenceIdeal (hSampleReferenceIdeal := hSampleReferenceIdeal)
    ∧ preserves_Kernel_KernelIdeal
    ∧ preserves_Mlp_MlpIdeal
    ∧ algebraic_MlpIdeal_MlpReferenceIdeal (hMlpIdeal := hMlpIdeal) (hMlpReferenceIdeal := hMlpReferenceIdeal)
    ∧ preserves_Sample_SampleIdeal
    ∧ algebraic_SampleIdeal_SampleReferenceIdeal (hSampleIdeal := hSampleIdeal) (hSampleReferenceIdeal := hSampleReferenceIdeal)
-- ==== Kernel.lean ====
abbrev S8x2048x1024 : Shape := ⟨3, ![8, 2048, 1024]⟩
abbrev S8x6144 : Shape := ⟨2, ![8, 6144]⟩
abbrev S1024x1536 : Shape := ⟨2, ![1024, 1536]⟩
abbrev S10x512 : Shape := ⟨2, ![10, 512]⟩
abbrev S2x256x512 : Shape := ⟨3, ![2, 256, 512]⟩
abbrev S8x2048 : Shape := ⟨2, ![8, 2048]⟩
abbrev S2x256x1024 : Shape := ⟨3, ![2, 256, 1024]⟩
abbrev S2x1024x256 : Shape := ⟨3, ![2, 1024, 256]⟩
abbrev S512x512 : Shape := ⟨2, ![512, 512]⟩
abbrev S1024x1024 : Shape := ⟨2, ![1024, 1024]⟩
abbrev S5x1024 : Shape := ⟨2, ![5, 1024]⟩
abbrev S1024x4096 : Shape := ⟨2, ![1024, 4096]⟩
abbrev S4096x1024 : Shape := ⟨2, ![4096, 1024]⟩
abbrev S2048x8x1024 : Shape := ⟨3, ![2048, 8, 1024]⟩
abbrev S24x512 : Shape := ⟨2, ![24, 512]⟩
abbrev S8x512 : Shape := ⟨2, ![8, 512]⟩
abbrev S512x1024 : Shape := ⟨2, ![512, 1024]⟩
abbrev S536x512 : Shape := ⟨2, ![536, 512]⟩
abbrev S512x2048 : Shape := ⟨2, ![512, 2048]⟩
abbrev S1 : Shape := ⟨1, ![1]⟩
abbrev S2x8x64x1024 : Shape := ⟨4, ![2, 8, 64, 1024]⟩
abbrev S2 : Shape := ⟨1, ![2]⟩
abbrev S2x32x4096 : Shape := ⟨3, ![2, 32, 4096]⟩
abbrev S2x128x1024 : Shape := ⟨3, ![2, 128, 1024]⟩
abbrev S2x64x8x1024 : Shape := ⟨4, ![2, 64, 8, 1024]⟩
abbrev S_ : Shape := ⟨0, ![]⟩
abbrev S1x8x64x1024 : Shape := ⟨4, ![1, 8, 64, 1024]⟩
abbrev S8x64x1024 : Shape := ⟨3, ![8, 64, 1024]⟩
abbrev S1x32x4096 : Shape := ⟨3, ![1, 32, 4096]⟩
abbrev S32x4096 : Shape := ⟨2, ![32, 4096]⟩
abbrev S1x128x1024 : Shape := ⟨3, ![1, 128, 1024]⟩
abbrev S128x1024 : Shape := ⟨2, ![128, 1024]⟩
abbrev S8x1024 : Shape := ⟨2, ![8, 1024]⟩
abbrev S64x8x1024 : Shape := ⟨3, ![64, 8, 1024]⟩
abbrev S1x8x1024 : Shape := ⟨3, ![1, 8, 1024]⟩
abbrev S1x1024x256 : Shape := ⟨3, ![1, 1024, 256]⟩
abbrev S1024x256 : Shape := ⟨2, ![1024, 256]⟩
abbrev S512x256 : Shape := ⟨2, ![512, 256]⟩
abbrev S1x512 : Shape := ⟨2, ![1, 512]⟩
abbrev S1x256 : Shape := ⟨2, ![1, 256]⟩
abbrev S1024x512 : Shape := ⟨2, ![1024, 512]⟩
abbrev S1x256x1024 : Shape := ⟨3, ![1, 256, 1024]⟩
abbrev S256x1024 : Shape := ⟨2, ![256, 1024]⟩
abbrev S4x512 : Shape := ⟨2, ![4, 512]⟩
abbrev S1x256x512 : Shape := ⟨3, ![1, 256, 512]⟩
abbrev S256x512 : Shape := ⟨2, ![256, 512]⟩
abbrev S8x256 : Shape := ⟨2, ![8, 256]⟩
abbrev S504x256 : Shape := ⟨2, ![504, 256]⟩
abbrev S1x1024 : Shape := ⟨2, ![1, 1024]⟩
abbrev S1x1x1024 : Shape := ⟨3, ![1, 1, 1024]⟩
abbrev S64x8 : Shape := ⟨2, ![64, 8]⟩
abbrev S64x8x1 : Shape := ⟨3, ![64, 8, 1]⟩
abbrev S1x64x8x1024 : Shape := ⟨4, ![1, 64, 8, 1024]⟩

abbrev nBuf : Space → Nat
  | .hbm => 23
  | .vmem => 37
  | .smem => 1
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024x1536, .bf16⟩
  | .hbm, ⟨3, _⟩ => ⟨S10x512, .f32⟩
  | .hbm, ⟨4, _⟩ => ⟨S2x256x512, .bf16⟩
  | .hbm, ⟨5, _⟩ => ⟨S8x2048, .f32⟩
  | .hbm, ⟨6, _⟩ => ⟨S8x2048, .f32⟩
  | .hbm, ⟨7, _⟩ => ⟨S2x256x1024, .bf16⟩
  | .hbm, ⟨8, _⟩ => ⟨S2x256x1024, .bf16⟩
  | .hbm, ⟨9, _⟩ => ⟨S2x1024x256, .bf16⟩
  | .hbm, ⟨10, _⟩ => ⟨S2x1024x256, .bf16⟩
  | .hbm, ⟨11, _⟩ => ⟨S512x512, .bf16⟩
  | .hbm, ⟨12, _⟩ => ⟨S1024x1024, .bf16⟩
  | .hbm, ⟨13, _⟩ => ⟨S5x1024, .f32⟩
  | .hbm, ⟨14, _⟩ => ⟨S1024x4096, .f32⟩
  | .hbm, ⟨15, _⟩ => ⟨S4096x1024, .f32⟩
  | .hbm, ⟨16, _⟩ => ⟨S2048x8x1024, .f32⟩
  | .hbm, ⟨17, _⟩ => ⟨S24x512, .f32⟩
  | .hbm, ⟨18, _⟩ => ⟨S8x512, .f32⟩
  | .hbm, ⟨19, _⟩ => ⟨S8x2048, .f32⟩
  | .hbm, ⟨20, _⟩ => ⟨S8x2048, .f32⟩
  | .hbm, ⟨21, _⟩ => ⟨S1024x4096, .bf16⟩
  | .hbm, ⟨22, _⟩ => ⟨S4096x1024, .bf16⟩
  | .local _ .vmem, ⟨0, _⟩ => ⟨S8x6144, .f32⟩
  | .local _ .vmem, ⟨1, _⟩ => ⟨S1024x1536, .bf16⟩
  | .local _ .vmem, ⟨2, _⟩ => ⟨S10x512, .f32⟩
  | .local _ .vmem, ⟨3, _⟩ => ⟨S2x256x512, .bf16⟩
  | .local _ .vmem, ⟨4, _⟩ => ⟨S8x2048, .f32⟩
  | .local _ .vmem, ⟨5, _⟩ => ⟨S8x2048, .f32⟩
  | .local _ .vmem, ⟨6, _⟩ => ⟨S2x256x1024, .bf16⟩
  | .local _ .vmem, ⟨7, _⟩ => ⟨S2x256x1024, .bf16⟩
  | .local _ .vmem, ⟨8, _⟩ => ⟨S2x1024x256, .bf16⟩
  | .local _ .vmem, ⟨9, _⟩ => ⟨S2x1024x256, .bf16⟩
  | .local _ .vmem, ⟨10, _⟩ => ⟨S512x512, .bf16⟩
  | .local _ .vmem, ⟨11, _⟩ => ⟨S1024x1024, .bf16⟩
  | .local _ .vmem, ⟨12, _⟩ => ⟨S5x1024, .f32⟩
  | .local _ .vmem, ⟨13, _⟩ => ⟨S24x512, .f32⟩
  | .local _ .vmem, ⟨14, _⟩ => ⟨S8x512, .f32⟩
  | .local _ .vmem, ⟨15, _⟩ => ⟨S8x2048, .f32⟩
  | .local _ .vmem, ⟨16, _⟩ => ⟨S8x2048, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x512, .f32⟩
  | .local _ .vmem, ⟨21, _⟩ => ⟨S512x512, .f32⟩
  | .local _ .vmem, ⟨22, _⟩ => ⟨S536x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x2048, .f32⟩
  | .local _ .vmem, ⟨27, _⟩ => ⟨S512x2048, .f32⟩
  | .local _ .vmem, ⟨28, _⟩ => ⟨S512x1024, .bf16⟩
  | .local _ .vmem, ⟨29, _⟩ => ⟨S512x512, .f32⟩
  | .local _ .vmem, ⟨30, _⟩ => ⟨S512x1024, .f32⟩
  | .local _ .vmem, ⟨31, _⟩ => ⟨S2x8x64x1024, .f32⟩
  | .local _ .vmem, ⟨32, _⟩ => ⟨S2x32x4096, .f32⟩
  | .local _ .vmem, ⟨33, _⟩ => ⟨S2x128x1024, .f32⟩
  | .local _ .vmem, ⟨34, _⟩ => ⟨S2x64x8x1024, .f32⟩
  | .local _ .vmem, ⟨35, _⟩ => ⟨S2x32x4096, .bf16⟩
  | .local _ .vmem, ⟨36, _⟩ => ⟨S2x128x1024, .bf16⟩
  | .local _ .smem, ⟨0, _⟩ => ⟨S1, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_scratch12 : Ref sig .tc := ⟨.vmem, 29, rfl⟩
abbrev cc0_scratch13 : Ref sig .tc := ⟨.vmem, 30, rfl⟩
abbrev cc0_scoped0 : Ref sig .tc := ⟨.vmem, 31, rfl⟩
abbrev cc0_scoped2 : Ref sig .tc := ⟨.vmem, 32, rfl⟩
abbrev cc0_scoped4 : Ref sig .tc := ⟨.vmem, 33, rfl⟩
abbrev cc0_scoped6 : Ref sig .tc := ⟨.vmem, 34, rfl⟩
abbrev cc0_scoped8 : Ref sig .tc := ⟨.vmem, 35, rfl⟩
abbrev cc0_scoped10 : Ref sig .tc := ⟨.vmem, 36, rfl⟩
abbrev cc0_scratch14 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

def k0_off1 : Fin 1 → Nat :=
  let c0_i32_17_r0 : BitVec 32 := 0#32
  let c2_i32_r0 : BitVec 32 := 2#32
  let v20_r0 : BitVec 32 := Scalar.remui c0_i32_17_r0 c2_i32_r0
  ![v20_r0.toNat]
def k0_off2 : Fin 4 → Nat :=
  let c0_i32_17_r0 : BitVec 32 := 0#32
  let c2_i32_r0 : BitVec 32 := 2#32
  let v20_r0 : BitVec 32 := Scalar.remui c0_i32_17_r0 c2_i32_r0
  let c0_i32_19_r0 : BitVec 32 := 0#32
  let c0_i32_20_r0 : BitVec 32 := 0#32
  let c0_i32_21_r0 : BitVec 32 := 0#32
  ![v20_r0.toNat, 0, 0, 0]
def k0_off3 : Fin 3 → Nat :=
  let c0_i32_22_r0 : BitVec 32 := 0#32
  let c64_i32_r0 : BitVec 32 := 64#32
  let c0_i32_18_r0 : BitVec 32 := 0#32
  let c31_i32_r0 : BitVec 32 := 31#32
  let v21_r0 : BitVec 32 := Scalar.minsi c0_i32_18_r0 c31_i32_r0
  let v22_r0 : BitVec 32 := Scalar.muli c64_i32_r0 v21_r0
  let c0_i32_23_r0 : BitVec 32 := 0#32
  ![0, v22_r0.toNat, 0]
def k0_off4 : Fin 3 → Nat :=
  let c0_i32_26_r0 : BitVec 32 := 0#32
  let c2_i32_27_r0 : BitVec 32 := 2#32
  let v29_r0 : BitVec 32 := Scalar.remui c0_i32_26_r0 c2_i32_27_r0
  let c0_i32_31_r0 : BitVec 32 := 0#32
  let c0_i32_32_r0 : BitVec 32 := 0#32
  ![v29_r0.toNat, 0, 0]
def k0_off5 : Fin 2 → Nat :=
  let c32_i32_30_r0 : BitVec 32 := 32#32
  let c0_i32_28_r0 : BitVec 32 := 0#32
  let c31_i32_29_r0 : BitVec 32 := 31#32
  let v30_r0 : BitVec 32 := Scalar.minsi c0_i32_28_r0 c31_i32_29_r0
  let v31_r0 : BitVec 32 := Scalar.muli c32_i32_30_r0 v30_r0
  let c0_i32_33_r0 : BitVec 32 := 0#32
  ![v31_r0.toNat, 0]
def k0_off6 : Fin 3 → Nat :=
  let c0_i32_36_r0 : BitVec 32 := 0#32
  let c2_i32_37_r0 : BitVec 32 := 2#32
  let v38_r0 : BitVec 32 := Scalar.remui c0_i32_36_r0 c2_i32_37_r0
  let c0_i32_40_r0 : BitVec 32 := 0#32
  let c0_i32_41_r0 : BitVec 32 := 0#32
  ![v38_r0.toNat, 0, 0]
def k0_off7 : Fin 2 → Nat :=
  let c128_i32_r0 : BitVec 32 := 128#32
  let c0_i32_38_r0 : BitVec 32 := 0#32
  let c31_i32_39_r0 : BitVec 32 := 31#32
  let v39_r0 : BitVec 32 := Scalar.minsi c0_i32_38_r0 c31_i32_39_r0
  let v40_r0 : BitVec 32 := Scalar.muli c128_i32_r0 v39_r0
  let c0_i32_42_r0 : BitVec 32 := 0#32
  ![v40_r0.toNat, 0]
@[reducible] def k0_t1_loop : Scf.Loop 32 :=
  let c0_i32_55_r0 : BitVec 32 := 0#32
  let c33_i32_56_r0 : BitVec 32 := 33#32
  let v47_r0 : BitVec 32 := Scalar.addi c0_i32_55_r0 c33_i32_56_r0
  let c1_i32_57_r0 : BitVec 32 := 1#32
  ⟨c0_i32_55_r0, v47_r0, c1_i32_57_r0⟩
def k0_off8 (arg39_r0 : BitVec 32) : Fin 1 → Nat :=
  let c2_i32_227_r0 : BitVec 32 := 2#32
  let v318_r0 : BitVec 32 := Scalar.remui arg39_r0 c2_i32_227_r0
  ![v318_r0.toNat]
def k0_cond1 (k0_t1 : Fin k0_t1_loop.trips) (arg51_r0 : BitVec 32) : BitVec 1 :=
  let c0_i32_102_r0 : BitVec 32 := 0#32
  let v96_r0 : BitVec 32 := Scalar.addi arg51_r0 c0_i32_102_r0
  let c31_i32_118_r0 : BitVec 32 := 31#32
  let v112_r0 : BitVec 32 := Scalar.minsi v96_r0 c31_i32_118_r0
  let true_109_r0 : BitVec 1 := 1#1
  let c1_i32_108_r0 : BitVec 32 := 1#32
  let v102_r0 : BitVec 32 := Scalar.addi arg51_r0 c1_i32_108_r0
  let v103_r0 : BitVec 32 := Scalar.select true_109_r0 v102_r0 arg51_r0
  let c33_i32_110_r0 : BitVec 32 := 33#32
  let v104_r0 : BitVec 1 := Scalar.cmpi .eq v103_r0 c33_i32_110_r0
  let c0_i32_111_r0 : BitVec 32 := 0#32
  let v105_r0 : BitVec 32 := Scalar.select v104_r0 c0_i32_111_r0 v103_r0
  let c0_i32_112_r0 : BitVec 32 := 0#32
  let v106_r0 : BitVec 32 := Scalar.addi v105_r0 c0_i32_112_r0
  let c31_i32_119_r0 : BitVec 32 := 31#32
  let v113_r0 : BitVec 32 := Scalar.minsi v106_r0 c31_i32_119_r0
  let v114_r0 : BitVec 1 := Scalar.cmpi .ne v112_r0 v113_r0
  let c0_i32_55_r0 : BitVec 32 := 0#32
  let c1_i32_57_r0 : BitVec 32 := 1#32
  let arg38_r0 : BitVec 32 := Scf.iv c0_i32_55_r0 c1_i32_57_r0 k0_t1
  let c32_i32_120_r0 : BitVec 32 := 32#32
  let v115_r0 : BitVec 1 := Scalar.cmpi .sge arg38_r0 c32_i32_120_r0
  let true_121_r0 : BitVec 1 := 1#1
  let v116_r0 : BitVec 1 := Scalar.xori v115_r0 true_121_r0
  let v117_r0 : BitVec 1 := Scalar.andi v114_r0 v116_r0
  let true_122_r0 : BitVec 1 := 1#1
  let v118_r0 : BitVec 1 := Scalar.andi v117_r0 true_122_r0
  let v119_r0 : BitVec 32 := Scalar.extui v118_r0
  let c0_i32_123_r0 : BitVec 32 := 0#32
  let v120_r0 : BitVec 1 := Scalar.cmpi .ne v119_r0 c0_i32_123_r0
  v120_r0

def k0_off9 (arg39_r0 : BitVec 32) : Fin 4 → Nat :=
  let c2_i32_227_r0 : BitVec 32 := 2#32
  let v318_r0 : BitVec 32 := Scalar.remui arg39_r0 c2_i32_227_r0
  let c0_i32_230_r0 : BitVec 32 := 0#32
  let c0_i32_231_r0 : BitVec 32 := 0#32
  let c0_i32_232_r0 : BitVec 32 := 0#32
  ![v318_r0.toNat, 0, 0, 0]
def k0_off10 (arg51_r0 : BitVec 32) : Fin 3 → Nat :=
  let c0_i32_233_r0 : BitVec 32 := 0#32
  let c64_i32_229_r0 : BitVec 32 := 64#32
  let true_109_r0 : BitVec 1 := 1#1
  let c1_i32_108_r0 : BitVec 32 := 1#32
  let v102_r0 : BitVec 32 := Scalar.addi arg51_r0 c1_i32_108_r0
  let v103_r0 : BitVec 32 := Scalar.select true_109_r0 v102_r0 arg51_r0
  let c33_i32_110_r0 : BitVec 32 := 33#32
  let v104_r0 : BitVec 1 := Scalar.cmpi .eq v103_r0 c33_i32_110_r0
  let c0_i32_111_r0 : BitVec 32 := 0#32
  let v105_r0 : BitVec 32 := Scalar.select v104_r0 c0_i32_111_r0 v103_r0
  let c0_i32_112_r0 : BitVec 32 := 0#32
  let v106_r0 : BitVec 32 := Scalar.addi v105_r0 c0_i32_112_r0
  let c31_i32_228_r0 : BitVec 32 := 31#32
  let v319_r0 : BitVec 32 := Scalar.minsi v106_r0 c31_i32_228_r0
  let v320_r0 : BitVec 32 := Scalar.muli c64_i32_229_r0 v319_r0
  let c0_i32_234_r0 : BitVec 32 := 0#32
  ![0, v320_r0.toNat, 0]
def k0_off11 (arg41_r0 : BitVec 32) : Fin 1 → Nat :=
  let c2_i32_227_r0 : BitVec 32 := 2#32
  let v318_r0 : BitVec 32 := Scalar.remui arg41_r0 c2_i32_227_r0
  ![v318_r0.toNat]
def k0_cond2 (k0_t1 : Fin k0_t1_loop.trips) (arg51_r0 : BitVec 32) : BitVec 1 :=
  let c0_i32_102_r0 : BitVec 32 := 0#32
  let v96_r0 : BitVec 32 := Scalar.addi arg51_r0 c0_i32_102_r0
  let c31_i32_126_r0 : BitVec 32 := 31#32
  let v124_r0 : BitVec 32 := Scalar.minsi v96_r0 c31_i32_126_r0
  let true_109_r0 : BitVec 1 := 1#1
  let c1_i32_108_r0 : BitVec 32 := 1#32
  let v102_r0 : BitVec 32 := Scalar.addi arg51_r0 c1_i32_108_r0
  let v103_r0 : BitVec 32 := Scalar.select true_109_r0 v102_r0 arg51_r0
  let c33_i32_110_r0 : BitVec 32 := 33#32
  let v104_r0 : BitVec 1 := Scalar.cmpi .eq v103_r0 c33_i32_110_r0
  let c0_i32_111_r0 : BitVec 32 := 0#32
  let v105_r0 : BitVec 32 := Scalar.select v104_r0 c0_i32_111_r0 v103_r0
  let c0_i32_112_r0 : BitVec 32 := 0#32
  let v106_r0 : BitVec 32 := Scalar.addi v105_r0 c0_i32_112_r0
  let c31_i32_127_r0 : BitVec 32 := 31#32
  let v125_r0 : BitVec 32 := Scalar.minsi v106_r0 c31_i32_127_r0
  let v126_r0 : BitVec 1 := Scalar.cmpi .ne v124_r0 v125_r0
  let c0_i32_55_r0 : BitVec 32 := 0#32
  let c1_i32_57_r0 : BitVec 32 := 1#32
  let arg38_r0 : BitVec 32 := Scf.iv c0_i32_55_r0 c1_i32_57_r0 k0_t1
  let c32_i32_128_r0 : BitVec 32 := 32#32
  let v127_r0 : BitVec 1 := Scalar.cmpi .sge arg38_r0 c32_i32_128_r0
  let true_129_r0 : BitVec 1 := 1#1
  let v128_r0 : BitVec 1 := Scalar.xori v127_r0 true_129_r0
  let v129_r0 : BitVec 1 := Scalar.andi v126_r0 v128_r0
  let true_130_r0 : BitVec 1 := 1#1
  let v130_r0 : BitVec 1 := Scalar.andi v129_r0 true_130_r0
  let v131_r0 : BitVec 32 := Scalar.extui v130_r0
  let c0_i32_131_r0 : BitVec 32 := 0#32
  let v132_r0 : BitVec 1 := Scalar.cmpi .ne v131_r0 c0_i32_131_r0
  v132_r0

def k0_off12 (arg41_r0 : BitVec 32) : Fin 3 → Nat :=
  let c2_i32_227_r0 : BitVec 32 := 2#32
  let v318_r0 : BitVec 32 := Scalar.remui arg41_r0 c2_i32_227_r0
  let c0_i32_230_r0 : BitVec 32 := 0#32
  let c0_i32_231_r0 : BitVec 32 := 0#32
  ![v318_r0.toNat, 0, 0]
def k0_off13 (arg51_r0 : BitVec 32) : Fin 2 → Nat :=
  let c32_i32_229_r0 : BitVec 32 := 32#32
  let true_109_r0 : BitVec 1 := 1#1
  let c1_i32_108_r0 : BitVec 32 := 1#32
  let v102_r0 : BitVec 32 := Scalar.addi arg51_r0 c1_i32_108_r0
  let v103_r0 : BitVec 32 := Scalar.select true_109_r0 v102_r0 arg51_r0
  let c33_i32_110_r0 : BitVec 32 := 33#32
  let v104_r0 : BitVec 1 := Scalar.cmpi .eq v103_r0 c33_i32_110_r0
  let c0_i32_111_r0 : BitVec 32 := 0#32
  let v105_r0 : BitVec 32 := Scalar.select v104_r0 c0_i32_111_r0 v103_r0
  let c0_i32_112_r0 : BitVec 32 := 0#32
  let v106_r0 : BitVec 32 := Scalar.addi v105_r0 c0_i32_112_r0
  let c31_i32_228_r0 : BitVec 32 := 31#32
  let v319_r0 : BitVec 32 := Scalar.minsi v106_r0 c31_i32_228_r0
  let v320_r0 : BitVec 32 := Scalar.muli c32_i32_229_r0 v319_r0
  let c0_i32_232_r0 : BitVec 32 := 0#32
  ![v320_r0.toNat, 0]
def k0_off14 (arg43_r0 : BitVec 32) : Fin 1 → Nat :=
  let c2_i32_227_r0 : BitVec 32 := 2#32
  let v318_r0 : BitVec 32 := Scalar.remui arg43_r0 c2_i32_227_r0
  ![v318_r0.toNat]
def k0_cond3 (k0_t1 : Fin k0_t1_loop.trips) (arg51_r0 : BitVec 32) : BitVec 1 :=
  let c0_i32_102_r0 : BitVec 32 := 0#32
  let v96_r0 : BitVec 32 := Scalar.addi arg51_r0 c0_i32_102_r0
  let c31_i32_134_r0 : BitVec 32 := 31#32
  let v136_r0 : BitVec 32 := Scalar.minsi v96_r0 c31_i32_134_r0
  let true_109_r0 : BitVec 1 := 1#1
  let c1_i32_108_r0 : BitVec 32 := 1#32
  let v102_r0 : BitVec 32 := Scalar.addi arg51_r0 c1_i32_108_r0
  let v103_r0 : BitVec 32 := Scalar.select true_109_r0 v102_r0 arg51_r0
  let c33_i32_110_r0 : BitVec 32 := 33#32
  let v104_r0 : BitVec 1 := Scalar.cmpi .eq v103_r0 c33_i32_110_r0
  let c0_i32_111_r0 : BitVec 32 := 0#32
  let v105_r0 : BitVec 32 := Scalar.select v104_r0 c0_i32_111_r0 v103_r0
  let c0_i32_112_r0 : BitVec 32 := 0#32
  let v106_r0 : BitVec 32 := Scalar.addi v105_r0 c0_i32_112_r0
  let c31_i32_135_r0 : BitVec 32 := 31#32
  let v137_r0 : BitVec 32 := Scalar.minsi v106_r0 c31_i32_135_r0
  let v138_r0 : BitVec 1 := Scalar.cmpi .ne v136_r0 v137_r0
  let c0_i32_55_r0 : BitVec 32 := 0#32
  let c1_i32_57_r0 : BitVec 32 := 1#32
  let arg38_r0 : BitVec 32 := Scf.iv c0_i32_55_r0 c1_i32_57_r0 k0_t1
  let c32_i32_136_r0 : BitVec 32 := 32#32
  let v139_r0 : BitVec 1 := Scalar.cmpi .sge arg38_r0 c32_i32_136_r0
  let true_137_r0 : BitVec 1 := 1#1
  let v140_r0 : BitVec 1 := Scalar.xori v139_r0 true_137_r0
  let v141_r0 : BitVec 1 := Scalar.andi v138_r0 v140_r0
  let true_138_r0 : BitVec 1 := 1#1
  let v142_r0 : BitVec 1 := Scalar.andi v141_r0 true_138_r0
  let v143_r0 : BitVec 32 := Scalar.extui v142_r0
  let c0_i32_139_r0 : BitVec 32 := 0#32
  let v144_r0 : BitVec 1 := Scalar.cmpi .ne v143_r0 c0_i32_139_r0
  v144_r0

def k0_off15 (arg43_r0 : BitVec 32) : Fin 3 → Nat :=
  let c2_i32_227_r0 : BitVec 32 := 2#32
  let v318_r0 : BitVec 32 := Scalar.remui arg43_r0 c2_i32_227_r0
  let c0_i32_230_r0 : BitVec 32 := 0#32
  let c0_i32_231_r0 : BitVec 32 := 0#32
  ![v318_r0.toNat, 0, 0]
def k0_off16 (arg51_r0 : BitVec 32) : Fin 2 → Nat :=
  let c128_i32_229_r0 : BitVec 32 := 128#32
  let true_109_r0 : BitVec 1 := 1#1
  let c1_i32_108_r0 : BitVec 32 := 1#32
  let v102_r0 : BitVec 32 := Scalar.addi arg51_r0 c1_i32_108_r0
  let v103_r0 : BitVec 32 := Scalar.select true_109_r0 v102_r0 arg51_r0
  let c33_i32_110_r0 : BitVec 32 := 33#32
  let v104_r0 : BitVec 1 := Scalar.cmpi .eq v103_r0 c33_i32_110_r0
  let c0_i32_111_r0 : BitVec 32 := 0#32
  let v105_r0 : BitVec 32 := Scalar.select v104_r0 c0_i32_111_r0 v103_r0
  let c0_i32_112_r0 : BitVec 32 := 0#32
  let v106_r0 : BitVec 32 := Scalar.addi v105_r0 c0_i32_112_r0
  let c31_i32_228_r0 : BitVec 32 := 31#32
  let v319_r0 : BitVec 32 := Scalar.minsi v106_r0 c31_i32_228_r0
  let v320_r0 : BitVec 32 := Scalar.muli c128_i32_229_r0 v319_r0
  let c0_i32_232_r0 : BitVec 32 := 0#32
  ![v320_r0.toNat, 0]
def k0_off17 (arg40_r0 : BitVec 32) : Fin 1 → Nat :=
  let c2_i32_229_r0 : BitVec 32 := 2#32
  let v320_r0 : BitVec 32 := Scalar.remui arg40_r0 c2_i32_229_r0
  ![v320_r0.toNat]
def k0_cond4 (k0_t1 : Fin k0_t1_loop.trips) (arg51_r0 : BitVec 32) : BitVec 1 :=
  let c0_i32_102_r0 : BitVec 32 := 0#32
  let v96_r0 : BitVec 32 := Scalar.addi arg51_r0 c0_i32_102_r0
  let c31_i32_118_r0 : BitVec 32 := 31#32
  let v112_r0 : BitVec 32 := Scalar.minsi v96_r0 c31_i32_118_r0
  let true_104_r0 : BitVec 1 := 1#1
  let c1_i32_103_r0 : BitVec 32 := 1#32
  let v97_r0 : BitVec 32 := Scalar.subi arg51_r0 c1_i32_103_r0
  let v98_r0 : BitVec 32 := Scalar.select true_104_r0 v97_r0 arg51_r0
  let c_m1_i32_105_r0 : BitVec 32 := 4294967295#32
  let v99_r0 : BitVec 1 := Scalar.cmpi .eq v98_r0 c_m1_i32_105_r0
  let c32_i32_106_r0 : BitVec 32 := 32#32
  let v100_r0 : BitVec 32 := Scalar.select v99_r0 c32_i32_106_r0 v98_r0
  let c0_i32_107_r0 : BitVec 32 := 0#32
  let v101_r0 : BitVec 32 := Scalar.addi v100_r0 c0_i32_107_r0
  let c31_i32_152_r0 : BitVec 32 := 31#32
  let v164_r0 : BitVec 32 := Scalar.minsi v101_r0 c31_i32_152_r0
  let v165_r0 : BitVec 1 := Scalar.cmpi .ne v112_r0 v164_r0
  let c0_i32_55_r0 : BitVec 32 := 0#32
  let c1_i32_57_r0 : BitVec 32 := 1#32
  let arg38_r0 : BitVec 32 := Scf.iv c0_i32_55_r0 c1_i32_57_r0 k0_t1
  let c0_i32_100_r0 : BitVec 32 := 0#32
  let v94_r0 : BitVec 1 := Scalar.cmpi .eq arg38_r0 c0_i32_100_r0
  let v166_r0 : BitVec 1 := Scalar.ori v165_r0 v94_r0
  let c0_i32_153_r0 : BitVec 32 := 0#32
  let v167_r0 : BitVec 1 := Scalar.cmpi .sge arg38_r0 c0_i32_153_r0
  let v168_r0 : BitVec 1 := Scalar.andi v166_r0 v167_r0
  let v169_r0 : BitVec 32 := Scalar.extui v168_r0
  let c0_i32_154_r0 : BitVec 32 := 0#32
  let v170_r0 : BitVec 1 := Scalar.cmpi .ne v169_r0 c0_i32_154_r0
  v170_r0

def k0_off18 (arg40_r0 : BitVec 32) : Fin 4 → Nat :=
  let c2_i32_229_r0 : BitVec 32 := 2#32
  let v320_r0 : BitVec 32 := Scalar.remui arg40_r0 c2_i32_229_r0
  let c0_i32_230_r0 : BitVec 32 := 0#32
  let c0_i32_231_r0 : BitVec 32 := 0#32
  let c0_i32_232_r0 : BitVec 32 := 0#32
  ![v320_r0.toNat, 0, 0, 0]
def k0_off19 (arg51_r0 : BitVec 32) : Fin 3 → Nat :=
  let c0_i32_233_r0 : BitVec 32 := 0#32
  let c64_i32_228_r0 : BitVec 32 := 64#32
  let c0_i32_102_r0 : BitVec 32 := 0#32
  let v96_r0 : BitVec 32 := Scalar.addi arg51_r0 c0_i32_102_r0
  let c31_i32_227_r0 : BitVec 32 := 31#32
  let v318_r0 : BitVec 32 := Scalar.minsi v96_r0 c31_i32_227_r0
  let v319_r0 : BitVec 32 := Scalar.muli c64_i32_228_r0 v318_r0
  let c0_i32_234_r0 : BitVec 32 := 0#32
  ![0, v319_r0.toNat, 0]
def k0_off20 (arg42_r0 : BitVec 32) : Fin 1 → Nat :=
  let c2_i32_229_r0 : BitVec 32 := 2#32
  let v320_r0 : BitVec 32 := Scalar.remui arg42_r0 c2_i32_229_r0
  ![v320_r0.toNat]
def k0_cond5 (k0_t1 : Fin k0_t1_loop.trips) (arg51_r0 : BitVec 32) : BitVec 1 :=
  let c0_i32_102_r0 : BitVec 32 := 0#32
  let v96_r0 : BitVec 32 := Scalar.addi arg51_r0 c0_i32_102_r0
  let c31_i32_126_r0 : BitVec 32 := 31#32
  let v124_r0 : BitVec 32 := Scalar.minsi v96_r0 c31_i32_126_r0
  let true_104_r0 : BitVec 1 := 1#1
  let c1_i32_103_r0 : BitVec 32 := 1#32
  let v97_r0 : BitVec 32 := Scalar.subi arg51_r0 c1_i32_103_r0
  let v98_r0 : BitVec 32 := Scalar.select true_104_r0 v97_r0 arg51_r0
  let c_m1_i32_105_r0 : BitVec 32 := 4294967295#32
  let v99_r0 : BitVec 1 := Scalar.cmpi .eq v98_r0 c_m1_i32_105_r0
  let c32_i32_106_r0 : BitVec 32 := 32#32
  let v100_r0 : BitVec 32 := Scalar.select v99_r0 c32_i32_106_r0 v98_r0
  let c0_i32_107_r0 : BitVec 32 := 0#32
  let v101_r0 : BitVec 32 := Scalar.addi v100_r0 c0_i32_107_r0
  let c31_i32_155_r0 : BitVec 32 := 31#32
  let v171_r0 : BitVec 32 := Scalar.minsi v101_r0 c31_i32_155_r0
  let v172_r0 : BitVec 1 := Scalar.cmpi .ne v124_r0 v171_r0
  let c0_i32_55_r0 : BitVec 32 := 0#32
  let c1_i32_57_r0 : BitVec 32 := 1#32
  let arg38_r0 : BitVec 32 := Scf.iv c0_i32_55_r0 c1_i32_57_r0 k0_t1
  let c0_i32_100_r0 : BitVec 32 := 0#32
  let v94_r0 : BitVec 1 := Scalar.cmpi .eq arg38_r0 c0_i32_100_r0
  let v173_r0 : BitVec 1 := Scalar.ori v172_r0 v94_r0
  let c0_i32_156_r0 : BitVec 32 := 0#32
  let v174_r0 : BitVec 1 := Scalar.cmpi .sge arg38_r0 c0_i32_156_r0
  let v175_r0 : BitVec 1 := Scalar.andi v173_r0 v174_r0
  let v176_r0 : BitVec 32 := Scalar.extui v175_r0
  let c0_i32_157_r0 : BitVec 32 := 0#32
  let v177_r0 : BitVec 1 := Scalar.cmpi .ne v176_r0 c0_i32_157_r0
  v177_r0

def k0_off21 (arg42_r0 : BitVec 32) : Fin 3 → Nat :=
  let c2_i32_229_r0 : BitVec 32 := 2#32
  let v320_r0 : BitVec 32 := Scalar.remui arg42_r0 c2_i32_229_r0
  let c0_i32_230_r0 : BitVec 32 := 0#32
  let c0_i32_231_r0 : BitVec 32 := 0#32
  ![v320_r0.toNat, 0, 0]
def k0_off22 (arg51_r0 : BitVec 32) : Fin 2 → Nat :=
  let c32_i32_228_r0 : BitVec 32 := 32#32
  let c0_i32_102_r0 : BitVec 32 := 0#32
  let v96_r0 : BitVec 32 := Scalar.addi arg51_r0 c0_i32_102_r0
  let c31_i32_227_r0 : BitVec 32 := 31#32
  let v318_r0 : BitVec 32 := Scalar.minsi v96_r0 c31_i32_227_r0
  let v319_r0 : BitVec 32 := Scalar.muli c32_i32_228_r0 v318_r0
  let c0_i32_232_r0 : BitVec 32 := 0#32
  ![v319_r0.toNat, 0]
def k0_off23 (arg44_r0 : BitVec 32) : Fin 1 → Nat :=
  let c2_i32_229_r0 : BitVec 32 := 2#32
  let v320_r0 : BitVec 32 := Scalar.remui arg44_r0 c2_i32_229_r0
  ![v320_r0.toNat]
def k0_cond6 (k0_t1 : Fin k0_t1_loop.trips) (arg51_r0 : BitVec 32) : BitVec 1 :=
  let c0_i32_102_r0 : BitVec 32 := 0#32
  let v96_r0 : BitVec 32 := Scalar.addi arg51_r0 c0_i32_102_r0
  let c31_i32_134_r0 : BitVec 32 := 31#32
  let v136_r0 : BitVec 32 := Scalar.minsi v96_r0 c31_i32_134_r0
  let true_104_r0 : BitVec 1 := 1#1
  let c1_i32_103_r0 : BitVec 32 := 1#32
  let v97_r0 : BitVec 32 := Scalar.subi arg51_r0 c1_i32_103_r0
  let v98_r0 : BitVec 32 := Scalar.select true_104_r0 v97_r0 arg51_r0
  let c_m1_i32_105_r0 : BitVec 32 := 4294967295#32
  let v99_r0 : BitVec 1 := Scalar.cmpi .eq v98_r0 c_m1_i32_105_r0
  let c32_i32_106_r0 : BitVec 32 := 32#32
  let v100_r0 : BitVec 32 := Scalar.select v99_r0 c32_i32_106_r0 v98_r0
  let c0_i32_107_r0 : BitVec 32 := 0#32
  let v101_r0 : BitVec 32 := Scalar.addi v100_r0 c0_i32_107_r0
  let c31_i32_158_r0 : BitVec 32 := 31#32
  let v178_r0 : BitVec 32 := Scalar.minsi v101_r0 c31_i32_158_r0
  let v179_r0 : BitVec 1 := Scalar.cmpi .ne v136_r0 v178_r0
  let c0_i32_55_r0 : BitVec 32 := 0#32
  let c1_i32_57_r0 : BitVec 32 := 1#32
  let arg38_r0 : BitVec 32 := Scf.iv c0_i32_55_r0 c1_i32_57_r0 k0_t1
  let c0_i32_100_r0 : BitVec 32 := 0#32
  let v94_r0 : BitVec 1 := Scalar.cmpi .eq arg38_r0 c0_i32_100_r0
  let v180_r0 : BitVec 1 := Scalar.ori v179_r0 v94_r0
  let c0_i32_159_r0 : BitVec 32 := 0#32
  let v181_r0 : BitVec 1 := Scalar.cmpi .sge arg38_r0 c0_i32_159_r0
  let v182_r0 : BitVec 1 := Scalar.andi v180_r0 v181_r0
  let v183_r0 : BitVec 32 := Scalar.extui v182_r0
  let c0_i32_160_r0 : BitVec 32 := 0#32
  let v184_r0 : BitVec 1 := Scalar.cmpi .ne v183_r0 c0_i32_160_r0
  v184_r0

def k0_off24 (arg44_r0 : BitVec 32) : Fin 3 → Nat :=
  let c2_i32_229_r0 : BitVec 32 := 2#32
  let v320_r0 : BitVec 32 := Scalar.remui arg44_r0 c2_i32_229_r0
  let c0_i32_230_r0 : BitVec 32 := 0#32
  let c0_i32_231_r0 : BitVec 32 := 0#32
  ![v320_r0.toNat, 0, 0]
def k0_off25 (arg51_r0 : BitVec 32) : Fin 2 → Nat :=
  let c128_i32_228_r0 : BitVec 32 := 128#32
  let c0_i32_102_r0 : BitVec 32 := 0#32
  let v96_r0 : BitVec 32 := Scalar.addi arg51_r0 c0_i32_102_r0
  let c31_i32_227_r0 : BitVec 32 := 31#32
  let v318_r0 : BitVec 32 := Scalar.minsi v96_r0 c31_i32_227_r0
  let v319_r0 : BitVec 32 := Scalar.muli c128_i32_228_r0 v318_r0
  let c0_i32_232_r0 : BitVec 32 := 0#32
  ![v319_r0.toNat, 0]
def k0_off26 (arg40_r0 : BitVec 32) : Fin 4 → Nat :=
  let c2_i32_169_r0 : BitVec 32 := 2#32
  let v205_r0 : BitVec 32 := Scalar.remui arg40_r0 c2_i32_169_r0
  let v337_r0 : Index := Scalar.indexCast v205_r0
  let c0_238_r0 : Index := 0#32
  let c0_239_r0 : Index := 0#32
  let c0_240_r0 : Index := 0#32
  ![v337_r0.toNat, 0, 0, 0]
def k0_cond11 (v211_r0 : BitVec 32) : BitVec 1 :=
  let c32_i32_179_r0 : BitVec 32 := 32#32
  let v216_r0 : BitVec 1 := Scalar.cmpi .slt v211_r0 c32_i32_179_r0
  let v217_r0 : BitVec 32 := Scalar.extui v216_r0
  let c0_i32_180_r0 : BitVec 32 := 0#32
  let v218_r0 : BitVec 1 := Scalar.cmpi .ne v217_r0 c0_i32_180_r0
  v218_r0

def k0_off27 (arg45_r0 : BitVec 32) : Fin 4 → Nat :=
  let c2_i32_172_r0 : BitVec 32 := 2#32
  let v208_r0 : BitVec 32 := Scalar.remui arg45_r0 c2_i32_172_r0
  let v3411_r0 : Index := Scalar.indexCast v208_r0
  let c0_2311_r0 : Index := 0#32
  let c0_2312_r0 : Index := 0#32
  let c0_2313_r0 : Index := 0#32
  ![v3411_r0.toNat, 0, 0, 0]
def k0_off28 (arg42_r0 : BitVec 32) : Fin 3 → Nat :=
  let c2_i32_170_r0 : BitVec 32 := 2#32
  let v206_r0 : BitVec 32 := Scalar.remui arg42_r0 c2_i32_170_r0
  let v3419_r0 : Index := Scalar.indexCast v206_r0
  let c0_2318_r0 : Index := 0#32
  let c0_2319_r0 : Index := 0#32
  ![v3419_r0.toNat, 0, 0]
def k0_off29 (arg47_r0 : BitVec 32) : Fin 3 → Nat :=
  let c2_i32_173_r0 : BitVec 32 := 2#32
  let v209_r0 : BitVec 32 := Scalar.remui arg47_r0 c2_i32_173_r0
  let v3423_r0 : Index := Scalar.indexCast v209_r0
  let c0_2320_r0 : Index := 0#32
  let c0_2321_r0 : Index := 0#32
  ![v3423_r0.toNat, 0, 0]
def k0_off30 (arg44_r0 : BitVec 32) : Fin 3 → Nat :=
  let c2_i32_171_r0 : BitVec 32 := 2#32
  let v207_r0 : BitVec 32 := Scalar.remui arg44_r0 c2_i32_171_r0
  let v3427_r0 : Index := Scalar.indexCast v207_r0
  let c0_2322_r0 : Index := 0#32
  let c0_2323_r0 : Index := 0#32
  ![v3427_r0.toNat, 0, 0]
def k0_off31 (arg49_r0 : BitVec 32) : Fin 3 → Nat :=
  let c2_i32_174_r0 : BitVec 32 := 2#32
  let v210_r0 : BitVec 32 := Scalar.remui arg49_r0 c2_i32_174_r0
  let v3431_r0 : Index := Scalar.indexCast v210_r0
  let c0_2324_r0 : Index := 0#32
  let c0_2325_r0 : Index := 0#32
  ![v3431_r0.toNat, 0, 0]
def k0_off32 (arg45_r0 : BitVec 32) : Fin 4 → Nat :=
  let c2_i32_172_r0 : BitVec 32 := 2#32
  let v208_r0 : BitVec 32 := Scalar.remui arg45_r0 c2_i32_172_r0
  let v438_r0 : Index := Scalar.indexCast v208_r0
  let c0_299_r0 : Index := 0#32
  let c0_300_r0 : Index := 0#32
  let c0_301_r0 : Index := 0#32
  ![v438_r0.toNat, 0, 0, 0]
def k0_cond12 (v211_r0 : BitVec 32) : BitVec 1 :=
  let c32_i32_181_r0 : BitVec 32 := 32#32
  let v219_r0 : BitVec 1 := Scalar.cmpi .eq v211_r0 c32_i32_181_r0
  let v220_r0 : BitVec 32 := Scalar.extui v219_r0
  let c0_i32_182_r0 : BitVec 32 := 0#32
  let v221_r0 : BitVec 1 := Scalar.cmpi .ne v220_r0 c0_i32_182_r0
  v221_r0

def k0_chk2 (arg40_r0 : BitVec 32) (arg42_r0 : BitVec 32) (arg44_r0 : BitVec 32) (arg45_r0 : BitVec 32) (arg47_r0 : BitVec 32) (arg49_r0 : BitVec 32) (v211_r0 : BitVec 32) : Prop :=
  (∀ (k0_h11 : k0_cond11 v211_r0 = 1#1), ∀ a, (k0_off26 arg40_r0) a + S1x8x64x1024.size a ≤ S2x8x64x1024.size a) ∧
  (∀ (k0_h11 : k0_cond11 v211_r0 = 1#1), ∀ a, (k0_off27 arg45_r0) a + S1x64x8x1024.size a ≤ S2x64x8x1024.size a) ∧
  (∀ (k0_h11 : k0_cond11 v211_r0 = 1#1), ∀ a, (k0_off28 arg42_r0) a + S1x32x4096.size a ≤ S2x32x4096.size a) ∧
  (∀ (k0_h11 : k0_cond11 v211_r0 = 1#1), ∀ a, (k0_off29 arg47_r0) a + S1x32x4096.size a ≤ S2x32x4096.size a) ∧
  (∀ (k0_h11 : k0_cond11 v211_r0 = 1#1), ∀ (hinb : ∀ a, (k0_off29 arg47_r0) a + S1x32x4096.size a ≤ S2x32x4096.size a), (Rect.unit (s := S2x32x4096) (k0_off29 arg47_r0) S1x32x4096.size hinb).PackedRows (EltTy.packing .bf16)) ∧
  (∀ (k0_h11 : k0_cond11 v211_r0 = 1#1), ∀ a, (k0_off30 arg44_r0) a + S1x128x1024.size a ≤ S2x128x1024.size a) ∧
  (∀ (k0_h11 : k0_cond11 v211_r0 = 1#1), ∀ a, (k0_off31 arg49_r0) a + S1x128x1024.size a ≤ S2x128x1024.size a) ∧
  (∀ (k0_h11 : k0_cond11 v211_r0 = 1#1), ∀ (hinb : ∀ a, (k0_off31 arg49_r0) a + S1x128x1024.size a ≤ S2x128x1024.size a), (Rect.unit (s := S2x128x1024) (k0_off31 arg49_r0) S1x128x1024.size hinb).PackedRows (EltTy.packing .bf16)) ∧
  (∀ (k0_h12 : k0_cond12 v211_r0 = 1#1), ∀ a, (k0_off32 arg45_r0) a + S1x64x8x1024.size a ≤ S2x64x8x1024.size a)
theorem k0_off26_inb : ∀ (arg40_r0 : BitVec 32) (arg42_r0 : BitVec 32) (arg44_r0 : BitVec 32) (arg45_r0 : BitVec 32) (arg47_r0 : BitVec 32) (arg49_r0 : BitVec 32) (v211_r0 : BitVec 32) (k0_hw2 : k0_chk2 arg40_r0 arg42_r0 arg44_r0 arg45_r0 arg47_r0 arg49_r0 v211_r0), ∀ (k0_h11 : k0_cond11 v211_r0 = 1#1), ∀ a, (k0_off26 arg40_r0) a + S1x8x64x1024.size a ≤ S2x8x64x1024.size a := fun arg40_r0 arg42_r0 arg44_r0 arg45_r0 arg47_r0 arg49_r0 v211_r0 k0_hw2 k0_h11 => k0_hw2.1 k0_h11
theorem k0_off27_inb : ∀ (arg40_r0 : BitVec 32) (arg42_r0 : BitVec 32) (arg44_r0 : BitVec 32) (arg45_r0 : BitVec 32) (arg47_r0 : BitVec 32) (arg49_r0 : BitVec 32) (v211_r0 : BitVec 32) (k0_hw2 : k0_chk2 arg40_r0 arg42_r0 arg44_r0 arg45_r0 arg47_r0 arg49_r0 v211_r0), ∀ (k0_h11 : k0_cond11 v211_r0 = 1#1), ∀ a, (k0_off27 arg45_r0) a + S1x64x8x1024.size a ≤ S2x64x8x1024.size a := fun arg40_r0 arg42_r0 arg44_r0 arg45_r0 arg47_r0 arg49_r0 v211_r0 k0_hw2 k0_h11 => k0_hw2.2.1 k0_h11
theorem k0_off28_inb : ∀ (arg40_r0 : BitVec 32) (arg42_r0 : BitVec 32) (arg44_r0 : BitVec 32) (arg45_r0 : BitVec 32) (arg47_r0 : BitVec 32) (arg49_r0 : BitVec 32) (v211_r0 : BitVec 32) (k0_hw2 : k0_chk2 arg40_r0 arg42_r0 arg44_r0 arg45_r0 arg47_r0 arg49_r0 v211_r0), ∀ (k0_h11 : k0_cond11 v211_r0 = 1#1), ∀ a, (k0_off28 arg42_r0) a + S1x32x4096.size a ≤ S2x32x4096.size a := fun arg40_r0 arg42_r0 arg44_r0 arg45_r0 arg47_r0 arg49_r0 v211_r0 k0_hw2 k0_h11 => k0_hw2.2.2.1 k0_h11
theorem k0_off29_inb : ∀ (arg40_r0 : BitVec 32) (arg42_r0 : BitVec 32) (arg44_r0 : BitVec 32) (arg45_r0 : BitVec 32) (arg47_r0 : BitVec 32) (arg49_r0 : BitVec 32) (v211_r0 : BitVec 32) (k0_hw2 : k0_chk2 arg40_r0 arg42_r0 arg44_r0 arg45_r0 arg47_r0 arg49_r0 v211_r0), ∀ (k0_h11 : k0_cond11 v211_r0 = 1#1), ∀ a, (k0_off29 arg47_r0) a + S1x32x4096.size a ≤ S2x32x4096.size a := fun arg40_r0 arg42_r0 arg44_r0 arg45_r0 arg47_r0 arg49_r0 v211_r0 k0_hw2 k0_h11 => k0_hw2.2.2.2.1 k0_h11
theorem k0_off29_packedbf16 : ∀ (arg40_r0 : BitVec 32) (arg42_r0 : BitVec 32) (arg44_r0 : BitVec 32) (arg45_r0 : BitVec 32) (arg47_r0 : BitVec 32) (arg49_r0 : BitVec 32) (v211_r0 : BitVec 32) (k0_hw2 : k0_chk2 arg40_r0 arg42_r0 arg44_r0 arg45_r0 arg47_r0 arg49_r0 v211_r0), ∀ (k0_h11 : k0_cond11 v211_r0 = 1#1), (Rect.unit (s := S2x32x4096) (k0_off29 arg47_r0) S1x32x4096.size (k0_off29_inb arg40_r0 arg42_r0 arg44_r0 arg45_r0 arg47_r0 arg49_r0 v211_r0 k0_hw2 k0_h11)).PackedRows (EltTy.packing .bf16) := fun arg40_r0 arg42_r0 arg44_r0 arg45_r0 arg47_r0 arg49_r0 v211_r0 k0_hw2 k0_h11 => k0_hw2.2.2.2.2.1 k0_h11 (k0_off29_inb arg40_r0 arg42_r0 arg44_r0 arg45_r0 arg47_r0 arg49_r0 v211_r0 k0_hw2 k0_h11)
theorem k0_off30_inb : ∀ (arg40_r0 : BitVec 32) (arg42_r0 : BitVec 32) (arg44_r0 : BitVec 32) (arg45_r0 : BitVec 32) (arg47_r0 : BitVec 32) (arg49_r0 : BitVec 32) (v211_r0 : BitVec 32) (k0_hw2 : k0_chk2 arg40_r0 arg42_r0 arg44_r0 arg45_r0 arg47_r0 arg49_r0 v211_r0), ∀ (k0_h11 : k0_cond11 v211_r0 = 1#1), ∀ a, (k0_off30 arg44_r0) a + S1x128x1024.size a ≤ S2x128x1024.size a := fun arg40_r0 arg42_r0 arg44_r0 arg45_r0 arg47_r0 arg49_r0 v211_r0 k0_hw2 k0_h11 => k0_hw2.2.2.2.2.2.1 k0_h11
theorem k0_off31_inb : ∀ (arg40_r0 : BitVec 32) (arg42_r0 : BitVec 32) (arg44_r0 : BitVec 32) (arg45_r0 : BitVec 32) (arg47_r0 : BitVec 32) (arg49_r0 : BitVec 32) (v211_r0 : BitVec 32) (k0_hw2 : k0_chk2 arg40_r0 arg42_r0 arg44_r0 arg45_r0 arg47_r0 arg49_r0 v211_r0), ∀ (k0_h11 : k0_cond11 v211_r0 = 1#1), ∀ a, (k0_off31 arg49_r0) a + S1x128x1024.size a ≤ S2x128x1024.size a := fun arg40_r0 arg42_r0 arg44_r0 arg45_r0 arg47_r0 arg49_r0 v211_r0 k0_hw2 k0_h11 => k0_hw2.2.2.2.2.2.2.1 k0_h11
theorem k0_off31_packedbf16 : ∀ (arg40_r0 : BitVec 32) (arg42_r0 : BitVec 32) (arg44_r0 : BitVec 32) (arg45_r0 : BitVec 32) (arg47_r0 : BitVec 32) (arg49_r0 : BitVec 32) (v211_r0 : BitVec 32) (k0_hw2 : k0_chk2 arg40_r0 arg42_r0 arg44_r0 arg45_r0 arg47_r0 arg49_r0 v211_r0), ∀ (k0_h11 : k0_cond11 v211_r0 = 1#1), (Rect.unit (s := S2x128x1024) (k0_off31 arg49_r0) S1x128x1024.size (k0_off31_inb arg40_r0 arg42_r0 arg44_r0 arg45_r0 arg47_r0 arg49_r0 v211_r0 k0_hw2 k0_h11)).PackedRows (EltTy.packing .bf16) := fun arg40_r0 arg42_r0 arg44_r0 arg45_r0 arg47_r0 arg49_r0 v211_r0 k0_hw2 k0_h11 => k0_hw2.2.2.2.2.2.2.2.1 k0_h11 (k0_off31_inb arg40_r0 arg42_r0 arg44_r0 arg45_r0 arg47_r0 arg49_r0 v211_r0 k0_hw2 k0_h11)
theorem k0_off32_inb : ∀ (arg40_r0 : BitVec 32) (arg42_r0 : BitVec 32) (arg44_r0 : BitVec 32) (arg45_r0 : BitVec 32) (arg47_r0 : BitVec 32) (arg49_r0 : BitVec 32) (v211_r0 : BitVec 32) (k0_hw2 : k0_chk2 arg40_r0 arg42_r0 arg44_r0 arg45_r0 arg47_r0 arg49_r0 v211_r0), ∀ (k0_h12 : k0_cond12 v211_r0 = 1#1), ∀ a, (k0_off32 arg45_r0) a + S1x64x8x1024.size a ≤ S2x64x8x1024.size a := fun arg40_r0 arg42_r0 arg44_r0 arg45_r0 arg47_r0 arg49_r0 v211_r0 k0_hw2 k0_h12 => k0_hw2.2.2.2.2.2.2.2.2 k0_h12

def k0_off33 (arg45_r0 : BitVec 32) : Fin 1 → Nat :=
  let c2_i32_227_r0 : BitVec 32 := 2#32
  let v318_r0 : BitVec 32 := Scalar.remui arg45_r0 c2_i32_227_r0
  ![v318_r0.toNat]
def k0_cond16 (k0_t1 : Fin k0_t1_loop.trips) (arg51_r0 : BitVec 32) : BitVec 1 :=
  let c0_i32_102_r0 : BitVec 32 := 0#32
  let v96_r0 : BitVec 32 := Scalar.addi arg51_r0 c0_i32_102_r0
  let c1_i32_142_r0 : BitVec 32 := 1#32
  let v148_r0 : BitVec 32 := Scalar.subi v96_r0 c1_i32_142_r0
  let c0_i32_143_r0 : BitVec 32 := 0#32
  let v149_r0 : BitVec 32 := Scalar.maxsi v148_r0 c0_i32_143_r0
  let true_109_r0 : BitVec 1 := 1#1
  let c1_i32_108_r0 : BitVec 32 := 1#32
  let v102_r0 : BitVec 32 := Scalar.addi arg51_r0 c1_i32_108_r0
  let v103_r0 : BitVec 32 := Scalar.select true_109_r0 v102_r0 arg51_r0
  let c33_i32_110_r0 : BitVec 32 := 33#32
  let v104_r0 : BitVec 1 := Scalar.cmpi .eq v103_r0 c33_i32_110_r0
  let c0_i32_111_r0 : BitVec 32 := 0#32
  let v105_r0 : BitVec 32 := Scalar.select v104_r0 c0_i32_111_r0 v103_r0
  let c0_i32_112_r0 : BitVec 32 := 0#32
  let v106_r0 : BitVec 32 := Scalar.addi v105_r0 c0_i32_112_r0
  let c1_i32_144_r0 : BitVec 32 := 1#32
  let v150_r0 : BitVec 32 := Scalar.subi v106_r0 c1_i32_144_r0
  let c0_i32_145_r0 : BitVec 32 := 0#32
  let v151_r0 : BitVec 32 := Scalar.maxsi v150_r0 c0_i32_145_r0
  let v239_r0 : BitVec 1 := Scalar.cmpi .ne v149_r0 v151_r0
  let c0_i32_55_r0 : BitVec 32 := 0#32
  let c1_i32_57_r0 : BitVec 32 := 1#32
  let arg38_r0 : BitVec 32 := Scf.iv c0_i32_55_r0 c1_i32_57_r0 k0_t1
  let c32_i32_101_r0 : BitVec 32 := 32#32
  let v95_r0 : BitVec 1 := Scalar.cmpi .eq arg38_r0 c32_i32_101_r0
  let v240_r0 : BitVec 1 := Scalar.ori v239_r0 v95_r0
  let v241_r0 : BitVec 32 := Scalar.extui v240_r0
  let c0_i32_190_r0 : BitVec 32 := 0#32
  let v242_r0 : BitVec 1 := Scalar.cmpi .ne v241_r0 c0_i32_190_r0
  v242_r0

def k0_off34 (arg51_r0 : BitVec 32) : Fin 3 → Nat :=
  let c64_i32_230_r0 : BitVec 32 := 64#32
  let c0_i32_102_r0 : BitVec 32 := 0#32
  let v96_r0 : BitVec 32 := Scalar.addi arg51_r0 c0_i32_102_r0
  let c1_i32_228_r0 : BitVec 32 := 1#32
  let v319_r0 : BitVec 32 := Scalar.subi v96_r0 c1_i32_228_r0
  let c0_i32_229_r0 : BitVec 32 := 0#32
  let v320_r0 : BitVec 32 := Scalar.maxsi v319_r0 c0_i32_229_r0
  let v321_r0 : BitVec 32 := Scalar.muli c64_i32_230_r0 v320_r0
  let c0_i32_231_r0 : BitVec 32 := 0#32
  let c0_i32_232_r0 : BitVec 32 := 0#32
  ![v321_r0.toNat, 0, 0]
def k0_off35 (arg45_r0 : BitVec 32) : Fin 4 → Nat :=
  let c2_i32_227_r0 : BitVec 32 := 2#32
  let v318_r0 : BitVec 32 := Scalar.remui arg45_r0 c2_i32_227_r0
  let c0_i32_233_r0 : BitVec 32 := 0#32
  let c0_i32_234_r0 : BitVec 32 := 0#32
  let c0_i32_235_r0 : BitVec 32 := 0#32
  ![v318_r0.toNat, 0, 0, 0]
def k0_off36 (arg47_r0 : BitVec 32) : Fin 1 → Nat :=
  let c2_i32_227_r0 : BitVec 32 := 2#32
  let v318_r0 : BitVec 32 := Scalar.remui arg47_r0 c2_i32_227_r0
  ![v318_r0.toNat]
def k0_cond17 (k0_t1 : Fin k0_t1_loop.trips) (arg51_r0 : BitVec 32) : BitVec 1 :=
  let c0_i32_102_r0 : BitVec 32 := 0#32
  let v96_r0 : BitVec 32 := Scalar.addi arg51_r0 c0_i32_102_r0
  let c31_i32_126_r0 : BitVec 32 := 31#32
  let v124_r0 : BitVec 32 := Scalar.minsi v96_r0 c31_i32_126_r0
  let true_109_r0 : BitVec 1 := 1#1
  let c1_i32_108_r0 : BitVec 32 := 1#32
  let v102_r0 : BitVec 32 := Scalar.addi arg51_r0 c1_i32_108_r0
  let v103_r0 : BitVec 32 := Scalar.select true_109_r0 v102_r0 arg51_r0
  let c33_i32_110_r0 : BitVec 32 := 33#32
  let v104_r0 : BitVec 1 := Scalar.cmpi .eq v103_r0 c33_i32_110_r0
  let c0_i32_111_r0 : BitVec 32 := 0#32
  let v105_r0 : BitVec 32 := Scalar.select v104_r0 c0_i32_111_r0 v103_r0
  let c0_i32_112_r0 : BitVec 32 := 0#32
  let v106_r0 : BitVec 32 := Scalar.addi v105_r0 c0_i32_112_r0
  let c31_i32_127_r0 : BitVec 32 := 31#32
  let v125_r0 : BitVec 32 := Scalar.minsi v106_r0 c31_i32_127_r0
  let v246_r0 : BitVec 1 := Scalar.cmpi .ne v124_r0 v125_r0
  let c0_i32_55_r0 : BitVec 32 := 0#32
  let c1_i32_57_r0 : BitVec 32 := 1#32
  let arg38_r0 : BitVec 32 := Scf.iv c0_i32_55_r0 c1_i32_57_r0 k0_t1
  let c32_i32_101_r0 : BitVec 32 := 32#32
  let v95_r0 : BitVec 1 := Scalar.cmpi .eq arg38_r0 c32_i32_101_r0
  let v247_r0 : BitVec 1 := Scalar.ori v246_r0 v95_r0
  let v248_r0 : BitVec 32 := Scalar.extui v247_r0
  let c0_i32_193_r0 : BitVec 32 := 0#32
  let v249_r0 : BitVec 1 := Scalar.cmpi .ne v248_r0 c0_i32_193_r0
  v249_r0

def k0_off37 (arg51_r0 : BitVec 32) : Fin 2 → Nat :=
  let c32_i32_229_r0 : BitVec 32 := 32#32
  let c0_i32_102_r0 : BitVec 32 := 0#32
  let v96_r0 : BitVec 32 := Scalar.addi arg51_r0 c0_i32_102_r0
  let c31_i32_228_r0 : BitVec 32 := 31#32
  let v319_r0 : BitVec 32 := Scalar.minsi v96_r0 c31_i32_228_r0
  let v320_r0 : BitVec 32 := Scalar.muli c32_i32_229_r0 v319_r0
  let c0_i32_230_r0 : BitVec 32 := 0#32
  ![v320_r0.toNat, 0]
def k0_off38 (arg47_r0 : BitVec 32) : Fin 3 → Nat :=
  let c2_i32_227_r0 : BitVec 32 := 2#32
  let v318_r0 : BitVec 32 := Scalar.remui arg47_r0 c2_i32_227_r0
  let c0_i32_231_r0 : BitVec 32 := 0#32
  let c0_i32_232_r0 : BitVec 32 := 0#32
  ![v318_r0.toNat, 0, 0]
def k0_off39 (arg49_r0 : BitVec 32) : Fin 1 → Nat :=
  let c2_i32_227_r0 : BitVec 32 := 2#32
  let v318_r0 : BitVec 32 := Scalar.remui arg49_r0 c2_i32_227_r0
  ![v318_r0.toNat]
def k0_cond18 (k0_t1 : Fin k0_t1_loop.trips) (arg51_r0 : BitVec 32) : BitVec 1 :=
  let c0_i32_102_r0 : BitVec 32 := 0#32
  let v96_r0 : BitVec 32 := Scalar.addi arg51_r0 c0_i32_102_r0
  let c31_i32_134_r0 : BitVec 32 := 31#32
  let v136_r0 : BitVec 32 := Scalar.minsi v96_r0 c31_i32_134_r0
  let true_109_r0 : BitVec 1 := 1#1
  let c1_i32_108_r0 : BitVec 32 := 1#32
  let v102_r0 : BitVec 32 := Scalar.addi arg51_r0 c1_i32_108_r0
  let v103_r0 : BitVec 32 := Scalar.select true_109_r0 v102_r0 arg51_r0
  let c33_i32_110_r0 : BitVec 32 := 33#32
  let v104_r0 : BitVec 1 := Scalar.cmpi .eq v103_r0 c33_i32_110_r0
  let c0_i32_111_r0 : BitVec 32 := 0#32
  let v105_r0 : BitVec 32 := Scalar.select v104_r0 c0_i32_111_r0 v103_r0
  let c0_i32_112_r0 : BitVec 32 := 0#32
  let v106_r0 : BitVec 32 := Scalar.addi v105_r0 c0_i32_112_r0
  let c31_i32_135_r0 : BitVec 32 := 31#32
  let v137_r0 : BitVec 32 := Scalar.minsi v106_r0 c31_i32_135_r0
  let v253_r0 : BitVec 1 := Scalar.cmpi .ne v136_r0 v137_r0
  let c0_i32_55_r0 : BitVec 32 := 0#32
  let c1_i32_57_r0 : BitVec 32 := 1#32
  let arg38_r0 : BitVec 32 := Scf.iv c0_i32_55_r0 c1_i32_57_r0 k0_t1
  let c32_i32_101_r0 : BitVec 32 := 32#32
  let v95_r0 : BitVec 1 := Scalar.cmpi .eq arg38_r0 c32_i32_101_r0
  let v254_r0 : BitVec 1 := Scalar.ori v253_r0 v95_r0
  let v255_r0 : BitVec 32 := Scalar.extui v254_r0
  let c0_i32_196_r0 : BitVec 32 := 0#32
  let v256_r0 : BitVec 1 := Scalar.cmpi .ne v255_r0 c0_i32_196_r0
  v256_r0

def k0_off40 (arg51_r0 : BitVec 32) : Fin 2 → Nat :=
  let c128_i32_229_r0 : BitVec 32 := 128#32
  let c0_i32_102_r0 : BitVec 32 := 0#32
  let v96_r0 : BitVec 32 := Scalar.addi arg51_r0 c0_i32_102_r0
  let c31_i32_228_r0 : BitVec 32 := 31#32
  let v319_r0 : BitVec 32 := Scalar.minsi v96_r0 c31_i32_228_r0
  let v320_r0 : BitVec 32 := Scalar.muli c128_i32_229_r0 v319_r0
  let c0_i32_230_r0 : BitVec 32 := 0#32
  ![v320_r0.toNat, 0]
def k0_off41 (arg49_r0 : BitVec 32) : Fin 3 → Nat :=
  let c2_i32_227_r0 : BitVec 32 := 2#32
  let v318_r0 : BitVec 32 := Scalar.remui arg49_r0 c2_i32_227_r0
  let c0_i32_231_r0 : BitVec 32 := 0#32
  let c0_i32_232_r0 : BitVec 32 := 0#32
  ![v318_r0.toNat, 0, 0]
def k0_off42 (arg46_r0 : BitVec 32) : Fin 1 → Nat :=
  let c2_i32_227_r0 : BitVec 32 := 2#32
  let v318_r0 : BitVec 32 := Scalar.remui arg46_r0 c2_i32_227_r0
  ![v318_r0.toNat]
def k0_cond22 (k0_t1 : Fin k0_t1_loop.trips) (arg51_r0 : BitVec 32) : BitVec 1 :=
  let c0_i32_102_r0 : BitVec 32 := 0#32
  let v96_r0 : BitVec 32 := Scalar.addi arg51_r0 c0_i32_102_r0
  let c1_i32_142_r0 : BitVec 32 := 1#32
  let v148_r0 : BitVec 32 := Scalar.subi v96_r0 c1_i32_142_r0
  let c0_i32_143_r0 : BitVec 32 := 0#32
  let v149_r0 : BitVec 32 := Scalar.maxsi v148_r0 c0_i32_143_r0
  let true_104_r0 : BitVec 1 := 1#1
  let c1_i32_103_r0 : BitVec 32 := 1#32
  let v97_r0 : BitVec 32 := Scalar.subi arg51_r0 c1_i32_103_r0
  let v98_r0 : BitVec 32 := Scalar.select true_104_r0 v97_r0 arg51_r0
  let c_m1_i32_105_r0 : BitVec 32 := 4294967295#32
  let v99_r0 : BitVec 1 := Scalar.cmpi .eq v98_r0 c_m1_i32_105_r0
  let c32_i32_106_r0 : BitVec 32 := 32#32
  let v100_r0 : BitVec 32 := Scalar.select v99_r0 c32_i32_106_r0 v98_r0
  let c0_i32_107_r0 : BitVec 32 := 0#32
  let v101_r0 : BitVec 32 := Scalar.addi v100_r0 c0_i32_107_r0
  let c1_i32_161_r0 : BitVec 32 := 1#32
  let v185_r0 : BitVec 32 := Scalar.subi v101_r0 c1_i32_161_r0
  let c0_i32_162_r0 : BitVec 32 := 0#32
  let v186_r0 : BitVec 32 := Scalar.maxsi v185_r0 c0_i32_162_r0
  let v278_r0 : BitVec 1 := Scalar.cmpi .ne v149_r0 v186_r0
  let c0_i32_55_r0 : BitVec 32 := 0#32
  let c1_i32_57_r0 : BitVec 32 := 1#32
  let arg38_r0 : BitVec 32 := Scf.iv c0_i32_55_r0 c1_i32_57_r0 k0_t1
  let c0_i32_100_r0 : BitVec 32 := 0#32
  let v94_r0 : BitVec 1 := Scalar.cmpi .eq arg38_r0 c0_i32_100_r0
  let true_208_r0 : BitVec 1 := 1#1
  let v279_r0 : BitVec 1 := Scalar.xori v94_r0 true_208_r0
  let v280_r0 : BitVec 1 := Scalar.andi v278_r0 v279_r0
  let v281_r0 : BitVec 32 := Scalar.extui v280_r0
  let c0_i32_209_r0 : BitVec 32 := 0#32
  let v282_r0 : BitVec 1 := Scalar.cmpi .ne v281_r0 c0_i32_209_r0
  v282_r0

def k0_off43 (arg51_r0 : BitVec 32) : Fin 3 → Nat :=
  let c64_i32_230_r0 : BitVec 32 := 64#32
  let true_104_r0 : BitVec 1 := 1#1
  let c1_i32_103_r0 : BitVec 32 := 1#32
  let v97_r0 : BitVec 32 := Scalar.subi arg51_r0 c1_i32_103_r0
  let v98_r0 : BitVec 32 := Scalar.select true_104_r0 v97_r0 arg51_r0
  let c_m1_i32_105_r0 : BitVec 32 := 4294967295#32
  let v99_r0 : BitVec 1 := Scalar.cmpi .eq v98_r0 c_m1_i32_105_r0
  let c32_i32_106_r0 : BitVec 32 := 32#32
  let v100_r0 : BitVec 32 := Scalar.select v99_r0 c32_i32_106_r0 v98_r0
  let c0_i32_107_r0 : BitVec 32 := 0#32
  let v101_r0 : BitVec 32 := Scalar.addi v100_r0 c0_i32_107_r0
  let c1_i32_228_r0 : BitVec 32 := 1#32
  let v319_r0 : BitVec 32 := Scalar.subi v101_r0 c1_i32_228_r0
  let c0_i32_229_r0 : BitVec 32 := 0#32
  let v320_r0 : BitVec 32 := Scalar.maxsi v319_r0 c0_i32_229_r0
  let v321_r0 : BitVec 32 := Scalar.muli c64_i32_230_r0 v320_r0
  let c0_i32_231_r0 : BitVec 32 := 0#32
  let c0_i32_232_r0 : BitVec 32 := 0#32
  ![v321_r0.toNat, 0, 0]
def k0_off44 (arg46_r0 : BitVec 32) : Fin 4 → Nat :=
  let c2_i32_227_r0 : BitVec 32 := 2#32
  let v318_r0 : BitVec 32 := Scalar.remui arg46_r0 c2_i32_227_r0
  let c0_i32_233_r0 : BitVec 32 := 0#32
  let c0_i32_234_r0 : BitVec 32 := 0#32
  let c0_i32_235_r0 : BitVec 32 := 0#32
  ![v318_r0.toNat, 0, 0, 0]
def k0_off45 (arg48_r0 : BitVec 32) : Fin 1 → Nat :=
  let c2_i32_227_r0 : BitVec 32 := 2#32
  let v318_r0 : BitVec 32 := Scalar.remui arg48_r0 c2_i32_227_r0
  ![v318_r0.toNat]
def k0_cond23 (k0_t1 : Fin k0_t1_loop.trips) (arg51_r0 : BitVec 32) : BitVec 1 :=
  let c0_i32_102_r0 : BitVec 32 := 0#32
  let v96_r0 : BitVec 32 := Scalar.addi arg51_r0 c0_i32_102_r0
  let c31_i32_126_r0 : BitVec 32 := 31#32
  let v124_r0 : BitVec 32 := Scalar.minsi v96_r0 c31_i32_126_r0
  let true_104_r0 : BitVec 1 := 1#1
  let c1_i32_103_r0 : BitVec 32 := 1#32
  let v97_r0 : BitVec 32 := Scalar.subi arg51_r0 c1_i32_103_r0
  let v98_r0 : BitVec 32 := Scalar.select true_104_r0 v97_r0 arg51_r0
  let c_m1_i32_105_r0 : BitVec 32 := 4294967295#32
  let v99_r0 : BitVec 1 := Scalar.cmpi .eq v98_r0 c_m1_i32_105_r0
  let c32_i32_106_r0 : BitVec 32 := 32#32
  let v100_r0 : BitVec 32 := Scalar.select v99_r0 c32_i32_106_r0 v98_r0
  let c0_i32_107_r0 : BitVec 32 := 0#32
  let v101_r0 : BitVec 32 := Scalar.addi v100_r0 c0_i32_107_r0
  let c31_i32_155_r0 : BitVec 32 := 31#32
  let v171_r0 : BitVec 32 := Scalar.minsi v101_r0 c31_i32_155_r0
  let v286_r0 : BitVec 1 := Scalar.cmpi .ne v124_r0 v171_r0
  let c0_i32_55_r0 : BitVec 32 := 0#32
  let c1_i32_57_r0 : BitVec 32 := 1#32
  let arg38_r0 : BitVec 32 := Scf.iv c0_i32_55_r0 c1_i32_57_r0 k0_t1
  let c0_i32_100_r0 : BitVec 32 := 0#32
  let v94_r0 : BitVec 1 := Scalar.cmpi .eq arg38_r0 c0_i32_100_r0
  let true_212_r0 : BitVec 1 := 1#1
  let v287_r0 : BitVec 1 := Scalar.xori v94_r0 true_212_r0
  let v288_r0 : BitVec 1 := Scalar.andi v286_r0 v287_r0
  let v289_r0 : BitVec 32 := Scalar.extui v288_r0
  let c0_i32_213_r0 : BitVec 32 := 0#32
  let v290_r0 : BitVec 1 := Scalar.cmpi .ne v289_r0 c0_i32_213_r0
  v290_r0

def k0_off46 (arg51_r0 : BitVec 32) : Fin 2 → Nat :=
  let c32_i32_229_r0 : BitVec 32 := 32#32
  let true_104_r0 : BitVec 1 := 1#1
  let c1_i32_103_r0 : BitVec 32 := 1#32
  let v97_r0 : BitVec 32 := Scalar.subi arg51_r0 c1_i32_103_r0
  let v98_r0 : BitVec 32 := Scalar.select true_104_r0 v97_r0 arg51_r0
  let c_m1_i32_105_r0 : BitVec 32 := 4294967295#32
  let v99_r0 : BitVec 1 := Scalar.cmpi .eq v98_r0 c_m1_i32_105_r0
  let c32_i32_106_r0 : BitVec 32 := 32#32
  let v100_r0 : BitVec 32 := Scalar.select v99_r0 c32_i32_106_r0 v98_r0
  let c0_i32_107_r0 : BitVec 32 := 0#32
  let v101_r0 : BitVec 32 := Scalar.addi v100_r0 c0_i32_107_r0
  let c31_i32_228_r0 : BitVec 32 := 31#32
  let v319_r0 : BitVec 32 := Scalar.minsi v101_r0 c31_i32_228_r0
  let v320_r0 : BitVec 32 := Scalar.muli c32_i32_229_r0 v319_r0
  let c0_i32_230_r0 : BitVec 32 := 0#32
  ![v320_r0.toNat, 0]
def k0_off47 (arg48_r0 : BitVec 32) : Fin 3 → Nat :=
  let c2_i32_227_r0 : BitVec 32 := 2#32
  let v318_r0 : BitVec 32 := Scalar.remui arg48_r0 c2_i32_227_r0
  let c0_i32_231_r0 : BitVec 32 := 0#32
  let c0_i32_232_r0 : BitVec 32 := 0#32
  ![v318_r0.toNat, 0, 0]
def k0_off48 (arg50_r0 : BitVec 32) : Fin 1 → Nat :=
  let c2_i32_227_r0 : BitVec 32 := 2#32
  let v318_r0 : BitVec 32 := Scalar.remui arg50_r0 c2_i32_227_r0
  ![v318_r0.toNat]
def k0_cond24 (k0_t1 : Fin k0_t1_loop.trips) (arg51_r0 : BitVec 32) : BitVec 1 :=
  let c0_i32_102_r0 : BitVec 32 := 0#32
  let v96_r0 : BitVec 32 := Scalar.addi arg51_r0 c0_i32_102_r0
  let c31_i32_134_r0 : BitVec 32 := 31#32
  let v136_r0 : BitVec 32 := Scalar.minsi v96_r0 c31_i32_134_r0
  let true_104_r0 : BitVec 1 := 1#1
  let c1_i32_103_r0 : BitVec 32 := 1#32
  let v97_r0 : BitVec 32 := Scalar.subi arg51_r0 c1_i32_103_r0
  let v98_r0 : BitVec 32 := Scalar.select true_104_r0 v97_r0 arg51_r0
  let c_m1_i32_105_r0 : BitVec 32 := 4294967295#32
  let v99_r0 : BitVec 1 := Scalar.cmpi .eq v98_r0 c_m1_i32_105_r0
  let c32_i32_106_r0 : BitVec 32 := 32#32
  let v100_r0 : BitVec 32 := Scalar.select v99_r0 c32_i32_106_r0 v98_r0
  let c0_i32_107_r0 : BitVec 32 := 0#32
  let v101_r0 : BitVec 32 := Scalar.addi v100_r0 c0_i32_107_r0
  let c31_i32_158_r0 : BitVec 32 := 31#32
  let v178_r0 : BitVec 32 := Scalar.minsi v101_r0 c31_i32_158_r0
  let v294_r0 : BitVec 1 := Scalar.cmpi .ne v136_r0 v178_r0
  let c0_i32_55_r0 : BitVec 32 := 0#32
  let c1_i32_57_r0 : BitVec 32 := 1#32
  let arg38_r0 : BitVec 32 := Scf.iv c0_i32_55_r0 c1_i32_57_r0 k0_t1
  let c0_i32_100_r0 : BitVec 32 := 0#32
  let v94_r0 : BitVec 1 := Scalar.cmpi .eq arg38_r0 c0_i32_100_r0
  let true_216_r0 : BitVec 1 := 1#1
  let v295_r0 : BitVec 1 := Scalar.xori v94_r0 true_216_r0
  let v296_r0 : BitVec 1 := Scalar.andi v294_r0 v295_r0
  let v297_r0 : BitVec 32 := Scalar.extui v296_r0
  let c0_i32_217_r0 : BitVec 32 := 0#32
  let v298_r0 : BitVec 1 := Scalar.cmpi .ne v297_r0 c0_i32_217_r0
  v298_r0

def k0_off49 (arg51_r0 : BitVec 32) : Fin 2 → Nat :=
  let c128_i32_229_r0 : BitVec 32 := 128#32
  let true_104_r0 : BitVec 1 := 1#1
  let c1_i32_103_r0 : BitVec 32 := 1#32
  let v97_r0 : BitVec 32 := Scalar.subi arg51_r0 c1_i32_103_r0
  let v98_r0 : BitVec 32 := Scalar.select true_104_r0 v97_r0 arg51_r0
  let c_m1_i32_105_r0 : BitVec 32 := 4294967295#32
  let v99_r0 : BitVec 1 := Scalar.cmpi .eq v98_r0 c_m1_i32_105_r0
  let c32_i32_106_r0 : BitVec 32 := 32#32
  let v100_r0 : BitVec 32 := Scalar.select v99_r0 c32_i32_106_r0 v98_r0
  let c0_i32_107_r0 : BitVec 32 := 0#32
  let v101_r0 : BitVec 32 := Scalar.addi v100_r0 c0_i32_107_r0
  let c31_i32_228_r0 : BitVec 32 := 31#32
  let v319_r0 : BitVec 32 := Scalar.minsi v101_r0 c31_i32_228_r0
  let v320_r0 : BitVec 32 := Scalar.muli c128_i32_229_r0 v319_r0
  let c0_i32_230_r0 : BitVec 32 := 0#32
  ![v320_r0.toNat, 0]
def k0_off50 (arg50_r0 : BitVec 32) : Fin 3 → Nat :=
  let c2_i32_227_r0 : BitVec 32 := 2#32
  let v318_r0 : BitVec 32 := Scalar.remui arg50_r0 c2_i32_227_r0
  let c0_i32_231_r0 : BitVec 32 := 0#32
  let c0_i32_232_r0 : BitVec 32 := 0#32
  ![v318_r0.toNat, 0, 0]

def k0_chk1_0 (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) : Prop :=
  (∀ (k0_h1 : k0_cond1 k0_t1 arg51_r0 = 1#1), ∀ a, (k0_off8 arg39_r0) a + S1.size a ≤ S2.size a) ∧
  (∀ (k0_h1 : k0_cond1 k0_t1 arg51_r0 = 1#1), ∀ a, (k0_off9 arg39_r0) a + S1x8x64x1024.size a ≤ S2x8x64x1024.size a) ∧
  (∀ (k0_h1 : k0_cond1 k0_t1 arg51_r0 = 1#1), ∀ a, (k0_off10 arg51_r0) a + S8x64x1024.size a ≤ S8x2048x1024.size a) ∧
  (∀ (k0_h2 : k0_cond2 k0_t1 arg51_r0 = 1#1), ∀ a, (k0_off11 arg41_r0) a + S1.size a ≤ S2.size a) ∧
  (∀ (k0_h2 : k0_cond2 k0_t1 arg51_r0 = 1#1), ∀ a, (k0_off12 arg41_r0) a + S1x32x4096.size a ≤ S2x32x4096.size a) ∧
  (∀ (k0_h2 : k0_cond2 k0_t1 arg51_r0 = 1#1), ∀ a, (k0_off13 arg51_r0) a + S32x4096.size a ≤ S1024x4096.size a) ∧
  (∀ (k0_h3 : k0_cond3 k0_t1 arg51_r0 = 1#1), ∀ a, (k0_off14 arg43_r0) a + S1.size a ≤ S2.size a) ∧
  (∀ (k0_h3 : k0_cond3 k0_t1 arg51_r0 = 1#1), ∀ a, (k0_off15 arg43_r0) a + S1x128x1024.size a ≤ S2x128x1024.size a) ∧
  (∀ (k0_h3 : k0_cond3 k0_t1 arg51_r0 = 1#1), ∀ a, (k0_off16 arg51_r0) a + S128x1024.size a ≤ S4096x1024.size a) ∧
  (∀ (k0_h4 : k0_cond4 k0_t1 arg51_r0 = 1#1), ∀ a, (k0_off17 arg40_r0) a + S1.size a ≤ S2.size a) ∧
  (∀ (k0_h4 : k0_cond4 k0_t1 arg51_r0 = 1#1), ∀ a, (k0_off18 arg40_r0) a + S1x8x64x1024.size a ≤ S2x8x64x1024.size a) ∧
  (∀ (k0_h4 : k0_cond4 k0_t1 arg51_r0 = 1#1), ∀ a, (k0_off19 arg51_r0) a + S8x64x1024.size a ≤ S8x2048x1024.size a) ∧
  (∀ (k0_h5 : k0_cond5 k0_t1 arg51_r0 = 1#1), ∀ a, (k0_off20 arg42_r0) a + S1.size a ≤ S2.size a) ∧
  (∀ (k0_h5 : k0_cond5 k0_t1 arg51_r0 = 1#1), ∀ a, (k0_off21 arg42_r0) a + S1x32x4096.size a ≤ S2x32x4096.size a) ∧
  (∀ (k0_h5 : k0_cond5 k0_t1 arg51_r0 = 1#1), ∀ a, (k0_off22 arg51_r0) a + S32x4096.size a ≤ S1024x4096.size a) ∧
  (∀ (k0_h6 : k0_cond6 k0_t1 arg51_r0 = 1#1), ∀ a, (k0_off23 arg44_r0) a + S1.size a ≤ S2.size a) ∧
  (∀ (k0_h6 : k0_cond6 k0_t1 arg51_r0 = 1#1), ∀ a, (k0_off24 arg44_r0) a + S1x128x1024.size a ≤ S2x128x1024.size a) ∧
  (∀ (k0_h6 : k0_cond6 k0_t1 arg51_r0 = 1#1), ∀ a, (k0_off25 arg51_r0) a + S128x1024.size a ≤ S4096x1024.size a) ∧
  (∀ (k0_h16 : k0_cond16 k0_t1 arg51_r0 = 1#1), ∀ a, (k0_off33 arg45_r0) a + S1.size a ≤ S2.size a) ∧
  (∀ (k0_h16 : k0_cond16 k0_t1 arg51_r0 = 1#1), ∀ a, (k0_off34 arg51_r0) a + S64x8x1024.size a ≤ S2048x8x1024.size a) ∧
  (∀ (k0_h16 : k0_cond16 k0_t1 arg51_r0 = 1#1), ∀ a, (k0_off35 arg45_r0) a + S1x64x8x1024.size a ≤ S2x64x8x1024.size a) ∧
  (∀ (k0_h17 : k0_cond17 k0_t1 arg51_r0 = 1#1), ∀ a, (k0_off36 arg47_r0) a + S1.size a ≤ S2.size a) ∧
  (∀ (k0_h17 : k0_cond17 k0_t1 arg51_r0 = 1#1), ∀ a, (k0_off37 arg51_r0) a + S32x4096.size a ≤ S1024x4096.size a) ∧
  (∀ (k0_h17 : k0_cond17 k0_t1 arg51_r0 = 1#1), ∀ a, (k0_off38 arg47_r0) a + S1x32x4096.size a ≤ S2x32x4096.size a) ∧
  (∀ (k0_h17 : k0_cond17 k0_t1 arg51_r0 = 1#1), ∀ (hinb : ∀ a, (k0_off38 arg47_r0) a + S1x32x4096.size a ≤ S2x32x4096.size a), (Rect.unit (s := S2x32x4096) (k0_off38 arg47_r0) S1x32x4096.size hinb).WholeWords (EltTy.packing .bf16)) ∧
  (∀ (k0_h17 : k0_cond17 k0_t1 arg51_r0 = 1#1), ∀ (hinb : ∀ a, (k0_off37 arg51_r0) a + S32x4096.size a ≤ S1024x4096.size a), (Rect.unit (s := S1024x4096) (k0_off37 arg51_r0) S32x4096.size hinb).WholeWords (EltTy.packing .bf16)) ∧
  (∀ (k0_h18 : k0_cond18 k0_t1 arg51_r0 = 1#1), ∀ a, (k0_off39 arg49_r0) a + S1.size a ≤ S2.size a) ∧
  (∀ (k0_h18 : k0_cond18 k0_t1 arg51_r0 = 1#1), ∀ a, (k0_off40 arg51_r0) a + S128x1024.size a ≤ S4096x1024.size a) ∧
  (∀ (k0_h18 : k0_cond18 k0_t1 arg51_r0 = 1#1), ∀ a, (k0_off41 arg49_r0) a + S1x128x1024.size a ≤ S2x128x1024.size a) ∧
  (∀ (k0_h18 : k0_cond18 k0_t1 arg51_r0 = 1#1), ∀ (hinb : ∀ a, (k0_off41 arg49_r0) a + S1x128x1024.size a ≤ S2x128x1024.size a), (Rect.unit (s := S2x128x1024) (k0_off41 arg49_r0) S1x128x1024.size hinb).WholeWords (EltTy.packing .bf16)) ∧
  (∀ (k0_h18 : k0_cond18 k0_t1 arg51_r0 = 1#1), ∀ (hinb : ∀ a, (k0_off40 arg51_r0) a + S128x1024.size a ≤ S4096x1024.size a), (Rect.unit (s := S4096x1024) (k0_off40 arg51_r0) S128x1024.size hinb).WholeWords (EltTy.packing .bf16)) ∧
  (∀ (k0_h22 : k0_cond22 k0_t1 arg51_r0 = 1#1), ∀ a, (k0_off42 arg46_r0) a + S1.size a ≤ S2.size a)
def k0_chk1_1 (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) : Prop :=
  (∀ (k0_h22 : k0_cond22 k0_t1 arg51_r0 = 1#1), ∀ a, (k0_off43 arg51_r0) a + S64x8x1024.size a ≤ S2048x8x1024.size a) ∧
  (∀ (k0_h22 : k0_cond22 k0_t1 arg51_r0 = 1#1), ∀ a, (k0_off44 arg46_r0) a + S1x64x8x1024.size a ≤ S2x64x8x1024.size a) ∧
  (∀ (k0_h23 : k0_cond23 k0_t1 arg51_r0 = 1#1), ∀ a, (k0_off45 arg48_r0) a + S1.size a ≤ S2.size a) ∧
  (∀ (k0_h23 : k0_cond23 k0_t1 arg51_r0 = 1#1), ∀ a, (k0_off46 arg51_r0) a + S32x4096.size a ≤ S1024x4096.size a) ∧
  (∀ (k0_h23 : k0_cond23 k0_t1 arg51_r0 = 1#1), ∀ a, (k0_off47 arg48_r0) a + S1x32x4096.size a ≤ S2x32x4096.size a) ∧
  (∀ (k0_h23 : k0_cond23 k0_t1 arg51_r0 = 1#1), ∀ (hinb : ∀ a, (k0_off47 arg48_r0) a + S1x32x4096.size a ≤ S2x32x4096.size a), (Rect.unit (s := S2x32x4096) (k0_off47 arg48_r0) S1x32x4096.size hinb).WholeWords (EltTy.packing .bf16)) ∧
  (∀ (k0_h23 : k0_cond23 k0_t1 arg51_r0 = 1#1), ∀ (hinb : ∀ a, (k0_off46 arg51_r0) a + S32x4096.size a ≤ S1024x4096.size a), (Rect.unit (s := S1024x4096) (k0_off46 arg51_r0) S32x4096.size hinb).WholeWords (EltTy.packing .bf16)) ∧
  (∀ (k0_h24 : k0_cond24 k0_t1 arg51_r0 = 1#1), ∀ a, (k0_off48 arg50_r0) a + S1.size a ≤ S2.size a) ∧
  (∀ (k0_h24 : k0_cond24 k0_t1 arg51_r0 = 1#1), ∀ a, (k0_off49 arg51_r0) a + S128x1024.size a ≤ S4096x1024.size a) ∧
  (∀ (k0_h24 : k0_cond24 k0_t1 arg51_r0 = 1#1), ∀ a, (k0_off50 arg50_r0) a + S1x128x1024.size a ≤ S2x128x1024.size a) ∧
  (∀ (k0_h24 : k0_cond24 k0_t1 arg51_r0 = 1#1), ∀ (hinb : ∀ a, (k0_off50 arg50_r0) a + S1x128x1024.size a ≤ S2x128x1024.size a), (Rect.unit (s := S2x128x1024) (k0_off50 arg50_r0) S1x128x1024.size hinb).WholeWords (EltTy.packing .bf16)) ∧
  (∀ (k0_h24 : k0_cond24 k0_t1 arg51_r0 = 1#1), ∀ (hinb : ∀ a, (k0_off49 arg51_r0) a + S128x1024.size a ≤ S4096x1024.size a), (Rect.unit (s := S4096x1024) (k0_off49 arg51_r0) S128x1024.size hinb).WholeWords (EltTy.packing .bf16))
def k0_chk1 (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) : Prop :=
  k0_chk1_0 k0_t1 arg39_r0 arg40_r0 arg41_r0 arg42_r0 arg43_r0 arg44_r0 arg45_r0 arg46_r0 arg47_r0 arg48_r0 arg49_r0 arg50_r0 arg51_r0 ∧
  k0_chk1_1 k0_t1 arg39_r0 arg40_r0 arg41_r0 arg42_r0 arg43_r0 arg44_r0 arg45_r0 arg46_r0 arg47_r0 arg48_r0 arg49_r0 arg50_r0 arg51_r0
theorem k0_off8_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h1 : k0_cond1 k0_t1 arg51_r0 = 1#1), ∀ a, (k0_off8 arg39_r0) a + S1.size a ≤ S2.size a := fun k0_t1 arg39_r0 arg40_r0 arg41_r0 arg42_r0 arg43_r0 arg44_r0 arg45_r0 arg46_r0 arg47_r0 arg48_r0 arg49_r0 arg50_r0 arg51_r0 k0_hw1 k0_h1 => k0_hw1.1.1 k0_h1
theorem k0_off9_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h1 : k0_cond1 k0_t1 arg51_r0 = 1#1), ∀ a, (k0_off9 arg39_r0) a + S1x8x64x1024.size a ≤ S2x8x64x1024.size a := fun k0_t1 arg39_r0 arg40_r0 arg41_r0 arg42_r0 arg43_r0 arg44_r0 arg45_r0 arg46_r0 arg47_r0 arg48_r0 arg49_r0 arg50_r0 arg51_r0 k0_hw1 k0_h1 => k0_hw1.1.2.1 k0_h1
theorem k0_off10_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h1 : k0_cond1 k0_t1 arg51_r0 = 1#1), ∀ a, (k0_off10 arg51_r0) a + S8x64x1024.size a ≤ S8x2048x1024.size a := fun k0_t1 arg39_r0 arg40_r0 arg41_r0 arg42_r0 arg43_r0 arg44_r0 arg45_r0 arg46_r0 arg47_r0 arg48_r0 arg49_r0 arg50_r0 arg51_r0 k0_hw1 k0_h1 => k0_hw1.1.2.2.1 k0_h1
theorem k0_off11_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h2 : k0_cond2 k0_t1 arg51_r0 = 1#1), ∀ a, (k0_off11 arg41_r0) a + S1.size a ≤ S2.size a := fun k0_t1 arg39_r0 arg40_r0 arg41_r0 arg42_r0 arg43_r0 arg44_r0 arg45_r0 arg46_r0 arg47_r0 arg48_r0 arg49_r0 arg50_r0 arg51_r0 k0_hw1 k0_h2 => k0_hw1.1.2.2.2.1 k0_h2
theorem k0_off12_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h2 : k0_cond2 k0_t1 arg51_r0 = 1#1), ∀ a, (k0_off12 arg41_r0) a + S1x32x4096.size a ≤ S2x32x4096.size a := fun k0_t1 arg39_r0 arg40_r0 arg41_r0 arg42_r0 arg43_r0 arg44_r0 arg45_r0 arg46_r0 arg47_r0 arg48_r0 arg49_r0 arg50_r0 arg51_r0 k0_hw1 k0_h2 => k0_hw1.1.2.2.2.2.1 k0_h2
theorem k0_off13_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h2 : k0_cond2 k0_t1 arg51_r0 = 1#1), ∀ a, (k0_off13 arg51_r0) a + S32x4096.size a ≤ S1024x4096.size a := fun k0_t1 arg39_r0 arg40_r0 arg41_r0 arg42_r0 arg43_r0 arg44_r0 arg45_r0 arg46_r0 arg47_r0 arg48_r0 arg49_r0 arg50_r0 arg51_r0 k0_hw1 k0_h2 => k0_hw1.1.2.2.2.2.2.1 k0_h2
theorem k0_off14_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h3 : k0_cond3 k0_t1 arg51_r0 = 1#1), ∀ a, (k0_off14 arg43_r0) a + S1.size a ≤ S2.size a := fun k0_t1 arg39_r0 arg40_r0 arg41_r0 arg42_r0 arg43_r0 arg44_r0 arg45_r0 arg46_r0 arg47_r0 arg48_r0 arg49_r0 arg50_r0 arg51_r0 k0_hw1 k0_h3 => k0_hw1.1.2.2.2.2.2.2.1 k0_h3
theorem k0_off15_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h3 : k0_cond3 k0_t1 arg51_r0 = 1#1), ∀ a, (k0_off15 arg43_r0) a + S1x128x1024.size a ≤ S2x128x1024.size a := fun k0_t1 arg39_r0 arg40_r0 arg41_r0 arg42_r0 arg43_r0 arg44_r0 arg45_r0 arg46_r0 arg47_r0 arg48_r0 arg49_r0 arg50_r0 arg51_r0 k0_hw1 k0_h3 => k0_hw1.1.2.2.2.2.2.2.2.1 k0_h3
theorem k0_off16_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h3 : k0_cond3 k0_t1 arg51_r0 = 1#1), ∀ a, (k0_off16 arg51_r0) a + S128x1024.size a ≤ S4096x1024.size a := fun k0_t1 arg39_r0 arg40_r0 arg41_r0 arg42_r0 arg43_r0 arg44_r0 arg45_r0 arg46_r0 arg47_r0 arg48_r0 arg49_r0 arg50_r0 arg51_r0 k0_hw1 k0_h3 => k0_hw1.1.2.2.2.2.2.2.2.2.1 k0_h3
theorem k0_off17_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h4 : k0_cond4 k0_t1 arg51_r0 = 1#1), ∀ a, (k0_off17 arg40_r0) a + S1.size a ≤ S2.size a := fun k0_t1 arg39_r0 arg40_r0 arg41_r0 arg42_r0 arg43_r0 arg44_r0 arg45_r0 arg46_r0 arg47_r0 arg48_r0 arg49_r0 arg50_r0 arg51_r0 k0_hw1 k0_h4 => k0_hw1.1.2.2.2.2.2.2.2.2.2.1 k0_h4
theorem k0_off18_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h4 : k0_cond4 k0_t1 arg51_r0 = 1#1), ∀ a, (k0_off18 arg40_r0) a + S1x8x64x1024.size a ≤ S2x8x64x1024.size a := fun k0_t1 arg39_r0 arg40_r0 arg41_r0 arg42_r0 arg43_r0 arg44_r0 arg45_r0 arg46_r0 arg47_r0 arg48_r0 arg49_r0 arg50_r0 arg51_r0 k0_hw1 k0_h4 => k0_hw1.1.2.2.2.2.2.2.2.2.2.2.1 k0_h4
theorem k0_off19_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h4 : k0_cond4 k0_t1 arg51_r0 = 1#1), ∀ a, (k0_off19 arg51_r0) a + S8x64x1024.size a ≤ S8x2048x1024.size a := fun k0_t1 arg39_r0 arg40_r0 arg41_r0 arg42_r0 arg43_r0 arg44_r0 arg45_r0 arg46_r0 arg47_r0 arg48_r0 arg49_r0 arg50_r0 arg51_r0 k0_hw1 k0_h4 => k0_hw1.1.2.2.2.2.2.2.2.2.2.2.2.1 k0_h4
theorem k0_off20_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h5 : k0_cond5 k0_t1 arg51_r0 = 1#1), ∀ a, (k0_off20 arg42_r0) a + S1.size a ≤ S2.size a := fun k0_t1 arg39_r0 arg40_r0 arg41_r0 arg42_r0 arg43_r0 arg44_r0 arg45_r0 arg46_r0 arg47_r0 arg48_r0 arg49_r0 arg50_r0 arg51_r0 k0_hw1 k0_h5 => k0_hw1.1.2.2.2.2.2.2.2.2.2.2.2.2.1 k0_h5
theorem k0_off21_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h5 : k0_cond5 k0_t1 arg51_r0 = 1#1), ∀ a, (k0_off21 arg42_r0) a + S1x32x4096.size a ≤ S2x32x4096.size a := fun k0_t1 arg39_r0 arg40_r0 arg41_r0 arg42_r0 arg43_r0 arg44_r0 arg45_r0 arg46_r0 arg47_r0 arg48_r0 arg49_r0 arg50_r0 arg51_r0 k0_hw1 k0_h5 => k0_hw1.1.2.2.2.2.2.2.2.2.2.2.2.2.2.1 k0_h5
theorem k0_off22_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h5 : k0_cond5 k0_t1 arg51_r0 = 1#1), ∀ a, (k0_off22 arg51_r0) a + S32x4096.size a ≤ S1024x4096.size a := fun k0_t1 arg39_r0 arg40_r0 arg41_r0 arg42_r0 arg43_r0 arg44_r0 arg45_r0 arg46_r0 arg47_r0 arg48_r0 arg49_r0 arg50_r0 arg51_r0 k0_hw1 k0_h5 => k0_hw1.1.2.2.2.2.2.2.2.2.2.2.2.2.2.2.1 k0_h5
theorem k0_off23_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h6 : k0_cond6 k0_t1 arg51_r0 = 1#1), ∀ a, (k0_off23 arg44_r0) a + S1.size a ≤ S2.size a := fun k0_t1 arg39_r0 arg40_r0 arg41_r0 arg42_r0 arg43_r0 arg44_r0 arg45_r0 arg46_r0 arg47_r0 arg48_r0 arg49_r0 arg50_r0 arg51_r0 k0_hw1 k0_h6 => k0_hw1.1.2.2.2.2.2.2.2.2.2.2.2.2.2.2.2.1 k0_h6
theorem k0_off24_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h6 : k0_cond6 k0_t1 arg51_r0 = 1#1), ∀ a, (k0_off24 arg44_r0) a + S1x128x1024.size a ≤ S2x128x1024.size a := fun k0_t1 arg39_r0 arg40_r0 arg41_r0 arg42_r0 arg43_r0 arg44_r0 arg45_r0 arg46_r0 arg47_r0 arg48_r0 arg49_r0 arg50_r0 arg51_r0 k0_hw1 k0_h6 => k0_hw1.1.2.2.2.2.2.2.2.2.2.2.2.2.2.2.2.2.1 k0_h6
theorem k0_off25_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h6 : k0_cond6 k0_t1 arg51_r0 = 1#1), ∀ a, (k0_off25 arg51_r0) a + S128x1024.size a ≤ S4096x1024.size a := fun k0_t1 arg39_r0 arg40_r0 arg41_r0 arg42_r0 arg43_r0 arg44_r0 arg45_r0 arg46_r0 arg47_r0 arg48_r0 arg49_r0 arg50_r0 arg51_r0 k0_hw1 k0_h6 => k0_hw1.1.2.2.2.2.2.2.2.2.2.2.2.2.2.2.2.2.2.1 k0_h6
theorem k0_off33_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h16 : k0_cond16 k0_t1 arg51_r0 = 1#1), ∀ a, (k0_off33 arg45_r0) a + S1.size a ≤ S2.size a := fun k0_t1 arg39_r0 arg40_r0 arg41_r0 arg42_r0 arg43_r0 arg44_r0 arg45_r0 arg46_r0 arg47_r0 arg48_r0 arg49_r0 arg50_r0 arg51_r0 k0_hw1 k0_h16 => k0_hw1.1.2.2.2.2.2.2.2.2.2.2.2.2.2.2.2.2.2.2.1 k0_h16
theorem k0_off34_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h16 : k0_cond16 k0_t1 arg51_r0 = 1#1), ∀ a, (k0_off34 arg51_r0) a + S64x8x1024.size a ≤ S2048x8x1024.size a := fun k0_t1 arg39_r0 arg40_r0 arg41_r0 arg42_r0 arg43_r0 arg44_r0 arg45_r0 arg46_r0 arg47_r0 arg48_r0 arg49_r0 arg50_r0 arg51_r0 k0_hw1 k0_h16 => k0_hw1.1.2.2.2.2.2.2.2.2.2.2.2.2.2.2.2.2.2.2.2.1 k0_h16
theorem k0_off35_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h16 : k0_cond16 k0_t1 arg51_r0 = 1#1), ∀ a, (k0_off35 arg45_r0) a + S1x64x8x1024.size a ≤ S2x64x8x1024.size a := fun k0_t1 arg39_r0 arg40_r0 arg41_r0 arg42_r0 arg43_r0 arg44_r0 arg45_r0 arg46_r0 arg47_r0 arg48_r0 arg49_r0 arg50_r0 arg51_r0 k0_hw1 k0_h16 => k0_hw1.1.2.2.2.2.2.2.2.2.2.2.2.2.2.2.2.2.2.2.2.2.1 k0_h16
theorem k0_off36_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h17 : k0_cond17 k0_t1 arg51_r0 = 1#1), ∀ a, (k0_off36 arg47_r0) a + S1.size a ≤ S2.size a := fun k0_t1 arg39_r0 arg40_r0 arg41_r0 arg42_r0 arg43_r0 arg44_r0 arg45_r0 arg46_r0 arg47_r0 arg48_r0 arg49_r0 arg50_r0 arg51_r0 k0_hw1 k0_h17 => k0_hw1.1.2.2.2.2.2.2.2.2.2.2.2.2.2.2.2.2.2.2.2.2.2.1 k0_h17
theorem k0_off37_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h17 : k0_cond17 k0_t1 arg51_r0 = 1#1), ∀ a, (k0_off37 arg51_r0) a + S32x4096.size a ≤ S1024x4096.size a := fun k0_t1 arg39_r0 arg40_r0 arg41_r0 arg42_r0 arg43_r0 arg44_r0 arg45_r0 arg46_r0 arg47_r0 arg48_r0 arg49_r0 arg50_r0 arg51_r0 k0_hw1 k0_h17 => k0_hw1.1.2.2.2.2.2.2.2.2.2.2.2.2.2.2.2.2.2.2.2.2.2.2.1 k0_h17
theorem k0_off38_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h17 : k0_cond17 k0_t1 arg51_r0 = 1#1), ∀ a, (k0_off38 arg47_r0) a + S1x32x4096.size a ≤ S2x32x4096.size a := fun k0_t1 arg39_r0 arg40_r0 arg41_r0 arg42_r0 arg43_r0 arg44_r0 arg45_r0 arg46_r0 arg47_r0 arg48_r0 arg49_r0 arg50_r0 arg51_r0 k0_hw1 k0_h17 => k0_hw1.1.2.2.2.2.2.2.2.2.2.2.2.2.2.2.2.2.2.2.2.2.2.2.2.1 k0_h17
theorem k0_off38_wordsbf16 : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h17 : k0_cond17 k0_t1 arg51_r0 = 1#1), (Rect.unit (s := S2x32x4096) (k0_off38 arg47_r0) S1x32x4096.size (k0_off38_inb k0_t1 arg39_r0 arg40_r0 arg41_r0 arg42_r0 arg43_r0 arg44_r0 arg45_r0 arg46_r0 arg47_r0 arg48_r0 arg49_r0 arg50_r0 arg51_r0 k0_hw1 k0_h17)).WholeWords (EltTy.packing .bf16) := fun k0_t1 arg39_r0 arg40_r0 arg41_r0 arg42_r0 arg43_r0 arg44_r0 arg45_r0 arg46_r0 arg47_r0 arg48_r0 arg49_r0 arg50_r0 arg51_r0 k0_hw1 k0_h17 => k0_hw1.1.2.2.2.2.2.2.2.2.2.2.2.2.2.2.2.2.2.2.2.2.2.2.2.2.1 k0_h17 (k0_off38_inb k0_t1 arg39_r0 arg40_r0 arg41_r0 arg42_r0 arg43_r0 arg44_r0 arg45_r0 arg46_r0 arg47_r0 arg48_r0 arg49_r0 arg50_r0 arg51_r0 k0_hw1 k0_h17)
theorem k0_off37_wordsbf16 : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h17 : k0_cond17 k0_t1 arg51_r0 = 1#1), (Rect.unit (s := S1024x4096) (k0_off37 arg51_r0) S32x4096.size (k0_off37_inb k0_t1 arg39_r0 arg40_r0 arg41_r0 arg42_r0 arg43_r0 arg44_r0 arg45_r0 arg46_r0 arg47_r0 arg48_r0 arg49_r0 arg50_r0 arg51_r0 k0_hw1 k0_h17)).WholeWords (EltTy.packing .bf16) := fun k0_t1 arg39_r0 arg40_r0 arg41_r0 arg42_r0 arg43_r0 arg44_r0 arg45_r0 arg46_r0 arg47_r0 arg48_r0 arg49_r0 arg50_r0 arg51_r0 k0_hw1 k0_h17 => k0_hw1.1.2.2.2.2.2.2.2.2.2.2.2.2.2.2.2.2.2.2.2.2.2.2.2.2.2.1 k0_h17 (k0_off37_inb k0_t1 arg39_r0 arg40_r0 arg41_r0 arg42_r0 arg43_r0 arg44_r0 arg45_r0 arg46_r0 arg47_r0 arg48_r0 arg49_r0 arg50_r0 arg51_r0 k0_hw1 k0_h17)
theorem k0_off39_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h18 : k0_cond18 k0_t1 arg51_r0 = 1#1), ∀ a, (k0_off39 arg49_r0) a + S1.size a ≤ S2.size a := fun k0_t1 arg39_r0 arg40_r0 arg41_r0 arg42_r0 arg43_r0 arg44_r0 arg45_r0 arg46_r0 arg47_r0 arg48_r0 arg49_r0 arg50_r0 arg51_r0 k0_hw1 k0_h18 => k0_hw1.1.2.2.2.2.2.2.2.2.2.2.2.2.2.2.2.2.2.2.2.2.2.2.2.2.2.2.1 k0_h18
theorem k0_off40_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h18 : k0_cond18 k0_t1 arg51_r0 = 1#1), ∀ a, (k0_off40 arg51_r0) a + S128x1024.size a ≤ S4096x1024.size a := fun k0_t1 arg39_r0 arg40_r0 arg41_r0 arg42_r0 arg43_r0 arg44_r0 arg45_r0 arg46_r0 arg47_r0 arg48_r0 arg49_r0 arg50_r0 arg51_r0 k0_hw1 k0_h18 => k0_hw1.1.2.2.2.2.2.2.2.2.2.2.2.2.2.2.2.2.2.2.2.2.2.2.2.2.2.2.2.1 k0_h18
theorem k0_off41_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h18 : k0_cond18 k0_t1 arg51_r0 = 1#1), ∀ a, (k0_off41 arg49_r0) a + S1x128x1024.size a ≤ S2x128x1024.size a := fun k0_t1 arg39_r0 arg40_r0 arg41_r0 arg42_r0 arg43_r0 arg44_r0 arg45_r0 arg46_r0 arg47_r0 arg48_r0 arg49_r0 arg50_r0 arg51_r0 k0_hw1 k0_h18 => k0_hw1.1.2.2.2.2.2.2.2.2.2.2.2.2.2.2.2.2.2.2.2.2.2.2.2.2.2.2.2.2.1 k0_h18
theorem k0_off41_wordsbf16 : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h18 : k0_cond18 k0_t1 arg51_r0 = 1#1), (Rect.unit (s := S2x128x1024) (k0_off41 arg49_r0) S1x128x1024.size (k0_off41_inb k0_t1 arg39_r0 arg40_r0 arg41_r0 arg42_r0 arg43_r0 arg44_r0 arg45_r0 arg46_r0 arg47_r0 arg48_r0 arg49_r0 arg50_r0 arg51_r0 k0_hw1 k0_h18)).WholeWords (EltTy.packing .bf16) := fun k0_t1 arg39_r0 arg40_r0 arg41_r0 arg42_r0 arg43_r0 arg44_r0 arg45_r0 arg46_r0 arg47_r0 arg48_r0 arg49_r0 arg50_r0 arg51_r0 k0_hw1 k0_h18 => k0_hw1.1.2.2.2.2.2.2.2.2.2.2.2.2.2.2.2.2.2.2.2.2.2.2.2.2.2.2.2.2.2.1 k0_h18 (k0_off41_inb k0_t1 arg39_r0 arg40_r0 arg41_r0 arg42_r0 arg43_r0 arg44_r0 arg45_r0 arg46_r0 arg47_r0 arg48_r0 arg49_r0 arg50_r0 arg51_r0 k0_hw1 k0_h18)
theorem k0_off40_wordsbf16 : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h18 : k0_cond18 k0_t1 arg51_r0 = 1#1), (Rect.unit (s := S4096x1024) (k0_off40 arg51_r0) S128x1024.size (k0_off40_inb k0_t1 arg39_r0 arg40_r0 arg41_r0 arg42_r0 arg43_r0 arg44_r0 arg45_r0 arg46_r0 arg47_r0 arg48_r0 arg49_r0 arg50_r0 arg51_r0 k0_hw1 k0_h18)).WholeWords (EltTy.packing .bf16) := fun k0_t1 arg39_r0 arg40_r0 arg41_r0 arg42_r0 arg43_r0 arg44_r0 arg45_r0 arg46_r0 arg47_r0 arg48_r0 arg49_r0 arg50_r0 arg51_r0 k0_hw1 k0_h18 => k0_hw1.1.2.2.2.2.2.2.2.2.2.2.2.2.2.2.2.2.2.2.2.2.2.2.2.2.2.2.2.2.2.2.1 k0_h18 (k0_off40_inb k0_t1 arg39_r0 arg40_r0 arg41_r0 arg42_r0 arg43_r0 arg44_r0 arg45_r0 arg46_r0 arg47_r0 arg48_r0 arg49_r0 arg50_r0 arg51_r0 k0_hw1 k0_h18)
theorem k0_off42_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h22 : k0_cond22 k0_t1 arg51_r0 = 1#1), ∀ a, (k0_off42 arg46_r0) a + S1.size a ≤ S2.size a := fun k0_t1 arg39_r0 arg40_r0 arg41_r0 arg42_r0 arg43_r0 arg44_r0 arg45_r0 arg46_r0 arg47_r0 arg48_r0 arg49_r0 arg50_r0 arg51_r0 k0_hw1 k0_h22 => k0_hw1.1.2.2.2.2.2.2.2.2.2.2.2.2.2.2.2.2.2.2.2.2.2.2.2.2.2.2.2.2.2.2.2 k0_h22
theorem k0_off43_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h22 : k0_cond22 k0_t1 arg51_r0 = 1#1), ∀ a, (k0_off43 arg51_r0) a + S64x8x1024.size a ≤ S2048x8x1024.size a := fun k0_t1 arg39_r0 arg40_r0 arg41_r0 arg42_r0 arg43_r0 arg44_r0 arg45_r0 arg46_r0 arg47_r0 arg48_r0 arg49_r0 arg50_r0 arg51_r0 k0_hw1 k0_h22 => k0_hw1.2.1 k0_h22
theorem k0_off44_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h22 : k0_cond22 k0_t1 arg51_r0 = 1#1), ∀ a, (k0_off44 arg46_r0) a + S1x64x8x1024.size a ≤ S2x64x8x1024.size a := fun k0_t1 arg39_r0 arg40_r0 arg41_r0 arg42_r0 arg43_r0 arg44_r0 arg45_r0 arg46_r0 arg47_r0 arg48_r0 arg49_r0 arg50_r0 arg51_r0 k0_hw1 k0_h22 => k0_hw1.2.2.1 k0_h22
theorem k0_off45_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h23 : k0_cond23 k0_t1 arg51_r0 = 1#1), ∀ a, (k0_off45 arg48_r0) a + S1.size a ≤ S2.size a := fun k0_t1 arg39_r0 arg40_r0 arg41_r0 arg42_r0 arg43_r0 arg44_r0 arg45_r0 arg46_r0 arg47_r0 arg48_r0 arg49_r0 arg50_r0 arg51_r0 k0_hw1 k0_h23 => k0_hw1.2.2.2.1 k0_h23
theorem k0_off46_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h23 : k0_cond23 k0_t1 arg51_r0 = 1#1), ∀ a, (k0_off46 arg51_r0) a + S32x4096.size a ≤ S1024x4096.size a := fun k0_t1 arg39_r0 arg40_r0 arg41_r0 arg42_r0 arg43_r0 arg44_r0 arg45_r0 arg46_r0 arg47_r0 arg48_r0 arg49_r0 arg50_r0 arg51_r0 k0_hw1 k0_h23 => k0_hw1.2.2.2.2.1 k0_h23
theorem k0_off47_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h23 : k0_cond23 k0_t1 arg51_r0 = 1#1), ∀ a, (k0_off47 arg48_r0) a + S1x32x4096.size a ≤ S2x32x4096.size a := fun k0_t1 arg39_r0 arg40_r0 arg41_r0 arg42_r0 arg43_r0 arg44_r0 arg45_r0 arg46_r0 arg47_r0 arg48_r0 arg49_r0 arg50_r0 arg51_r0 k0_hw1 k0_h23 => k0_hw1.2.2.2.2.2.1 k0_h23
theorem k0_off47_wordsbf16 : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h23 : k0_cond23 k0_t1 arg51_r0 = 1#1), (Rect.unit (s := S2x32x4096) (k0_off47 arg48_r0) S1x32x4096.size (k0_off47_inb k0_t1 arg39_r0 arg40_r0 arg41_r0 arg42_r0 arg43_r0 arg44_r0 arg45_r0 arg46_r0 arg47_r0 arg48_r0 arg49_r0 arg50_r0 arg51_r0 k0_hw1 k0_h23)).WholeWords (EltTy.packing .bf16) := fun k0_t1 arg39_r0 arg40_r0 arg41_r0 arg42_r0 arg43_r0 arg44_r0 arg45_r0 arg46_r0 arg47_r0 arg48_r0 arg49_r0 arg50_r0 arg51_r0 k0_hw1 k0_h23 => k0_hw1.2.2.2.2.2.2.1 k0_h23 (k0_off47_inb k0_t1 arg39_r0 arg40_r0 arg41_r0 arg42_r0 arg43_r0 arg44_r0 arg45_r0 arg46_r0 arg47_r0 arg48_r0 arg49_r0 arg50_r0 arg51_r0 k0_hw1 k0_h23)
theorem k0_off46_wordsbf16 : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h23 : k0_cond23 k0_t1 arg51_r0 = 1#1), (Rect.unit (s := S1024x4096) (k0_off46 arg51_r0) S32x4096.size (k0_off46_inb k0_t1 arg39_r0 arg40_r0 arg41_r0 arg42_r0 arg43_r0 arg44_r0 arg45_r0 arg46_r0 arg47_r0 arg48_r0 arg49_r0 arg50_r0 arg51_r0 k0_hw1 k0_h23)).WholeWords (EltTy.packing .bf16) := fun k0_t1 arg39_r0 arg40_r0 arg41_r0 arg42_r0 arg43_r0 arg44_r0 arg45_r0 arg46_r0 arg47_r0 arg48_r0 arg49_r0 arg50_r0 arg51_r0 k0_hw1 k0_h23 => k0_hw1.2.2.2.2.2.2.2.1 k0_h23 (k0_off46_inb k0_t1 arg39_r0 arg40_r0 arg41_r0 arg42_r0 arg43_r0 arg44_r0 arg45_r0 arg46_r0 arg47_r0 arg48_r0 arg49_r0 arg50_r0 arg51_r0 k0_hw1 k0_h23)
theorem k0_off48_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h24 : k0_cond24 k0_t1 arg51_r0 = 1#1), ∀ a, (k0_off48 arg50_r0) a + S1.size a ≤ S2.size a := fun k0_t1 arg39_r0 arg40_r0 arg41_r0 arg42_r0 arg43_r0 arg44_r0 arg45_r0 arg46_r0 arg47_r0 arg48_r0 arg49_r0 arg50_r0 arg51_r0 k0_hw1 k0_h24 => k0_hw1.2.2.2.2.2.2.2.2.1 k0_h24
theorem k0_off49_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h24 : k0_cond24 k0_t1 arg51_r0 = 1#1), ∀ a, (k0_off49 arg51_r0) a + S128x1024.size a ≤ S4096x1024.size a := fun k0_t1 arg39_r0 arg40_r0 arg41_r0 arg42_r0 arg43_r0 arg44_r0 arg45_r0 arg46_r0 arg47_r0 arg48_r0 arg49_r0 arg50_r0 arg51_r0 k0_hw1 k0_h24 => k0_hw1.2.2.2.2.2.2.2.2.2.1 k0_h24
theorem k0_off50_inb : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h24 : k0_cond24 k0_t1 arg51_r0 = 1#1), ∀ a, (k0_off50 arg50_r0) a + S1x128x1024.size a ≤ S2x128x1024.size a := fun k0_t1 arg39_r0 arg40_r0 arg41_r0 arg42_r0 arg43_r0 arg44_r0 arg45_r0 arg46_r0 arg47_r0 arg48_r0 arg49_r0 arg50_r0 arg51_r0 k0_hw1 k0_h24 => k0_hw1.2.2.2.2.2.2.2.2.2.2.1 k0_h24
theorem k0_off50_wordsbf16 : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h24 : k0_cond24 k0_t1 arg51_r0 = 1#1), (Rect.unit (s := S2x128x1024) (k0_off50 arg50_r0) S1x128x1024.size (k0_off50_inb k0_t1 arg39_r0 arg40_r0 arg41_r0 arg42_r0 arg43_r0 arg44_r0 arg45_r0 arg46_r0 arg47_r0 arg48_r0 arg49_r0 arg50_r0 arg51_r0 k0_hw1 k0_h24)).WholeWords (EltTy.packing .bf16) := fun k0_t1 arg39_r0 arg40_r0 arg41_r0 arg42_r0 arg43_r0 arg44_r0 arg45_r0 arg46_r0 arg47_r0 arg48_r0 arg49_r0 arg50_r0 arg51_r0 k0_hw1 k0_h24 => k0_hw1.2.2.2.2.2.2.2.2.2.2.2.1 k0_h24 (k0_off50_inb k0_t1 arg39_r0 arg40_r0 arg41_r0 arg42_r0 arg43_r0 arg44_r0 arg45_r0 arg46_r0 arg47_r0 arg48_r0 arg49_r0 arg50_r0 arg51_r0 k0_hw1 k0_h24)
theorem k0_off49_wordsbf16 : ∀ (k0_t1 : Fin k0_t1_loop.trips) (arg39_r0 : BitVec 32) (arg40_r0 : BitVec 32) (arg41_r0 : BitVec 32) (arg42_r0 : BitVec 32) (arg43_r0 : BitVec 32) (arg44_r0 : BitVec 32) (arg45_r0 : BitVec 32) (arg46_r0 : BitVec 32) (arg47_r0 : BitVec 32) (arg48_r0 : BitVec 32) (arg49_r0 : BitVec 32) (arg50_r0 : BitVec 32) (arg51_r0 : BitVec 32) (k0_hw1 : k0_chk1 k0_t1 arg39_r0 arg40_r0 arg41_r0 arg42_r0 arg43_r0 arg44_r0 arg45_r0 arg46_r0 arg47_r0 arg48_r0 arg49_r0 arg50_r0 arg51_r0), ∀ (k0_h24 : k0_cond24 k0_t1 arg51_r0 = 1#1), (Rect.unit (s := S4096x1024) (k0_off49 arg51_r0) S128x1024.size (k0_off49_inb k0_t1 arg39_r0 arg40_r0 arg41_r0 arg42_r0 arg43_r0 arg44_r0 arg45_r0 arg46_r0 arg47_r0 arg48_r0 arg49_r0 arg50_r0 arg51_r0 k0_hw1 k0_h24)).WholeWords (EltTy.packing .bf16) := fun k0_t1 arg39_r0 arg40_r0 arg41_r0 arg42_r0 arg43_r0 arg44_r0 arg45_r0 arg46_r0 arg47_r0 arg48_r0 arg49_r0 arg50_r0 arg51_r0 k0_hw1 k0_h24 => k0_hw1.2.2.2.2.2.2.2.2.2.2.2.2 k0_h24 (k0_off49_inb k0_t1 arg39_r0 arg40_r0 arg41_r0 arg42_r0 arg43_r0 arg44_r0 arg45_r0 arg46_r0 arg47_r0 arg48_r0 arg49_r0 arg50_r0 arg51_r0 k0_hw1 k0_h24)

def k0_off51 (v48_7_r0 : BitVec 32) : Fin 1 → Nat :=
  let c2_i32_79_r0 : BitVec 32 := 2#32
  let v69_r0 : BitVec 32 := Scalar.remui v48_7_r0 c2_i32_79_r0
  ![v69_r0.toNat]

def k0_off52 (v48_12_r0 : BitVec 32) : Fin 3 → Nat :=
  let c64_i32_82_r0 : BitVec 32 := 64#32
  let true_60_r0 : BitVec 1 := 1#1
  let c1_i32_59_r0 : BitVec 32 := 1#32
  let v49_r0 : BitVec 32 := Scalar.subi v48_12_r0 c1_i32_59_r0
  let v50_r0 : BitVec 32 := Scalar.select true_60_r0 v49_r0 v48_12_r0
  let c_m1_i32_61_r0 : BitVec 32 := 4294967295#32
  let v51_r0 : BitVec 1 := Scalar.cmpi .eq v50_r0 c_m1_i32_61_r0
  let c32_i32_62_r0 : BitVec 32 := 32#32
  let v52_r0 : BitVec 32 := Scalar.select v51_r0 c32_i32_62_r0 v50_r0
  let c0_i32_63_r0 : BitVec 32 := 0#32
  let v53_r0 : BitVec 32 := Scalar.addi v52_r0 c0_i32_63_r0
  let c1_i32_80_r0 : BitVec 32 := 1#32
  let v70_r0 : BitVec 32 := Scalar.subi v53_r0 c1_i32_80_r0
  let c0_i32_81_r0 : BitVec 32 := 0#32
  let v71_r0 : BitVec 32 := Scalar.maxsi v70_r0 c0_i32_81_r0
  let v72_r0 : BitVec 32 := Scalar.muli c64_i32_82_r0 v71_r0
  let c0_i32_83_r0 : BitVec 32 := 0#32
  let c0_i32_84_r0 : BitVec 32 := 0#32
  ![v72_r0.toNat, 0, 0]

def k0_off53 (v48_7_r0 : BitVec 32) : Fin 4 → Nat :=
  let c2_i32_79_r0 : BitVec 32 := 2#32
  let v69_r0 : BitVec 32 := Scalar.remui v48_7_r0 c2_i32_79_r0
  let c0_i32_85_r0 : BitVec 32 := 0#32
  let c0_i32_86_r0 : BitVec 32 := 0#32
  let c0_i32_87_r0 : BitVec 32 := 0#32
  ![v69_r0.toNat, 0, 0, 0]

def k0_chk3 (v48_7_r0 : BitVec 32) : Prop :=
  (∀ a, (k0_off51 v48_7_r0) a + S1.size a ≤ S2.size a) ∧
  (∀ a, (k0_off53 v48_7_r0) a + S1x64x8x1024.size a ≤ S2x64x8x1024.size a)
theorem k0_off51_inb : ∀ (v48_7_r0 : BitVec 32) (k0_hw3 : k0_chk3 v48_7_r0), ∀ a, (k0_off51 v48_7_r0) a + S1.size a ≤ S2.size a := fun v48_7_r0 k0_hw3 => k0_hw3.1
theorem k0_off53_inb : ∀ (v48_7_r0 : BitVec 32) (k0_hw3 : k0_chk3 v48_7_r0), ∀ a, (k0_off53 v48_7_r0) a + S1x64x8x1024.size a ≤ S2x64x8x1024.size a := fun v48_7_r0 k0_hw3 => k0_hw3.2

def k0_off54 (v48_9_r0 : BitVec 32) : Fin 1 → Nat :=
  let c2_i32_88_r0 : BitVec 32 := 2#32
  let v78_r0 : BitVec 32 := Scalar.remui v48_9_r0 c2_i32_88_r0
  ![v78_r0.toNat]

def k0_off55 (v48_12_r0 : BitVec 32) : Fin 2 → Nat :=
  let c32_i32_90_r0 : BitVec 32 := 32#32
  let true_60_r0 : BitVec 1 := 1#1
  let c1_i32_59_r0 : BitVec 32 := 1#32
  let v49_r0 : BitVec 32 := Scalar.subi v48_12_r0 c1_i32_59_r0
  let v50_r0 : BitVec 32 := Scalar.select true_60_r0 v49_r0 v48_12_r0
  let c_m1_i32_61_r0 : BitVec 32 := 4294967295#32
  let v51_r0 : BitVec 1 := Scalar.cmpi .eq v50_r0 c_m1_i32_61_r0
  let c32_i32_62_r0 : BitVec 32 := 32#32
  let v52_r0 : BitVec 32 := Scalar.select v51_r0 c32_i32_62_r0 v50_r0
  let c0_i32_63_r0 : BitVec 32 := 0#32
  let v53_r0 : BitVec 32 := Scalar.addi v52_r0 c0_i32_63_r0
  let c31_i32_89_r0 : BitVec 32 := 31#32
  let v79_r0 : BitVec 32 := Scalar.minsi v53_r0 c31_i32_89_r0
  let v80_r0 : BitVec 32 := Scalar.muli c32_i32_90_r0 v79_r0
  let c0_i32_91_r0 : BitVec 32 := 0#32
  ![v80_r0.toNat, 0]
def k0_off56 (v48_9_r0 : BitVec 32) : Fin 3 → Nat :=
  let c2_i32_88_r0 : BitVec 32 := 2#32
  let v78_r0 : BitVec 32 := Scalar.remui v48_9_r0 c2_i32_88_r0
  let c0_i32_92_r0 : BitVec 32 := 0#32
  let c0_i32_93_r0 : BitVec 32 := 0#32
  ![v78_r0.toNat, 0, 0]

def k0_chk5 (v48_9_r0 : BitVec 32) : Prop :=
  (∀ a, (k0_off54 v48_9_r0) a + S1.size a ≤ S2.size a) ∧
  (∀ a, (k0_off56 v48_9_r0) a + S1x32x4096.size a ≤ S2x32x4096.size a) ∧
  (∀ (hinb : ∀ a, (k0_off56 v48_9_r0) a + S1x32x4096.size a ≤ S2x32x4096.size a), (Rect.unit (s := S2x32x4096) (k0_off56 v48_9_r0) S1x32x4096.size hinb).WholeWords (EltTy.packing .bf16))
theorem k0_off54_inb : ∀ (v48_9_r0 : BitVec 32) (k0_hw5 : k0_chk5 v48_9_r0), ∀ a, (k0_off54 v48_9_r0) a + S1.size a ≤ S2.size a := fun v48_9_r0 k0_hw5 => k0_hw5.1
theorem k0_off56_inb : ∀ (v48_9_r0 : BitVec 32) (k0_hw5 : k0_chk5 v48_9_r0), ∀ a, (k0_off56 v48_9_r0) a + S1x32x4096.size a ≤ S2x32x4096.size a := fun v48_9_r0 k0_hw5 => k0_hw5.2.1
theorem k0_off56_wordsbf16 : ∀ (v48_9_r0 : BitVec 32) (k0_hw5 : k0_chk5 v48_9_r0), (Rect.unit (s := S2x32x4096) (k0_off56 v48_9_r0) S1x32x4096.size (k0_off56_inb v48_9_r0 k0_hw5)).WholeWords (EltTy.packing .bf16) := fun v48_9_r0 k0_hw5 => k0_hw5.2.2 (k0_off56_inb v48_9_r0 k0_hw5)

def k0_off57 (v48_11_r0 : BitVec 32) : Fin 1 → Nat :=
  let c2_i32_94_r0 : BitVec 32 := 2#32
  let v86_r0 : BitVec 32 := Scalar.remui v48_11_r0 c2_i32_94_r0
  ![v86_r0.toNat]

def k0_off58 (v48_12_r0 : BitVec 32) : Fin 2 → Nat :=
  let c128_i32_96_r0 : BitVec 32 := 128#32
  let true_60_r0 : BitVec 1 := 1#1
  let c1_i32_59_r0 : BitVec 32 := 1#32
  let v49_r0 : BitVec 32 := Scalar.subi v48_12_r0 c1_i32_59_r0
  let v50_r0 : BitVec 32 := Scalar.select true_60_r0 v49_r0 v48_12_r0
  let c_m1_i32_61_r0 : BitVec 32 := 4294967295#32
  let v51_r0 : BitVec 1 := Scalar.cmpi .eq v50_r0 c_m1_i32_61_r0
  let c32_i32_62_r0 : BitVec 32 := 32#32
  let v52_r0 : BitVec 32 := Scalar.select v51_r0 c32_i32_62_r0 v50_r0
  let c0_i32_63_r0 : BitVec 32 := 0#32
  let v53_r0 : BitVec 32 := Scalar.addi v52_r0 c0_i32_63_r0
  let c31_i32_95_r0 : BitVec 32 := 31#32
  let v87_r0 : BitVec 32 := Scalar.minsi v53_r0 c31_i32_95_r0
  let v88_r0 : BitVec 32 := Scalar.muli c128_i32_96_r0 v87_r0
  let c0_i32_97_r0 : BitVec 32 := 0#32
  ![v88_r0.toNat, 0]
def k0_off59 (v48_11_r0 : BitVec 32) : Fin 3 → Nat :=
  let c2_i32_94_r0 : BitVec 32 := 2#32
  let v86_r0 : BitVec 32 := Scalar.remui v48_11_r0 c2_i32_94_r0
  let c0_i32_98_r0 : BitVec 32 := 0#32
  let c0_i32_99_r0 : BitVec 32 := 0#32
  ![v86_r0.toNat, 0, 0]

def k0_chk6 (v48_11_r0 : BitVec 32) : Prop :=
  (∀ a, (k0_off57 v48_11_r0) a + S1.size a ≤ S2.size a) ∧
  (∀ a, (k0_off59 v48_11_r0) a + S1x128x1024.size a ≤ S2x128x1024.size a) ∧
  (∀ (hinb : ∀ a, (k0_off59 v48_11_r0) a + S1x128x1024.size a ≤ S2x128x1024.size a), (Rect.unit (s := S2x128x1024) (k0_off59 v48_11_r0) S1x128x1024.size hinb).WholeWords (EltTy.packing .bf16))
theorem k0_off57_inb : ∀ (v48_11_r0 : BitVec 32) (k0_hw6 : k0_chk6 v48_11_r0), ∀ a, (k0_off57 v48_11_r0) a + S1.size a ≤ S2.size a := fun v48_11_r0 k0_hw6 => k0_hw6.1
theorem k0_off59_inb : ∀ (v48_11_r0 : BitVec 32) (k0_hw6 : k0_chk6 v48_11_r0), ∀ a, (k0_off59 v48_11_r0) a + S1x128x1024.size a ≤ S2x128x1024.size a := fun v48_11_r0 k0_hw6 => k0_hw6.2.1
theorem k0_off59_wordsbf16 : ∀ (v48_11_r0 : BitVec 32) (k0_hw6 : k0_chk6 v48_11_r0), (Rect.unit (s := S2x128x1024) (k0_off59 v48_11_r0) S1x128x1024.size (k0_off59_inb v48_11_r0 k0_hw6)).WholeWords (EltTy.packing .bf16) := fun v48_11_r0 k0_hw6 => k0_hw6.2.2 (k0_off59_inb v48_11_r0 k0_hw6)

def k0_chk4 (v48_12_r0 : BitVec 32) : Prop :=
  (∀ a, (k0_off52 v48_12_r0) a + S64x8x1024.size a ≤ S2048x8x1024.size a) ∧
  (∀ a, (k0_off55 v48_12_r0) a + S32x4096.size a ≤ S1024x4096.size a) ∧
  (∀ (hinb : ∀ a, (k0_off55 v48_12_r0) a + S32x4096.size a ≤ S1024x4096.size a), (Rect.unit (s := S1024x4096) (k0_off55 v48_12_r0) S32x4096.size hinb).WholeWords (EltTy.packing .bf16)) ∧
  (∀ a, (k0_off58 v48_12_r0) a + S128x1024.size a ≤ S4096x1024.size a) ∧
  (∀ (hinb : ∀ a, (k0_off58 v48_12_r0) a + S128x1024.size a ≤ S4096x1024.size a), (Rect.unit (s := S4096x1024) (k0_off58 v48_12_r0) S128x1024.size hinb).WholeWords (EltTy.packing .bf16))
theorem k0_off52_inb : ∀ (v48_12_r0 : BitVec 32) (k0_hw4 : k0_chk4 v48_12_r0), ∀ a, (k0_off52 v48_12_r0) a + S64x8x1024.size a ≤ S2048x8x1024.size a := fun v48_12_r0 k0_hw4 => k0_hw4.1
theorem k0_off55_inb : ∀ (v48_12_r0 : BitVec 32) (k0_hw4 : k0_chk4 v48_12_r0), ∀ a, (k0_off55 v48_12_r0) a + S32x4096.size a ≤ S1024x4096.size a := fun v48_12_r0 k0_hw4 => k0_hw4.2.1
theorem k0_off55_wordsbf16 : ∀ (v48_12_r0 : BitVec 32) (k0_hw4 : k0_chk4 v48_12_r0), (Rect.unit (s := S1024x4096) (k0_off55 v48_12_r0) S32x4096.size (k0_off55_inb v48_12_r0 k0_hw4)).WholeWords (EltTy.packing .bf16) := fun v48_12_r0 k0_hw4 => k0_hw4.2.2.1 (k0_off55_inb v48_12_r0 k0_hw4)
theorem k0_off58_inb : ∀ (v48_12_r0 : BitVec 32) (k0_hw4 : k0_chk4 v48_12_r0), ∀ a, (k0_off58 v48_12_r0) a + S128x1024.size a ≤ S4096x1024.size a := fun v48_12_r0 k0_hw4 => k0_hw4.2.2.2.1
theorem k0_off58_wordsbf16 : ∀ (v48_12_r0 : BitVec 32) (k0_hw4 : k0_chk4 v48_12_r0), (Rect.unit (s := S4096x1024) (k0_off58 v48_12_r0) S128x1024.size (k0_off58_inb v48_12_r0 k0_hw4)).WholeWords (EltTy.packing .bf16) := fun v48_12_r0 k0_hw4 => k0_hw4.2.2.2.2 (k0_off58_inb v48_12_r0 k0_hw4)

abbrev stage0_0 : Fin 1 → Memref sig .tc .vmem S8x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S24x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Mlp.lean ====
abbrev S2048x8x1024 : Shape := ⟨3, ![2048, 8, 1024]⟩
abbrev S8x6144 : Shape := ⟨2, ![8, 6144]⟩
abbrev S1024x4096 : Shape := ⟨2, ![1024, 4096]⟩
abbrev S1x4096 : Shape := ⟨2, ![1, 4096]⟩
abbrev S4096x1024 : Shape := ⟨2, ![4096, 1024]⟩
abbrev S5x1024 : Shape := ⟨2, ![5, 1024]⟩
abbrev S4x128x1024 : Shape := ⟨3, ![4, 128, 1024]⟩
abbrev S128x6144 : Shape := ⟨2, ![128, 6144]⟩
abbrev S8x2048x1024 : Shape := ⟨3, ![8, 2048, 1024]⟩
abbrev S128x4x1024 : Shape := ⟨3, ![128, 4, 1024]⟩
abbrev S128x8x1024 : Shape := ⟨3, ![128, 8, 1024]⟩
abbrev S128x3072 : Shape := ⟨2, ![128, 3072]⟩
abbrev S8x128x1024 : Shape := ⟨3, ![8, 128, 1024]⟩
abbrev S1024x1024 : Shape := ⟨2, ![1024, 1024]⟩
abbrev S1x1024 : Shape := ⟨2, ![1, 1024]⟩
abbrev S1x1x1024 : Shape := ⟨3, ![1, 1, 1024]⟩
abbrev S128x8 : Shape := ⟨2, ![128, 8]⟩
abbrev S128x8x1 : Shape := ⟨3, ![128, 8, 1]⟩
abbrev S8x1024 : Shape := ⟨2, ![8, 1024]⟩
abbrev S1x8x1024 : Shape := ⟨3, ![1, 8, 1024]⟩
abbrev S128x1024 : Shape := ⟨2, ![128, 1024]⟩
abbrev S1x128x1024 : Shape := ⟨3, ![1, 128, 1024]⟩
abbrev S512x1024 : Shape := ⟨2, ![512, 1024]⟩
abbrev S4x128 : Shape := ⟨2, ![4, 128]⟩
abbrev S4x128x1 : Shape := ⟨3, ![4, 128, 1]⟩

abbrev nBuf : Space → Nat
  | .hbm => 10
  | .vmem => 15
  | .smem => 0
  | _ => 0

abbrev bufTy : (tb : Table) → Fin (tcTables nBuf tb) → BufTy
  | .hbm, ⟨0, _⟩ => ⟨S2048x8x1024, .f32⟩
  | .hbm, ⟨1, _⟩ => ⟨S8x6144, .f32⟩
  | .hbm, ⟨2, _⟩ => ⟨S1024x4096, .bf16⟩
  | .hbm, ⟨3, _⟩ => ⟨S1x4096, .f32⟩
  | .hbm, ⟨4, _⟩ => ⟨S4096x1024, .bf16⟩
  | .hbm, ⟨5, _⟩ => ⟨S5x1024, .f32⟩
  | .hbm, ⟨6, _⟩ => ⟨S4x128x1024, .f32⟩
  | .hbm, ⟨7, _⟩ => ⟨S128x6144, .f32⟩
  | .hbm, ⟨8, _⟩ => ⟨S8x2048x1024, .f32⟩
  | .hbm, ⟨9, _⟩ => ⟨S128x4x1024, .f32⟩
  | .local _ .vmem, ⟨0, _⟩ => ⟨S128x8x1024, .f32⟩
  | .local _ .vmem, ⟨1, _⟩ => ⟨S128x8x1024, .f32⟩
  | .local _ .vmem, ⟨2, _⟩ => ⟨S8x6144, .f32⟩
  | .local _ .vmem, ⟨3, _⟩ => ⟨S1024x4096, .bf16⟩
  | .local _ .vmem, ⟨4, _⟩ => ⟨S1x4096, .f32⟩
  | .local _ .vmem, ⟨5, _⟩ => ⟨S4096x1024, .bf16⟩
  | .local _ .vmem, ⟨6, _⟩ => ⟨S5x1024, .f32⟩
  | .local _ .vmem, ⟨7, _⟩ => ⟨S4x128x1024, .f32⟩
  | .local _ .vmem, ⟨8, _⟩ => ⟨S128x3072, .f32⟩
  | .local _ .vmem, ⟨9, _⟩ => ⟨S8x128x1024, .f32⟩
  | .local _ .vmem, ⟨10, _⟩ => ⟨S8x128x1024, .f32⟩
  | .local _ .vmem, ⟨11, _⟩ => ⟨S128x4x1024, .f32⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | _, _ => ⟨S2048x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c16_i32_2 : BitVec 32 := 16#32
  let v6 : BitVec 1 := Scalar.cmpi .eq arg0 c16_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpReferenceIdeal.lean ====
abbrev S2048x8x1024 : Shape := ⟨3, ![2048, 8, 1024]⟩
abbrev S8x6144 : Shape := ⟨2, ![8, 6144]⟩
abbrev S1024x4096 : Shape := ⟨2, ![1024, 4096]⟩
abbrev S1x4096 : Shape := ⟨2, ![1, 4096]⟩
abbrev S4096x1024 : Shape := ⟨2, ![4096, 1024]⟩
abbrev S5x1024 : Shape := ⟨2, ![5, 1024]⟩
abbrev S4x128x1024 : Shape := ⟨3, ![4, 128, 1024]⟩
abbrev S128x6144 : Shape := ⟨2, ![128, 6144]⟩
abbrev S8x3072 : Shape := ⟨2, ![8, 3072]⟩
abbrev S8x1024 : Shape := ⟨2, ![8, 1024]⟩
abbrev S_ : Shape := ⟨0, ![]⟩
abbrev S1x8x1024 : Shape := ⟨3, ![1, 8, 1024]⟩
abbrev S16384x1024 : Shape := ⟨2, ![16384, 1024]⟩
abbrev S16384x4096 : Shape := ⟨2, ![16384, 4096]⟩
abbrev S1x1024 : Shape := ⟨2, ![1, 1024]⟩
abbrev S1024 : Shape := ⟨1, ![1024]⟩
abbrev S2048x8 : Shape := ⟨2, ![2048, 8]⟩
abbrev S2048x8x1 : Shape := ⟨3, ![2048, 8, 1]⟩
abbrev S1x1x1024 : Shape := ⟨3, ![1, 1, 1024]⟩
abbrev S8x2048x1024 : Shape := ⟨3, ![8, 2048, 1024]⟩
abbrev S128x3072 : Shape := ⟨2, ![128, 3072]⟩
abbrev S128x1024 : Shape := ⟨2, ![128, 1024]⟩
abbrev S1x128x1024 : Shape := ⟨3, ![1, 128, 1024]⟩
abbrev S512x1024 : Shape := ⟨2, ![512, 1024]⟩
abbrev S512x4096 : Shape := ⟨2, ![512, 4096]⟩
abbrev S4x128 : Shape := ⟨2, ![4, 128]⟩
abbrev S4x128x1 : Shape := ⟨3, ![4, 128, 1]⟩
abbrev S128x4x1024 : Shape := ⟨3, ![128, 4, 1024]⟩

abbrev nBuf : Space → Nat
  | .hbm => 144
  | .vmem => 0
  | .smem => 0
  | _ => 0

abbrev hbmTy0_0 (i : Nat) : BufTy := match i % 128 with
  | 0 => ⟨S2048x8x1024, .f32⟩
  | 1 => ⟨S8x6144, .f32⟩
  | 2 => ⟨S1024x4096, .bf16⟩
  | 3 => ⟨S1x4096, .f32⟩
  | 4 => ⟨S4096x1024, .bf16⟩
  | 5 => ⟨S5x1024, .f32⟩
  | 6 => ⟨S4x128x1024, .f32⟩
  | 7 => ⟨S128x6144, .f32⟩
  | 8 => ⟨S1024x4096, .f32⟩
  | 9 => ⟨S4096x1024, .f32⟩
  | 10 => ⟨S8x3072, .f32⟩
  | 11 => ⟨S8x1024, .f32⟩
  | 12 => ⟨S8x1024, .f32⟩
  | 13 => ⟨S8x1024, .f32⟩
  | 14 => ⟨S_, .f32⟩
  | 15 => ⟨S8x1024, .f32⟩
  | 16 => ⟨S8x1024, .f32⟩
  | 17 => ⟨S1x8x1024, .f32⟩
  | 18 => ⟨S2048x8x1024, .f32⟩
  | 19 => ⟨S2048x8x1024, .f32⟩
  | 20 => ⟨S1x8x1024, .f32⟩
  | 21 => ⟨S2048x8x1024, .f32⟩
  | 22 => ⟨S2048x8x1024, .f32⟩
  | 23 => ⟨S16384x1024, .f32⟩
  | 24 => ⟨S16384x4096, .f32⟩
  | 25 => ⟨S16384x4096, .f32⟩
  | 26 => ⟨S16384x4096, .f32⟩
  | 27 => ⟨S_, .f32⟩
  | 28 => ⟨S16384x4096, .f32⟩
  | 29 => ⟨S16384x4096, .f32⟩
  | 30 => ⟨S16384x4096, .f32⟩
  | 31 => ⟨S16384x1024, .f32⟩
  | 32 => ⟨S1x1024, .f32⟩
  | 33 => ⟨S1024, .f32⟩
  | 34 => ⟨S1x1024, .f32⟩
  | 35 => ⟨S16384x1024, .f32⟩
  | 36 => ⟨S16384x1024, .f32⟩
  | 37 => ⟨S_, .f32⟩
  | 38 => ⟨S2048x8x1024, .f32⟩
  | 39 => ⟨S2048x8x1024, .f32⟩
  | 40 => ⟨S2048x8x1024, .f32⟩
  | 41 => ⟨S1x8x1024, .f32⟩
  | 42 => ⟨S2048x8x1024, .f32⟩
  | 43 => ⟨S2048x8x1024, .f32⟩
  | 44 => ⟨S2048x8x1024, .f32⟩
  | 45 => ⟨S_, .f32⟩
  | 46 => ⟨S2048x8, .f32⟩
  | 47 => ⟨S2048x8x1, .f32⟩
  | 48 => ⟨S_, .f32⟩
  | 49 => ⟨S2048x8x1, .f32⟩
  | 50 => ⟨S2048x8x1, .f32⟩
  | 51 => ⟨S2048x8x1024, .f32⟩
  | 52 => ⟨S2048x8x1024, .f32⟩
  | 53 => ⟨S2048x8x1024, .f32⟩
  | 54 => ⟨S_, .f32⟩
  | 55 => ⟨S2048x8, .f32⟩
  | 56 => ⟨S2048x8x1, .f32⟩
  | 57 => ⟨S_, .f32⟩
  | 58 => ⟨S2048x8x1, .f32⟩
  | 59 => ⟨S2048x8x1, .f32⟩
  | 60 => ⟨S_, .f32⟩
  | 61 => ⟨S2048x8x1, .f32⟩
  | 62 => ⟨S2048x8x1, .f32⟩
  | 63 => ⟨S2048x8x1, .f32⟩
  | 64 => ⟨S2048x8x1024, .f32⟩
  | 65 => ⟨S2048x8x1024, .f32⟩
  | 66 => ⟨S1x1024, .f32⟩
  | 67 => ⟨S1024, .f32⟩
  | 68 => ⟨S1x1x1024, .f32⟩
  | 69 => ⟨S2048x8x1024, .f32⟩
  | 70 => ⟨S2048x8x1024, .f32⟩
  | 71 => ⟨S1x1024, .f32⟩
  | 72 => ⟨S1024, .f32⟩
  | 73 => ⟨S1x1x1024, .f32⟩
  | 74 => ⟨S2048x8x1024, .f32⟩
  | 75 => ⟨S2048x8x1024, .f32⟩
  | 76 => ⟨S8x2048x1024, .f32⟩
  | 77 => ⟨S128x3072, .f32⟩
  | 78 => ⟨S128x1024, .f32⟩
  | 79 => ⟨S128x1024, .f32⟩
  | 80 => ⟨S128x1024, .f32⟩
  | 81 => ⟨S_, .f32⟩
  | 82 => ⟨S128x1024, .f32⟩
  | 83 => ⟨S128x1024, .f32⟩
  | 84 => ⟨S1x128x1024, .f32⟩
  | 85 => ⟨S4x128x1024, .f32⟩
  | 86 => ⟨S4x128x1024, .f32⟩
  | 87 => ⟨S1x128x1024, .f32⟩
  | 88 => ⟨S4x128x1024, .f32⟩
  | 89 => ⟨S4x128x1024, .f32⟩
  | 90 => ⟨S512x1024, .f32⟩
  | 91 => ⟨S512x4096, .f32⟩
  | 92 => ⟨S512x4096, .f32⟩
  | 93 => ⟨S512x4096, .f32⟩
  | 94 => ⟨S_, .f32⟩
  | 95 => ⟨S512x4096, .f32⟩
  | 96 => ⟨S512x4096, .f32⟩
  | 97 => ⟨S512x4096, .f32⟩
  | 98 => ⟨S512x1024, .f32⟩
  | 99 => ⟨S1x1024, .f32⟩
  | 100 => ⟨S1024, .f32⟩
  | 101 => ⟨S1x1024, .f32⟩
  | 102 => ⟨S512x1024, .f32⟩
  | 103 => ⟨S512x1024, .f32⟩
  | 104 => ⟨S_, .f32⟩
  | 105 => ⟨S4x128x1024, .f32⟩
  | 106 => ⟨S4x128x1024, .f32⟩
  | 107 => ⟨S4x128x1024, .f32⟩
  | 108 => ⟨S1x128x1024, .f32⟩
  | 109 => ⟨S4x128x1024, .f32⟩
  | 110 => ⟨S4x128x1024, .f32⟩
  | 111 => ⟨S4x128x1024, .f32⟩
  | 112 => ⟨S_, .f32⟩
  | 113 => ⟨S4x128, .f32⟩
  | 114 => ⟨S4x128x1, .f32⟩
  | 115 => ⟨S_, .f32⟩
  | 116 => ⟨S4x128x1, .f32⟩
  | 117 => ⟨S4x128x1, .f32⟩
  | 118 => ⟨S4x128x1024, .f32⟩
  | 119 => ⟨S4x128x1024, .f32⟩
  | 120 => ⟨S4x128x1024, .f32⟩
  | 121 => ⟨S_, .f32⟩
  | 122 => ⟨S4x128, .f32⟩
  | 123 => ⟨S4x128x1, .f32⟩
  | 124 => ⟨S_, .f32⟩
  | 125 => ⟨S4x128x1, .f32⟩
  | 126 => ⟨S4x128x1, .f32⟩
  | 127 => ⟨S_, .f32⟩
  | _ => ⟨S2048x8x1024, .f32⟩

abbrev hbmTy0_1 (i : Nat) : BufTy := match i % 128 with
  | 0 => ⟨S4x128x1, .f32⟩
  | 1 => ⟨S4x128x1, .f32⟩
  | 2 => ⟨S4x128x1, .f32⟩
  | 3 => ⟨S4x128x1024, .f32⟩
  | 4 => ⟨S4x128x1024, .f32⟩
  | 5 => ⟨S1x1024, .f32⟩
  | 6 => ⟨S1024, .f32⟩
  | 7 => ⟨S1x1x1024, .f32⟩
  | 8 => ⟨S4x128x1024, .f32⟩
  | 9 => ⟨S4x128x1024, .f32⟩
  | 10 => ⟨S1x1024, .f32⟩
  | 11 => ⟨S1024, .f32⟩
  | 12 => ⟨S1x1x1024, .f32⟩
  | 13 => ⟨S4x128x1024, .f32⟩
  | 14 => ⟨S4x128x1024, .f32⟩
  | 15 => ⟨S128x4x1024, .f32⟩
  | _ => ⟨S2048x8x1024, .f32⟩

abbrev hbmTy (i : Nat) : BufTy := match i / 128 with
  | 0 => hbmTy0_0 i
  | 1 => hbmTy0_1 i
  | _ => ⟨S2048x8x1024, .f32⟩

abbrev bufTy : (tb : Table) → Fin (tcTables nBuf tb) → BufTy
  | .hbm, ⟨i, _⟩ => hbmTy i
  | _, _ => ⟨S2048x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_8 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_9 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_10 : Ref sig .tc := ⟨.hbm, 112, rfl⟩
abbrev main_v93 : Ref sig .tc := ⟨.hbm, 113, rfl⟩
abbrev main_v94 : Ref sig .tc := ⟨.hbm, 114, rfl⟩
abbrev main_cst_11 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_12 : Ref sig .tc := ⟨.hbm, 121, rfl⟩
abbrev main_v100 : Ref sig .tc := ⟨.hbm, 122, rfl⟩
abbrev main_v101 : Ref sig .tc := ⟨.hbm, 123, rfl⟩
abbrev main_cst_13 : Ref sig .tc := ⟨.hbm, 124, rfl⟩
abbrev main_v102 : Ref sig .tc := ⟨.hbm, 125, rfl⟩
abbrev main_v103 : Ref sig .tc := ⟨.hbm, 126, rfl⟩
abbrev main_cst_14 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩

abbrev nD : Nat := 1
abbrev τ : Topo := Topo.v7x

variable {F : FTy → Type} [FloatOps F]
-- ==== Sample.lean ====
abbrev S128x4x1024 : Shape := ⟨3, ![128, 4, 1024]⟩
abbrev S128x6144 : Shape := ⟨2, ![128, 6144]⟩
abbrev S1024x1536 : Shape := ⟨2, ![1024, 1536]⟩
abbrev S10x512 : Shape := ⟨2, ![10, 512]⟩
abbrev S2x256x512 : Shape := ⟨3, ![2, 256, 512]⟩
abbrev S8x2048 : Shape := ⟨2, ![8, 2048]⟩
abbrev S2x256x1024 : Shape := ⟨3, ![2, 256, 1024]⟩
abbrev S2x1024x256 : Shape := ⟨3, ![2, 1024, 256]⟩
abbrev S512x512 : Shape := ⟨2, ![512, 512]⟩
abbrev S1024x1024 : Shape := ⟨2, ![1024, 1024]⟩
abbrev S5x1024 : Shape := ⟨2, ![5, 1024]⟩
abbrev S128x3x512 : Shape := ⟨3, ![128, 3, 512]⟩
abbrev S128x512 : Shape := ⟨2, ![128, 512]⟩
abbrev S128x32x64 : Shape := ⟨3, ![128, 32, 64]⟩
abbrev S3x128x512 : Shape := ⟨3, ![3, 128, 512]⟩
abbrev S384x512 : Shape := ⟨2, ![384, 512]⟩
abbrev S128x2048 : Shape := ⟨2, ![128, 2048]⟩
abbrev S2048x128 : Shape := ⟨2, ![2048, 128]⟩
abbrev S4x128x1024 : Shape := ⟨3, ![4, 128, 1024]⟩
abbrev S512x1024 : Shape := ⟨2, ![512, 1024]⟩
abbrev S896x512 : Shape := ⟨2, ![896, 512]⟩
abbrev S512x2048 : Shape := ⟨2, ![512, 2048]⟩
abbrev S128x1024 : Shape := ⟨2, ![128, 1024]⟩
abbrev S1x128x1024 : Shape := ⟨3, ![1, 128, 1024]⟩
abbrev S1024x512 : Shape := ⟨2, ![1024, 512]⟩
abbrev S512x256 : Shape := ⟨2, ![512, 256]⟩
abbrev S1x256x1024 : Shape := ⟨3, ![1, 256, 1024]⟩
abbrev S256x1024 : Shape := ⟨2, ![256, 1024]⟩
abbrev S1x512 : Shape := ⟨2, ![1, 512]⟩
abbrev S4x512 : Shape := ⟨2, ![4, 512]⟩
abbrev S1x256x512 : Shape := ⟨3, ![1, 256, 512]⟩
abbrev S256x512 : Shape := ⟨2, ![256, 512]⟩
abbrev S1x256 : Shape := ⟨2, ![1, 256]⟩
abbrev S8x512 : Shape := ⟨2, ![8, 512]⟩
abbrev S8x1024 : Shape := ⟨2, ![8, 1024]⟩
abbrev S1x1024x256 : Shape := ⟨3, ![1, 1024, 256]⟩
abbrev S1024x256 : Shape := ⟨2, ![1024, 256]⟩
abbrev S1x1024 : Shape := ⟨2, ![1, 1024]⟩
abbrev S1x1x1024 : Shape := ⟨3, ![1, 1, 1024]⟩
abbrev S4x128 : Shape := ⟨2, ![4, 128]⟩
abbrev S4x128x1 : Shape := ⟨3, ![4, 128, 1]⟩

abbrev nBuf : Space → Nat
  | .hbm => 31
  | .vmem => 39
  | .smem => 0
  | _ => 0

abbrev bufTy : (tb : Table) → Fin (tcTables nBuf tb) → BufTy
  | .hbm, ⟨0, _⟩ => ⟨S128x4x1024, .f32⟩
  | .hbm, ⟨1, _⟩ => ⟨S128x6144, .f32⟩
  | .hbm, ⟨2, _⟩ => ⟨S1024x1536, .bf16⟩
  | .hbm, ⟨3, _⟩ => ⟨S10x512, .f32⟩
  | .hbm, ⟨4, _⟩ => ⟨S2x256x512, .bf16⟩
  | .hbm, ⟨5, _⟩ => ⟨S8x2048, .f32⟩
  | .hbm, ⟨6, _⟩ => ⟨S8x2048, .f32⟩
  | .hbm, ⟨7, _⟩ => ⟨S2x256x1024, .bf16⟩
  | .hbm, ⟨8, _⟩ => ⟨S2x256x1024, .bf16⟩
  | .hbm, ⟨9, _⟩ => ⟨S2x1024x256, .bf16⟩
  | .hbm, ⟨10, _⟩ => ⟨S2x1024x256, .bf16⟩
  | .hbm, ⟨11, _⟩ => ⟨S512x512, .bf16⟩
  | .hbm, ⟨12, _⟩ => ⟨S1024x1024, .bf16⟩
  | .hbm, ⟨13, _⟩ => ⟨S5x1024, .f32⟩
  | .hbm, ⟨14, _⟩ => ⟨S128x3x512, .f32⟩
  | .hbm, ⟨15, _⟩ => ⟨S128x512, .f32⟩
  | .hbm, ⟨16, _⟩ => ⟨S128x32x64, .f32⟩
  | .hbm, ⟨17, _⟩ => ⟨S128x32x64, .f32⟩
  | .hbm, ⟨18, _⟩ => ⟨S3x128x512, .f32⟩
  | .hbm, ⟨19, _⟩ => ⟨S384x512, .f32⟩
  | .hbm, ⟨20, _⟩ => ⟨S128x2048, .f32⟩
  | .hbm, ⟨21, _⟩ => ⟨S2048x128, .f32⟩
  | .hbm, ⟨22, _⟩ => ⟨S128x2048, .f32⟩
  | .hbm, ⟨23, _⟩ => ⟨S2048x128, .f32⟩
  | .hbm, ⟨24, _⟩ => ⟨S4x128x1024, .f32⟩
  | .hbm, ⟨25, _⟩ => ⟨S384x512, .f32⟩
  | .hbm, ⟨26, _⟩ => ⟨S128x512, .f32⟩
  | .hbm, ⟨27, _⟩ => ⟨S128x2048, .f32⟩
  | .hbm, ⟨28, _⟩ => ⟨S128x2048, .f32⟩
  | .hbm, ⟨29, _⟩ => ⟨S2048x128, .f32⟩
  | .hbm, ⟨30, _⟩ => ⟨S2048x128, .f32⟩
  | .local _ .vmem, ⟨0, _⟩ => ⟨S128x4x1024, .f32⟩
  | .local _ .vmem, ⟨1, _⟩ => ⟨S128x6144, .f32⟩
  | .local _ .vmem, ⟨2, _⟩ => ⟨S1024x1536, .bf16⟩
  | .local _ .vmem, ⟨3, _⟩ => ⟨S10x512, .f32⟩
  | .local _ .vmem, ⟨4, _⟩ => ⟨S2x256x512, .bf16⟩
  | .local _ .vmem, ⟨5, _⟩ => ⟨S8x2048, .f32⟩
  | .local _ .vmem, ⟨6, _⟩ => ⟨S8x2048, .f32⟩
  | .local _ .vmem, ⟨7, _⟩ => ⟨S2x256x1024, .bf16⟩
  | .local _ .vmem, ⟨8, _⟩ => ⟨S2x256x1024, .bf16⟩
  | .local _ .vmem, ⟨9, _⟩ => ⟨S2x1024x256, .bf16⟩
  | .local _ .vmem, ⟨10, _⟩ => ⟨S2x1024x256, .bf16⟩
  | .local _ .vmem, ⟨11, _⟩ => ⟨S512x512, .bf16⟩
  | .local _ .vmem, ⟨12, _⟩ => ⟨S1024x1024, .bf16⟩
  | .local _ .vmem, ⟨13, _⟩ => ⟨S5x1024, .f32⟩
  | .local _ .vmem, ⟨14, _⟩ => ⟨S384x512, .f32⟩
  | .local _ .vmem, ⟨15, _⟩ => ⟨S128x512, .f32⟩
  | .local _ .vmem, ⟨16, _⟩ => ⟨S2048x128, .f32⟩
  | .local _ .vmem, ⟨17, _⟩ => ⟨S2048x128, .f32⟩
  | .local _ .vmem, ⟨18, _⟩ => ⟨S4x128x1024, .f32⟩
  | .local _ .vmem, ⟨19, _⟩ => ⟨S384x512, .f32⟩
  | .local _ .vmem, ⟨20, _⟩ => ⟨S128x512, .f32⟩
  | .local _ .vmem, ⟨21, _⟩ => ⟨S128x2048, .f32⟩
  | .local _ .vmem, ⟨22, _⟩ => ⟨S128x2048, .f32⟩
  | .local _ .vmem, ⟨23, _⟩ => ⟨S2048x128, .f32⟩
  | .local _ .vmem, ⟨24, _⟩ => ⟨S2048x128, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x512, .f32⟩
  | .local _ .vmem, ⟨29, _⟩ => ⟨S512x512, .f32⟩
  | .local _ .vmem, ⟨30, _⟩ => ⟨S896x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x2048, .f32⟩
  | .local _ .vmem, ⟨35, _⟩ => ⟨S512x2048, .f32⟩
  | .local _ .vmem, ⟨36, _⟩ => ⟨S512x1024, .bf16⟩
  | .local _ .vmem, ⟨37, _⟩ => ⟨S512x512, .f32⟩
  | .local _ .vmem, ⟨38, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6_0 : Ref sig .tc := ⟨.hbm, 24, rfl⟩
abbrev main_v6_1 : Ref sig .tc := ⟨.hbm, 25, rfl⟩
abbrev main_v6_2 : Ref sig .tc := ⟨.hbm, 26, rfl⟩
abbrev main_v6_3 : Ref sig .tc := ⟨.hbm, 27, rfl⟩
abbrev main_v6_4 : Ref sig .tc := ⟨.hbm, 28, rfl⟩
abbrev main_v6_5 : Ref sig .tc := ⟨.hbm, 29, rfl⟩
abbrev main_v6_6 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_scratch10 : Ref sig .tc := ⟨.vmem, 35, rfl⟩
abbrev cc0_scratch11 : Ref sig .tc := ⟨.vmem, 36, rfl⟩
abbrev cc0_scratch12 : Ref sig .tc := ⟨.vmem, 37, rfl⟩
abbrev cc0_scratch13 : Ref sig .tc := ⟨.vmem, 38, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S5x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S384x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2048x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S384x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S2048x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S2048x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== SampleReferenceIdeal.lean ====
abbrev S128x4x1024 : Shape := ⟨3, ![128, 4, 1024]⟩
abbrev S128x6144 : Shape := ⟨2, ![128, 6144]⟩
abbrev S1024x1536 : Shape := ⟨2, ![1024, 1536]⟩
abbrev S10x512 : Shape := ⟨2, ![10, 512]⟩
abbrev S2x256x512 : Shape := ⟨3, ![2, 256, 512]⟩
abbrev S8x2048 : Shape := ⟨2, ![8, 2048]⟩
abbrev S2x256x1024 : Shape := ⟨3, ![2, 256, 1024]⟩
abbrev S2x1024x256 : Shape := ⟨3, ![2, 1024, 256]⟩
abbrev S512x512 : Shape := ⟨2, ![512, 512]⟩
abbrev S1024x1024 : Shape := ⟨2, ![1024, 1024]⟩
abbrev S5x1024 : Shape := ⟨2, ![5, 1024]⟩
abbrev S128x3x512 : Shape := ⟨3, ![128, 3, 512]⟩
abbrev S128x512 : Shape := ⟨2, ![128, 512]⟩
abbrev S128x32x64 : Shape := ⟨3, ![128, 32, 64]⟩
abbrev S128x1024 : Shape := ⟨2, ![128, 1024]⟩
abbrev S128x1x1024 : Shape := ⟨3, ![128, 1, 1024]⟩
abbrev S_ : Shape := ⟨0, ![]⟩
abbrev S128x4x1536 : Shape := ⟨3, ![128, 4, 1536]⟩
abbrev S128x4x512 : Shape := ⟨3, ![128, 4, 512]⟩
abbrev S128x7x512 : Shape := ⟨3, ![128, 7, 512]⟩
abbrev S3x128x512 : Shape := ⟨3, ![3, 128, 512]⟩
abbrev S384x512 : Shape := ⟨2, ![384, 512]⟩

abbrev nBuf : Space → Nat
  | .hbm => 36
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x6144, .f32⟩
  | .hbm, ⟨2, _⟩ => ⟨S1024x1536, .bf16⟩
  | .hbm, ⟨3, _⟩ => ⟨S10x512, .f32⟩
  | .hbm, ⟨4, _⟩ => ⟨S2x256x512, .bf16⟩
  | .hbm, ⟨5, _⟩ => ⟨S8x2048, .f32⟩
  | .hbm, ⟨6, _⟩ => ⟨S8x2048, .f32⟩
  | .hbm, ⟨7, _⟩ => ⟨S2x256x1024, .bf16⟩
  | .hbm, ⟨8, _⟩ => ⟨S2x256x1024, .bf16⟩
  | .hbm, ⟨9, _⟩ => ⟨S2x1024x256, .bf16⟩
  | .hbm, ⟨10, _⟩ => ⟨S2x1024x256, .bf16⟩
  | .hbm, ⟨11, _⟩ => ⟨S512x512, .bf16⟩
  | .hbm, ⟨12, _⟩ => ⟨S1024x1024, .bf16⟩
  | .hbm, ⟨13, _⟩ => ⟨S5x1024, .f32⟩
  | .hbm, ⟨14, _⟩ => ⟨S128x3x512, .f32⟩
  | .hbm, ⟨15, _⟩ => ⟨S128x512, .f32⟩
  | .hbm, ⟨16, _⟩ => ⟨S128x32x64, .f32⟩
  | .hbm, ⟨17, _⟩ => ⟨S128x32x64, .f32⟩
  | .hbm, ⟨18, _⟩ => ⟨S128x1024, .f32⟩
  | .hbm, ⟨19, _⟩ => ⟨S128x1x1024, .f32⟩
  | .hbm, ⟨20, _⟩ => ⟨S128x1024, .f32⟩
  | .hbm, ⟨21, _⟩ => ⟨S128x1x1024, .f32⟩
  | .hbm, ⟨22, _⟩ => ⟨S_, .f32⟩
  | .hbm, ⟨23, _⟩ => ⟨S128x1x1024, .f32⟩
  | .hbm, ⟨24, _⟩ => ⟨S128x1x1024, .f32⟩
  | .hbm, ⟨25, _⟩ => ⟨S128x4x1024, .f32⟩
  | .hbm, ⟨26, _⟩ => ⟨S128x4x1024, .f32⟩
  | .hbm, ⟨27, _⟩ => ⟨S128x4x1024, .f32⟩
  | .hbm, ⟨28, _⟩ => ⟨S128x4x1024, .f32⟩
  | .hbm, ⟨29, _⟩ => ⟨S1024x1536, .f32⟩
  | .hbm, ⟨30, _⟩ => ⟨S128x4x1536, .f32⟩
  | .hbm, ⟨31, _⟩ => ⟨S128x4x512, .f32⟩
  | .hbm, ⟨32, _⟩ => ⟨S128x7x512, .f32⟩
  | .hbm, ⟨33, _⟩ => ⟨S128x3x512, .f32⟩
  | .hbm, ⟨34, _⟩ => ⟨S3x128x512, .f32⟩
  | .hbm, ⟨35, _⟩ => ⟨S384x512, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Proof.Run.lean ====
/-
  Reasoning about a kernel body on an explicit state.

  A state `St` holds the contents of the core's buffers and the copies in flight, one per semaphore. A copy's effect is
  written into the contents when it is issued; until it is waited for, the elements it reads and writes are lent to it and
  nobody may touch them. `own c σ` is the assertion that the core holds exactly this state, and `Run p Φ σ` says that
  `p` run from `σ` ends with a value and a state related by `Φ`. The rules below reduce a `Run` of an operation to a fact
  about the state before it and a `Run` of what follows.
-/
module

public import Idealize.ShloMosaic.Lib.Pipeline.FrameBody
public import Idealize.ShloMosaic.Lib.Transfers
public import Idealize.ShloMosaic.Lib.Tactic

@[expose] public section

noncomputable section

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

local notation "𝕄" => MT nD τ sig Unit Val ℕ (Pipeline.UD sig nD τ) ℕ

/-- A copy in flight: the elements it reads or writes, buffer by buffer, and the amount its wait consumes. -/
structure Flt (sig : RefSig) where
  cells : (b : Ref sig .tc) → Finset b.ty.Idx
  amt : ℕ

/-- The contents of the core's buffers, and the copy in flight on each semaphore. -/
structure St (sig : RefSig) (Val : EltTy → Type) where
  mem : (b : Ref sig .tc) → b.ty.Contents Val
  fl : SemLoc sig → Option (Flt sig)

namespace St

/-- The state with one buffer's contents replaced. -/
def set (σ : St sig Val) (r : Ref sig .tc) (f : r.ty.Contents Val) : St sig Val where
  mem := Function.update σ.mem r f
  fl := σ.fl

/-- The state with the copy in flight on one semaphore replaced. -/
def fly (σ : St sig Val) (s : SemLoc sig) (d : Option (Flt sig)) : St sig Val where
  mem := σ.mem
  fl := Function.update σ.fl s d

/-- The elements of a buffer that copies on the semaphores `T` have. -/
def lent (T : Finset (SemLoc sig)) (fl : SemLoc sig → Option (Flt sig)) (b : Ref sig .tc) : Finset b.ty.Idx :=
  T.biUnion fun s => (fl s).elim ∅ fun d => d.cells b

theorem set_mem_self (σ : St sig Val) (r : Ref sig .tc) (f : r.ty.Contents Val) : (σ.set r f).mem r = f := Function.update_self ..
theorem set_mem_of_ne (σ : St sig Val) {r b : Ref sig .tc} (f : r.ty.Contents Val) (h : b ≠ r) : (σ.set r f).mem b = σ.mem b :=
  Function.update_of_ne h ..
theorem set_fl (σ : St sig Val) (r : Ref sig .tc) (f : r.ty.Contents Val) : (σ.set r f).fl = σ.fl := rfl
theorem fly_mem (σ : St sig Val) (s : SemLoc sig) (d : Option (Flt sig)) : (σ.fly s d).mem = σ.mem := rfl
theorem fly_fl_self (σ : St sig Val) (s : SemLoc sig) (d : Option (Flt sig)) : (σ.fly s d).fl s = d := Function.update_self ..
theorem fly_fl_of_ne (σ : St sig Val) {s s' : SemLoc sig} (d : Option (Flt sig)) (h : s' ≠ s) : (σ.fly s d).fl s' = σ.fl s' :=
  Function.update_of_ne h ..

end St

/-- The elements of a view, as those of its buffer; of another buffer, none. -/
def cellsAt (r : Ref sig .tc) (I : Finset r.ty.Idx) (b : Ref sig .tc) : Finset b.ty.Idx :=
  if h : r = b then h ▸ I else ∅

theorem cellsAt_self (r : Ref sig .tc) (I : Finset r.ty.Idx) : cellsAt r I r = I := by unfold cellsAt; rw [dif_pos rfl]
theorem cellsAt_of_ne {r b : Ref sig .tc} (I : Finset r.ty.Idx) (h : b ≠ r) : cellsAt r I b = ∅ := by
  unfold cellsAt; rw [dif_neg (Ne.symm h)]

/-- The copy that reads `S` of one buffer and writes `D` of another. -/
def Flt.copy (src dst : Ref sig .tc) (S : Finset src.ty.Idx) (D : Finset dst.ty.Idx) (n : ℕ) : Flt sig where
  cells b := cellsAt src S b ∪ cellsAt dst D b
  amt := n

/-- No two copies in flight share an element. -/
def Apart (T : Finset (SemLoc sig)) (fl : SemLoc sig → Option (Flt sig)) : Prop :=
  ∀ s ∈ T, ∀ s' ∈ T, s ≠ s' → ∀ d d', fl s = some d → fl s' = some d' → ∀ b, Disjoint (d.cells b) (d'.cells b)

theorem mem_lent {T : Finset (SemLoc sig)} {fl : SemLoc sig → Option (Flt sig)} {b : Ref sig .tc} {i : b.ty.Idx} :
    i ∈ St.lent T fl b ↔ ∃ s ∈ T, ∃ d, fl s = some d ∧ i ∈ d.cells b := by
  unfold St.lent
  rw [Finset.mem_biUnion]
  constructor
  · rintro ⟨s, hs, hi⟩
    cases hf : fl s with
    | none => rw [hf] at hi; exact absurd hi (Finset.notMem_empty _)
    | some d => rw [hf] at hi; exact ⟨s, hs, d, hf, hi⟩
  · rintro ⟨s, hs, d, hf, hi⟩
    exact ⟨s, hs, by rw [hf]; exact hi⟩

section Own

variable (B : Finset (Ref sig .tc)) (T : Finset (SemLoc sig)) (c : Dev nD)

/-- What a copy hands back when it is waited for: the elements it had, at the contents the state says. -/
def back (m : (b : Ref sig .tc) → b.ty.Contents Val) (d : Flt sig) : sProp 𝕄 :=
  bigSep B fun b => (c : Thread nD τ).loc b ↦[d.cells b]{fullShare} m b

/-- What the core holds of one semaphore: its counter at zero, or the copy in flight on it. -/
def atSem (m : (b : Ref sig .tc) → b.ty.Contents Val) (fl : SemLoc sig → Option (Flt sig)) (s : SemLoc sig) : sProp 𝕄 :=
  (fl s).elim (semVal ((c : Thread nD τ), s) 0)
    fun d => Transfers.Flight (countersEmb (U := Pipeline.UD sig nD τ)) (c : Thread nD τ) s () d.amt (back B c m d)

/-- What the core holds of the buffers: every element that is not lent. -/
def held (m : (b : Ref sig .tc) → b.ty.Contents Val) (fl : SemLoc sig → Option (Flt sig)) (b : Ref sig .tc) : sProp 𝕄 :=
  (c : Thread nD τ).loc b ↦[Finset.univ \ St.lent T fl b]{fullShare} m b

/-- The core holds exactly the state `σ`. -/
def own (σ : St sig Val) : sProp 𝕄 :=
  iprop(⌜Apart T σ.fl⌝ ∗ (∃ W, owes (c : Thread nD τ) 0 W)
    ∗ bigSep B (held T c σ.mem σ.fl) ∗ bigSep T (atSem B c σ.mem σ.fl))

variable {B T c}

theorem take {I : Type} [DecidableEq I] {s : Finset I} {i : I} (h : i ∈ s) (Φ : I → sProp 𝕄) :
    bigSep s Φ = iprop(Φ i ∗ bigSep (s.erase i) Φ) := bigSep_erase h

theorem back_congr {m m' : (b : Ref sig .tc) → b.ty.Contents Val} {d : Flt sig}
    (h : ∀ b, ∀ i ∈ d.cells b, m b i = m' b i) : (back B c m d : sProp 𝕄) = back B c m' d := by
  unfold back
  exact bigSep_congr fun b _ => pointsTo_congr (h b)

theorem atSem_none {m : (b : Ref sig .tc) → b.ty.Contents Val} {fl : SemLoc sig → Option (Flt sig)} {s : SemLoc sig}
    (h : fl s = none) : (atSem B c m fl s : sProp 𝕄) = semVal ((c : Thread nD τ), s) 0 := by
  unfold atSem; rw [h]; rfl

theorem atSem_some {m : (b : Ref sig .tc) → b.ty.Contents Val} {fl : SemLoc sig → Option (Flt sig)} {s : SemLoc sig} {d : Flt sig}
    (h : fl s = some d) : (atSem B c m fl s : sProp 𝕄)
      = Transfers.Flight (countersEmb (U := Pipeline.UD sig nD τ)) (c : Thread nD τ) s () d.amt (back B c m d) := by
  unfold atSem; rw [h]; rfl

theorem atSem_congr {m m' : (b : Ref sig .tc) → b.ty.Contents Val} {fl : SemLoc sig → Option (Flt sig)}
    {s : SemLoc sig} (hs : s ∈ T) (h : ∀ b, ∀ i ∈ St.lent T fl b, m b i = m' b i) :
    (atSem B c m fl s : sProp 𝕄) = atSem B c m' fl s := by
  cases hf : fl s with
  | none => rw [atSem_none hf, atSem_none hf]
  | some d =>
    rw [atSem_some hf, atSem_some hf, back_congr fun b i hi => h b i (mem_lent.mpr ⟨s, hs, d, hf, hi⟩)]

/-- Taking one buffer out of the state and putting it back at other contents. -/
theorem own_take (σ : St sig Val) (r : Ref sig .tc) (hr : r ∈ B) :
    (own B T c σ : sProp 𝕄) ⊢ iprop(((c : Thread nD τ).loc r ↦[Finset.univ \ St.lent T σ.fl r]{fullShare} σ.mem r)
      ∗ (∀ f : r.ty.Contents Val, ⌜∀ i ∈ St.lent T σ.fl r, f i = σ.mem r i⌝
          -∗ ((c : Thread nD τ).loc r ↦[Finset.univ \ St.lent T σ.fl r]{fullShare} f) -∗ own B T c (σ.set r f))) := by
  unfold own
  rw [take hr]
  iintro ⟨%ha, HW, ⟨Hr, Hb⟩, Hs⟩
  isplitl [Hr]; · unfold held; iexact Hr
  iintro %f %hf Hr
  isplitr; · ipureintro; exact ha
  isplitl [HW]; · iexact HW
  isplitl [Hr Hb]
  · rw [take hr (held T c (σ.set r f).mem (σ.set r f).fl)]
    isplitl [Hr]
    · unfold held; rw [St.set_mem_self]; iexact Hr
    · rw [bigSep_congr (Φ := held T c (σ.set r f).mem (σ.set r f).fl) (Ψ := held T c σ.mem σ.fl) fun b hb => by
        unfold held; rw [St.set_mem_of_ne _ _ (Finset.ne_of_mem_erase hb)]; rfl]
      iexact Hb
  · rw [bigSep_congr (Φ := atSem B c (σ.set r f).mem (σ.set r f).fl) (Ψ := atSem B c σ.mem σ.fl) fun s hs => by
      refine atSem_congr hs fun b i hi => ?_
      by_cases hb : b = r
      · subst hb; rw [St.set_mem_self]; exact hf i hi
      · rw [St.set_mem_of_ne _ _ hb]]
    iexact Hs

/-! ### Issuing a copy and waiting for it -/

theorem back_copy {m : (b : Ref sig .tc) → b.ty.Contents Val} {src dst : Ref sig .tc} {S : Finset src.ty.Idx}
    {D : Finset dst.ty.Idx} {n : ℕ} (hs : src ∈ B) (hd : dst ∈ B) (hne : src ≠ dst) :
    (back B c m (Flt.copy src dst S D n) : sProp 𝕄)
      = iprop(((c : Thread nD τ).loc src ↦[S]{fullShare} m src) ∗ ((c : Thread nD τ).loc dst ↦[D]{fullShare} m dst)) := by
  have hd' : dst ∈ B.erase src := Finset.mem_erase.mpr ⟨hne.symm, hd⟩
  have e1 : (Flt.copy src dst S D n).cells src = S := by
    unfold Flt.copy; simp only [cellsAt_self, cellsAt_of_ne D hne, Finset.union_empty]
  have e2 : (Flt.copy src dst S D n).cells dst = D := by
    unfold Flt.copy; simp only [cellsAt_self, cellsAt_of_ne S hne.symm, Finset.empty_union]
  unfold back
  rw [take hs, take hd', bigSep_congr (s := (B.erase src).erase dst) (Ψ := fun _ => (iprop(emp) : sProp 𝕄)) fun b hb => by
    have h1 : b ≠ dst := Finset.ne_of_mem_erase hb
    have h2 : b ≠ src := Finset.ne_of_mem_erase (Finset.mem_of_mem_erase hb)
    rw [show (Flt.copy src dst S D n).cells b = ∅ by
      unfold Flt.copy; simp only [cellsAt_of_ne D h1, cellsAt_of_ne S h2, Finset.union_empty]]
    exact pointsTo_empty, show bigSep ((B.erase src).erase dst) (fun _ => (iprop(emp) : sProp 𝕄)) = iprop(emp) from bigSep_emp_const _, e1, e2]
  refine congrArg (fun P : sProp 𝕄 => iprop(((c : Thread nD τ).loc src ↦[S]{fullShare} m src) ∗ P)) ?_
  exact BI.equiv_iff.mp sep_emp

theorem mem_lent_fly {fl : SemLoc sig → Option (Flt sig)} {s : SemLoc sig} (hs : s ∈ T) (d : Flt sig) (hf : fl s = none)
    (b : Ref sig .tc) : St.lent T (Function.update fl s (some d)) b = St.lent T fl b ∪ d.cells b := by
  ext i
  rw [Finset.mem_union, mem_lent, mem_lent]
  constructor
  · rintro ⟨s', hs', d', hd', hi⟩
    by_cases h : s' = s
    · subst h; rw [Function.update_self] at hd'; cases hd'; exact .inr hi
    · rw [Function.update_of_ne h] at hd'; exact .inl ⟨s', hs', d', hd', hi⟩
  · rintro (⟨s', hs', d', hd', hi⟩ | hi)
    · have h : s' ≠ s := by rintro rfl; rw [hf] at hd'; cases hd'
      exact ⟨s', hs', d', by rw [Function.update_of_ne h]; exact hd', hi⟩
    · exact ⟨s, hs, d, Function.update_self .., hi⟩

theorem lent_land {fl : SemLoc sig → Option (Flt sig)} (ha : Apart T fl) {s : SemLoc sig} (hs : s ∈ T) {d : Flt sig}
    (hf : fl s = some d) (b : Ref sig .tc) :
    Finset.univ \ St.lent T (Function.update fl s none) b = d.cells b ∪ (Finset.univ \ St.lent T fl b) := by
  ext i
  rw [Finset.mem_union, Finset.mem_sdiff, Finset.mem_sdiff, mem_lent, mem_lent]
  constructor
  · rintro ⟨-, h⟩
    by_cases hi : i ∈ d.cells b
    · exact .inl hi
    refine .inr ⟨Finset.mem_univ _, ?_⟩
    rintro ⟨s', hs', d', hd', hi'⟩
    by_cases hss : s' = s
    · subst hss; rw [hf] at hd'; cases hd'; exact hi hi'
    · exact h ⟨s', hs', d', by rw [Function.update_of_ne hss]; exact hd', hi'⟩
  · rintro (hi | ⟨-, h⟩)
    · refine ⟨Finset.mem_univ _, ?_⟩
      rintro ⟨s', hs', d', hd', hi'⟩
      by_cases hss : s' = s
      · subst hss; rw [Function.update_self] at hd'; cases hd'
      · rw [Function.update_of_ne hss] at hd'
        exact Finset.disjoint_left.mp (ha s hs s' hs' (Ne.symm hss) d d' hf hd' b) hi hi'
    · refine ⟨Finset.mem_univ _, ?_⟩
      rintro ⟨s', hs', d', hd', hi'⟩
      by_cases hss : s' = s
      · subst hss; rw [Function.update_self] at hd'; cases hd'
      · rw [Function.update_of_ne hss] at hd'
        exact h ⟨s', hs', d', hd', hi'⟩

theorem apart_land {fl : SemLoc sig → Option (Flt sig)} (ha : Apart T fl) (s : SemLoc sig) :
    Apart T (Function.update fl s none) := by
  intro s₁ h₁ s₂ h₂ hne d d' hd hd' b
  have e₁ : s₁ ≠ s := by rintro rfl; rw [Function.update_self] at hd; cases hd
  have e₂ : s₂ ≠ s := by rintro rfl; rw [Function.update_self] at hd'; cases hd'
  rw [Function.update_of_ne e₁] at hd
  rw [Function.update_of_ne e₂] at hd'
  exact ha s₁ h₁ s₂ h₂ hne d d' hd hd' b

theorem apart_fly {fl : SemLoc sig → Option (Flt sig)} (ha : Apart T fl) (s : SemLoc sig) (d : Flt sig)
    (h : ∀ b, Disjoint (d.cells b) (St.lent T fl b)) : Apart T (Function.update fl s (some d)) := by
  intro s₁ h₁ s₂ h₂ hne d₁ d₂ hd₁ hd₂ b
  by_cases e₁ : s₁ = s
  · subst e₁
    rw [Function.update_self] at hd₁; cases hd₁
    rw [Function.update_of_ne hne.symm] at hd₂
    exact (h b).mono_right fun i hi => mem_lent.mpr ⟨s₂, h₂, d₂, hd₂, hi⟩
  · rw [Function.update_of_ne e₁] at hd₁
    by_cases e₂ : s₂ = s
    · subst e₂
      rw [Function.update_self] at hd₂; cases hd₂
      exact ((h b).mono_right fun i hi => mem_lent.mpr ⟨s₁, h₁, d₁, hd₁, hi⟩).symm
    · rw [Function.update_of_ne e₂] at hd₂
      exact ha s₁ h₁ s₂ h₂ hne d₁ d₂ hd₁ hd₂ b

/-- The elements of a new copy, taken out of what the core holds of every buffer. -/
theorem held_split {m : (b : Ref sig .tc) → b.ty.Contents Val} {fl : SemLoc sig → Option (Flt sig)} {s : SemLoc sig} (hs : s ∈ T)
    (d : Flt sig) (hf : fl s = none) (h : ∀ b, Disjoint (d.cells b) (St.lent T fl b)) :
    (bigSep B (held T c m fl) : sProp 𝕄) ⊢ iprop(back B c m d ∗ bigSep B (held T c m (Function.update fl s (some d)))) := by
  unfold back
  rw [show iprop((bigSep B fun b => (c : Thread nD τ).loc b ↦[d.cells b]{fullShare} m b)
      ∗ bigSep B (held T c m (Function.update fl s (some d))))
    = bigSep B (fun b => iprop(((c : Thread nD τ).loc b ↦[d.cells b]{fullShare} m b) ∗ held T c m (Function.update fl s (some d)) b))
    from (bigSep_sep _ _ _).symm]
  refine bigSep_mono fun b _ => ?_
  unfold held
  rw [mem_lent_fly hs d hf]
  have hsub : d.cells b ⊆ Finset.univ \ St.lent T fl b := fun i hi =>
    Finset.mem_sdiff.mpr ⟨Finset.mem_univ _, fun hi' => Finset.disjoint_left.mp (h b) hi hi'⟩
  rw [show Finset.univ \ (St.lent T fl b ∪ d.cells b) = (Finset.univ \ St.lent T fl b) \ d.cells b from (sdiff_sdiff_left (a := (Finset.univ : Finset b.ty.Idx))).symm]
  exact (pointsTo_split_subset hsub).1

theorem held_join {m : (b : Ref sig .tc) → b.ty.Contents Val} {fl : SemLoc sig → Option (Flt sig)} (ha : Apart T fl) {s : SemLoc sig}
    (hs : s ∈ T) {d : Flt sig} (hf : fl s = some d) :
    iprop(back B c m d ∗ bigSep B (held T c m fl)) ⊢ (bigSep B (held T c m (Function.update fl s none)) : sProp 𝕄) := by
  unfold back
  rw [show iprop((bigSep B fun b => (c : Thread nD τ).loc b ↦[d.cells b]{fullShare} m b) ∗ bigSep B (held T c m fl))
    = bigSep B (fun b => iprop(((c : Thread nD τ).loc b ↦[d.cells b]{fullShare} m b) ∗ held T c m fl b))
    from (bigSep_sep _ _ _).symm]
  refine bigSep_mono fun b _ => ?_
  unfold held
  rw [lent_land ha hs hf]
  refine (pointsTo_union ?_).2
  rw [Finset.disjoint_left]
  intro i hi hi'
  exact (Finset.mem_sdiff.mp hi').2 (mem_lent.mpr ⟨s, hs, d, hf, hi⟩)

end Own

variable {Λ : Labels} (defs : Defs nD τ sig Val Λ) (B : Finset (Ref sig .tc)) (T : Finset (SemLoc sig)) (c : Dev nD)

/-- `p` run from `σ` ends with a value and a state related by `Φ`. -/
def Run {α : Type} (p : Prog (TpuEff nD τ sig Val Λ .tc) α) (Φ : α → St sig Val → Prop) (σ : St sig Val) : Prop :=
  ∀ Q : α → sProp 𝕄, (∀ a σ', Φ a σ' → own B T c σ' ⊢ Q a)
    → own B T c σ ⊢ wp frame (wpE defs Variants.none (c : Thread nD τ) none) Set.univ p Q

section Rules

variable {α β : Type} {defs B T c} {σ : St sig Val} {Φ : α → St sig Val → Prop}

theorem Run.ret {a : α} (h : Φ a σ) : Run defs B T c (.ret a) Φ σ := fun Q hQ => by
  rw [wp_ret]
  exact (hQ a σ h).trans fupd_intro

theorem Run.mono {p : Prog (TpuEff nD τ sig Val Λ .tc) α} {Ψ : α → St sig Val → Prop} (h : Run defs B T c p Ψ σ)
    (hΨ : ∀ a σ', Ψ a σ' → Φ a σ') : Run defs B T c p Φ σ := fun Q hQ => h Q fun a σ' ha => hQ a σ' (hΨ a σ' ha)

theorem Run.bind {p : Prog (TpuEff nD τ sig Val Λ .tc) β} {k : β → Prog (TpuEff nD τ sig Val Λ .tc) α}
    (h : Run defs B T c p (fun b σ' => Run defs B T c (k b) Φ σ') σ) : Run defs B T c (p >>= k) Φ σ := fun Q hQ => by
  rw [wp_bind]
  exact h _ fun b σ' hb => hb Q hQ

theorem Run.assume {P : Prop} {d : Decidable P} {k : PLift P → Prog (TpuEff nD τ sig Val Λ .tc) α} (h : P)
    (hk : Run defs B T c (k ⟨h⟩) Φ σ) : Run defs B T c (.op (.assume P d) k) Φ σ := fun Q hQ =>
  (hk Q hQ).trans (wp_assume (Q := Q) Variants.none (c : Thread nD τ) none Set.univ h)

theorem Run.load {cs : CoreSpace} {s : Shape} {e : EltTy} {m : Memref sig .tc cs s e} {r : LoadRect s} {hl : m.view.LoadsAt r}
    {k : (r.shape.Idx → Val e) → Prog (TpuEff nD τ sig Val Λ .tc) α} (hb : m.view.ref ∈ B)
    (hS : Disjoint (m.view.setOn r.set) (St.lent T σ.fl m.view.ref))
    (hk : Run defs B T c (k (m.view.readAt Val r (σ.mem m.view.ref))) Φ σ) :
    Run defs B T c (.op (.load m r hl) k) Φ σ := fun Q hQ => by
  refine (own_take σ m.view.ref hb).trans ?_
  iintro ⟨Hr, Hk⟩
  iapply (wp_load (Q := Q) Variants.none (c : Thread nD τ) none Set.univ (m := m) (r := r) (hl := hl) (k := k)
    (S := Finset.univ \ St.lent T σ.fl m.view.ref) (q := fullShare) (f := σ.mem m.view.ref)
    (fun i hi => Finset.mem_sdiff.mpr ⟨Finset.mem_univ _, fun hi' => Finset.disjoint_left.mp hS hi hi'⟩)) $$ Hr
  iintro Hr
  iapply (hk Q hQ)
  ispecialize Hk $$ %(σ.mem m.view.ref)
  rw [show σ.set m.view.ref (σ.mem m.view.ref) = σ by unfold St.set; rw [Function.update_eq_self]]
  iapply Hk
  · ipureintro; exact fun _ _ => rfl
  · iexact Hr

theorem Run.store {cs : CoreSpace} {s : Shape} {e : EltTy} {m : Memref sig .tc cs s e} {r : Rect s} {w : r.shape.Idx → Val e}
    {Mk : Finset r.shape.Idx} {hx : (m.access r).Stores Mk} {hm : Mk = Finset.univ ∨ ∀ a, r.stride a = 1}
    {k : PUnit → Prog (TpuEff nD τ sig Val Λ .tc) α} (hb : m.view.ref ∈ B)
    (hS : Disjoint ((m.access r).setOn Mk) (St.lent T σ.fl m.view.ref))
    (hk : Run defs B T c (k ⟨⟩) Φ (σ.set m.view.ref ((m.access r).write Val (σ.mem m.view.ref) w Mk))) :
    Run defs B T c (.op (.store m r w Mk hx hm) k) Φ σ := fun Q hQ => by
  refine (own_take σ m.view.ref hb).trans ?_
  iintro ⟨Hr, Hk⟩
  iapply (wp_store (Q := Q) Variants.none (c : Thread nD τ) none Set.univ (m := m) (r := r) (w := w) (Mk := Mk) (hx := hx) (hm := hm) (k := k)
    (S := Finset.univ \ St.lent T σ.fl m.view.ref) (f := σ.mem m.view.ref)
    (fun i hi => Finset.mem_sdiff.mpr ⟨Finset.mem_univ _, fun hi' => Finset.disjoint_left.mp hS hi hi'⟩)) $$ Hr
  iintro Hr
  iapply (hk Q hQ)
  iapply Hk
  · ipureintro
    exact fun i hi => View.write_of_not_mem _ _ _ fun hi' => Finset.disjoint_left.mp hS hi' hi
  · iexact Hr

theorem Run.enqueue {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) (τ := τ) (p := .tc) sp sm (.here dst)}
    {k : PUnit → Prog (TpuEff nD τ sig Val Λ .tc) α}
    (hT : sm ∈ T) (hf : σ.fl sm = none) (hs : src.view.ref ∈ B) (hd : dst.view.ref ∈ B) (hne : src.view.ref ≠ dst.view.ref)
    (hN0 : 0 < dst.view.amount sm)
    (hS : Disjoint src.view.set (St.lent T σ.fl src.view.ref)) (hD : Disjoint dst.view.set (St.lent T σ.fl dst.view.ref))
    (hk : Run defs B T c (k ⟨⟩) Φ
      ((σ.set dst.view.ref (dst.view.write Val (σ.mem dst.view.ref) (src.view.read Val (σ.mem src.view.ref)) Finset.univ)).fly sm
        (some (Flt.copy src.view.ref dst.view.ref src.view.set dst.view.set (dst.view.amount sm))))) :
    Run defs B T c (.op (.enqueueDma src (.here dst) sm hsrc hdst hsem) k) Φ σ := fun Q hQ => by
  have hk' := hk Q hQ
  have hdis : ∀ b, Disjoint ((Flt.copy src.view.ref dst.view.ref src.view.set dst.view.set (dst.view.amount sm)).cells b) (St.lent T σ.fl b) := by
    intro b
    unfold Flt.copy
    rw [Finset.disjoint_union_left]
    constructor
    · by_cases hb : b = src.view.ref
      · subst hb; rw [cellsAt_self]; exact hS
      · rw [cellsAt_of_ne _ hb]; exact Finset.disjoint_empty_left _
    · by_cases hb : b = dst.view.ref
      · subst hb; rw [cellsAt_self]; exact hD
      · rw [cellsAt_of_ne _ hb]; exact Finset.disjoint_empty_left _
  generalize hd₀ : Flt.copy src.view.ref dst.view.ref src.view.set dst.view.set (dst.view.amount sm) = d at hk' hdis
  have hmem : ∀ (b : Ref sig .tc) (i : b.ty.Idx), i ∉ d.cells b →
      (σ.set dst.view.ref (dst.view.write Val (σ.mem dst.view.ref) (src.view.read Val (σ.mem src.view.ref)) Finset.univ)).mem b i = σ.mem b i := by
    intro b i hi
    by_cases hb : b = dst.view.ref
    · subst hb
      rw [St.set_mem_self]
      refine View.write_of_not_mem _ _ _ fun hi' => hi ?_
      rw [← hd₀]
      unfold Flt.copy
      simp only [cellsAt_self]
      exact Finset.mem_union_right _ hi'
    · rw [St.set_mem_of_ne _ _ hb]
  have hself := St.set_mem_self σ dst.view.ref (dst.view.write Val (σ.mem dst.view.ref) (src.view.read Val (σ.mem src.view.ref)) Finset.univ)
  have hsrc' := St.set_mem_of_ne σ (dst.view.write Val (σ.mem dst.view.ref) (src.view.read Val (σ.mem src.view.ref)) Finset.univ) hne
  generalize hσ' : σ.set dst.view.ref (dst.view.write Val (σ.mem dst.view.ref) (src.view.read Val (σ.mem src.view.ref)) Finset.univ) = σ' at hk' hmem hself hsrc'
  have hfl' : σ'.fl = σ.fl := by rw [← hσ']; rfl
  have hback : (back B c σ.mem d : sProp 𝕄) ⊢ iprop(((c : Thread nD τ).loc src.view.ref ↦[src.view.set]{fullShare} σ.mem src.view.ref)
      ∗ ((c : Thread nD τ).loc dst.view.ref ↦[dst.view.set]{fullShare} σ.mem dst.view.ref)) := by
    rw [← hd₀, back_copy hs hd hne]
  have hback' : iprop(((c : Thread nD τ).loc dst.view.ref ↦[dst.view.set]{fullShare} dst.view.write Val (σ.mem dst.view.ref) (src.view.read Val (σ.mem src.view.ref)) Finset.univ)
      ∗ ((c : Thread nD τ).loc src.view.ref ↦[src.view.set]{fullShare} σ.mem src.view.ref)) ⊢ (back B c σ'.mem d : sProp 𝕄) := by
    rw [← hd₀, back_copy hs hd hne, hself, hsrc']
    exact sep_comm.1
  have hamt : d.amt = dst.view.amount sm := by rw [← hd₀]; rfl
  unfold own at hk' ⊢
  rw [take hT, atSem_none hf]
  iintro ⟨%ha, HW, Hb, ⟨Hv, Hs⟩⟩
  ihave Hb := (held_split hT d hf hdis) $$ Hb
  icases Hb with ⟨HB, Hb⟩
  ihave HB := hback $$ HB
  icases HB with ⟨HS, HD⟩
  iapply (Transfers.wp_dmaLocal (countersEmb (U := Pipeline.UD sig nD τ)) Variants.none (c : Thread nD τ) none (Q := Q)
    (src := src) (via := .same) (dst := dst) (sm := sm) (hsrc := hsrc) (hdst := hdst) (hsem := hsem) (k := k) (q := fullShare)
    (fs := σ.mem src.view.ref) (Sd := dst.view.set) (fd := σ.mem dst.view.ref) () (dst.view.amount sm) rfl hN0 (fun _ h => h)) $$ [HS HD Hv]
  · isplitl [HS]; · iexact HS
    isplitl [HD]; · iexact HD
    iexact Hv
  iintro Hf
  iapply hk'
  isplitr
  · ipureintro
    show Apart T (Function.update σ'.fl sm (some d))
    rw [hfl']; exact apart_fly ha sm d hdis
  isplitl [HW]; · iexact HW
  isplitl [Hb]
  · rw [bigSep_congr (Φ := held T c (σ'.fly sm (some d)).mem (σ'.fly sm (some d)).fl) (Ψ := held T c σ.mem (Function.update σ.fl sm (some d))) fun b hb => by
      unfold held
      rw [show (σ'.fly sm (some d)).fl = Function.update σ.fl sm (some d) by rw [← hfl']; rfl]
      refine pointsTo_congr fun i hi => hmem b i fun hi' => (Finset.mem_sdiff.mp hi).2 ?_
      rw [mem_lent_fly hT d hf]
      exact Finset.mem_union_right _ hi']
    iexact Hb
  · rw [take hT (atSem B c (σ'.fly sm (some d)).mem (σ'.fly sm (some d)).fl), atSem_some (St.fly_fl_self ..)]
    isplitl [Hf]
    · rw [hamt]
      iapply (Transfers.Flight_mono _ _ hback')
      iexact Hf
    · rw [bigSep_congr (Φ := atSem B c (σ'.fly sm (some d)).mem (σ'.fly sm (some d)).fl) (Ψ := atSem B c σ.mem σ.fl) fun s hs => by
        have h1 : (atSem B c (σ'.fly sm (some d)).mem (σ'.fly sm (some d)).fl s : sProp 𝕄) = atSem B c σ'.mem σ.fl s := by
          unfold atSem; rw [St.fly_fl_of_ne _ _ (Finset.ne_of_mem_erase hs), hfl']; rfl
        rw [h1]
        refine atSem_congr (Finset.mem_of_mem_erase hs) fun b i hi => hmem b i fun hi' => ?_
        exact Finset.disjoint_left.mp (hdis b) hi' hi]
      iexact Hs

theorem Run.wait {sp sp' : Space} {s s' : Shape} {e e' : EltTy} {sem : DmaSem sig} {srcw : Memref sig .tc sp' s' e'} {κ' : Kind}
    {dstw : Memref sig κ' sp s e} {hsrc : srcw.view.WordExact} {hdst : dstw.view.WordExact} {k : PUnit → Prog (TpuEff nD τ sig Val Λ .tc) α}
    {d : Flt sig} (hT : SemLoc.dma sem ∈ T) (hf : σ.fl (.dma sem) = some d) (hN : dstw.view.dmaCredit = d.amt)
    (hk : Run defs B T c (k ⟨⟩) Φ (σ.fly (.dma sem) none)) :
    Run defs B T c (.op (.waitDma2 sem srcw dstw hsrc hdst) k) Φ σ := fun Q hQ => by
  have hk' := hk Q hQ
  unfold own at hk' ⊢
  rw [take hT, atSem_some hf]
  iintro ⟨%ha, ⟨%W, HW⟩, Hb, ⟨Hf, Hs⟩⟩
  iapply (Transfers.wp_waitLocal (countersEmb (U := Pipeline.UD sig nD τ)) Variants.none (c : Thread nD τ) none (Q := Q)
    (srcw := srcw) (dstw := dstw) (hsrc := hsrc) (hdst := hdst) (k := k) () hN) $$ [Hf HW]
  · isplitl [Hf]; · iexact Hf
    iexact HW
  iintro ⟨HD, Hv, HW⟩
  iapply hk'
  isplitr; · ipureintro; exact apart_land ha _
  isplitl [HW]; · iexists _; iexact HW
  isplitl [HD Hb]
  · iapply (held_join ha hT hf)
    isplitl [HD]; · iexact HD
    iexact Hb
  · rw [take hT (atSem B c (σ.fly (.dma sem) none).mem (σ.fly (.dma sem) none).fl), atSem_none (St.fly_fl_self ..)]
    isplitl [Hv]; · iexact Hv
    rw [bigSep_congr (Φ := atSem B c (σ.fly (.dma sem) none).mem (σ.fly (.dma sem) none).fl) (Ψ := atSem B c σ.mem σ.fl) fun s hs => by
      unfold atSem; rw [St.fly_fl_of_ne _ _ (Finset.ne_of_mem_erase hs)]; rfl]
    iexact Hs

theorem Run.forFrom {n : ℕ} {body : Fin n → β → Prog (TpuEff nD τ sig Val Λ .tc) β} (I : ℕ → β → St sig Val → Prop)
    (hbody : ∀ (k : Fin n) (a : β) (σ : St sig Val), I k a σ → Run defs B T c (body k a) (I (k.val + 1)) σ) :
    ∀ (k : ℕ) (_ : k ≤ n) (a : β) (σ : St sig Val), I k a σ →
      Run defs B T c (Scf.forFrom body ((List.finRange n).drop k) a) (I n) σ := by
  intro k
  induction h : n - k generalizing k with
  | zero =>
    intro hk a σ hI
    obtain rfl : k = n := by omega
    rw [List.drop_of_length_le (by simp), Scf.forFrom_nil]
    exact Run.ret hI
  | succ j ih =>
    intro hk a σ hI
    have hlt : k < n := by omega
    rw [List.drop_eq_getElem_cons (by simpa using hlt), Scf.forFrom_cons]
    refine Run.bind ?_
    rw [List.getElem_finRange]
    exact (hbody ⟨k, hlt⟩ a σ hI).mono fun a' σ' h' => ih (k + 1) (by omega) (by omega) a' σ' h'

theorem Run.loop {w : ℕ} {lb ub st : BitVec w} {hok : Scf.OK lb ub st} {init : β}
    {body : Fin (Scf.trips lb ub st) → β → Prog (TpuEff nD τ sig Val Λ .tc) β} (I : ℕ → β → St sig Val → Prop) (h0 : I 0 init σ)
    (hbody : ∀ (k : Fin (Scf.trips lb ub st)) (a : β) (σ : St sig Val), I k a σ → Run defs B T c (body k a) (I (k.val + 1)) σ) :
    Run defs B T c (Scf.for lb ub st hok init body) (I (Scf.trips lb ub st)) σ := by
  rw [Scf.for_eq]
  exact Run.forFrom I hbody 0 (Nat.zero_le _) init σ h0

/-! ### Programs that only load and store, and leave some buffers alone -/

/-- A memref whose buffer the core holds and no copy in flight has elements of. -/
class Reads (B Q : Finset (Ref sig .tc)) {sp : Space} {s : Shape} {e : EltTy} (m : Memref sig .tc sp s e) : Prop where
  mem : m.view.ref ∈ B
  still : m.view.ref ∈ Q

/-- A memref whose buffer may be stored to: not one of the buffers `K` that are to keep their contents. -/
class Writes (B Q K : Finset (Ref sig .tc)) {sp : Space} {s : Shape} {e : EltTy} (m : Memref sig .tc sp s e) : Prop extends Reads B Q m where
  free : m.view.ref ∉ K

/-- The state `σ` has the copies of `σ₀` in flight, and its contents in the buffers `K`. -/
structure Kept (K : Finset (Ref sig .tc)) (σ₀ σ : St sig Val) : Prop where
  fl : σ.fl = σ₀.fl
  mem : ∀ b ∈ K, σ.mem b = σ₀.mem b

theorem Kept.refl {K : Finset (Ref sig .tc)} (σ : St sig Val) : Kept K σ σ := ⟨rfl, fun _ _ => rfl⟩

theorem Kept.set {K : Finset (Ref sig .tc)} {σ₀ σ : St sig Val} (h : Kept K σ₀ σ) {r : Ref sig .tc} (hr : r ∉ K) (f : r.ty.Contents Val) :
    Kept K σ₀ (σ.set r f) where
  fl := h.fl
  mem b hb := by rw [St.set_mem_of_ne _ _ (by rintro rfl; exact hr hb)]; exact h.mem b hb

/-- No copy in flight has an element of a buffer in `Q`. -/
def Still (T : Finset (SemLoc sig)) (Q : Finset (Ref sig .tc)) (fl : SemLoc sig → Option (Flt sig)) : Prop :=
  ∀ b ∈ Q, St.lent T fl b = ∅

/-- From every state with the copies of `σ₀` in flight and its contents in `K`, the program runs to one such. -/
def Calm (defs : Defs nD τ sig Val Λ) (B : Finset (Ref sig .tc)) (T : Finset (SemLoc sig)) (c : Dev nD) (K : Finset (Ref sig .tc)) (σ₀ : St sig Val) (p : Prog (TpuEff nD τ sig Val Λ .tc) α) : Prop :=
  ∀ σ, Kept K σ₀ σ → Run defs B T c p (fun _ σ' => Kept K σ₀ σ') σ

variable {K Q : Finset (Ref sig .tc)} {σ₀ : St sig Val}

theorem Calm.ret (a : α) : Calm defs B T c K σ₀ (.ret a) := fun _ h => Run.ret h

theorem Calm.bind {p : Prog (TpuEff nD τ sig Val Λ .tc) β} {f : β → Prog (TpuEff nD τ sig Val Λ .tc) α}
    (hp : Calm defs B T c K σ₀ p) (hf : ∀ a, Calm defs B T c K σ₀ (f a)) : Calm defs B T c K σ₀ (p >>= f) :=
  fun σ h => Run.bind ((hp σ h).mono fun a σ' h' => hf a σ' h')

theorem Calm.load (hQ : Still T Q σ₀.fl) {cs : CoreSpace} {s : Shape} {e : EltTy} {m : Memref sig .tc cs s e} [Reads B Q m] {r : LoadRect s}
    {hl : m.view.LoadsAt r} {k : (r.shape.Idx → Val e) → Prog (TpuEff nD τ sig Val Λ .tc) α}
    (hk : ∀ x, Calm defs B T c K σ₀ (k x)) : Calm defs B T c K σ₀ (.op (.load m r hl) k) := fun σ h =>
  Run.load (Reads.mem Q) (by rw [h.fl, hQ _ (Reads.still B)]; exact Finset.disjoint_empty_right _) (hk _ σ h)

theorem Calm.store (hQ : Still T Q σ₀.fl) {cs : CoreSpace} {s : Shape} {e : EltTy} {m : Memref sig .tc cs s e} [Writes B Q K m] {r : Rect s}
    {w : r.shape.Idx → Val e} {Mk : Finset r.shape.Idx} {hx : (m.access r).Stores Mk} {hm : Mk = Finset.univ ∨ ∀ a, r.stride a = 1}
    {k : PUnit → Prog (TpuEff nD τ sig Val Λ .tc) α}
    (hk : Calm defs B T c K σ₀ (k ⟨⟩)) : Calm defs B T c K σ₀ (.op (.store m r w Mk hx hm) k) := fun σ h =>
  Run.store (Reads.mem Q) (by rw [h.fl]; show Disjoint _ (St.lent T σ₀.fl m.view.ref); rw [hQ _ (Reads.still B)]; exact Finset.disjoint_empty_right _)
    (hk _ (h.set (Writes.free B Q) _))

theorem Calm.loadIn {cs : CoreSpace} {s : Shape} {e : EltTy} {m : Memref sig .tc cs s e} {r : LoadRect s}
    {hl : m.view.LoadsAt r} {k : (r.shape.Idx → Val e) → Prog (TpuEff nD τ sig Val Λ .tc) α}
    (hm : m.view.ref ∈ B) (hd : Disjoint (m.view.setOn r.set) (St.lent T σ₀.fl m.view.ref))
    (hk : ∀ x, Calm defs B T c K σ₀ (k x)) : Calm defs B T c K σ₀ (.op (.load m r hl) k) := fun σ h =>
  Run.load hm (by rw [h.fl]; exact hd) (hk _ σ h)

/-- The copies in flight have no element of the buffer `b` whose coordinate on the axis `a` is `n`. -/
def Clear (T : Finset (SemLoc sig)) (fl : SemLoc sig → Option (Flt sig)) (b : Ref sig .tc) (a : Fin b.ty.shape.rank) (n : ℕ) : Prop :=
  ∀ i ∈ St.lent T fl b, (i a).val ≠ n

omit B defs c in
theorem Clear.disjoint {fl : SemLoc sig → Option (Flt sig)} {b : Ref sig .tc} {a : Fin b.ty.shape.rank} {n : ℕ} (h : Clear T fl b a n)
    {S : Finset b.ty.Idx} (hS : ∀ i ∈ S, (i a).val = n) : Disjoint S (St.lent T fl b) :=
  Finset.disjoint_left.mpr fun i hi hl => h i hl (hS i hi)

theorem val_of_mem_unit {s : Shape} {off size : Fin s.rank → ℕ} {inb : ∀ a, off a + size a ≤ s.size a} {i : s.Idx} (a : Fin s.rank) (h1 : size a = 1)
    (h : i ∈ (Rect.unit off size inb).set) : (i a).val = off a := by
  have := Rect.mem_set_unit.mp h a
  omega

theorem setOn_whole (b : Ref sig .tc) (M : Finset b.ty.shape.Idx) : (Memref.whole b).view.setOn M = M := by
  ext i
  show i ∈ M.map _ ↔ _
  rw [Finset.mem_map]
  exact ⟨fun ⟨j, hj, e⟩ => e ▸ hj, fun h => ⟨i, h, rfl⟩⟩

theorem Calm.storeIn {cs : CoreSpace} {s : Shape} {e : EltTy} {m : Memref sig .tc cs s e} {r : Rect s}
    {w : r.shape.Idx → Val e} {Mk : Finset r.shape.Idx} {hx : (m.access r).Stores Mk} {hm : Mk = Finset.univ ∨ ∀ a, r.stride a = 1}
    {k : PUnit → Prog (TpuEff nD τ sig Val Λ .tc) α} (hb : m.view.ref ∈ B) (hf : m.view.ref ∉ K)
    (hd : Disjoint ((m.access r).setOn Mk) (St.lent T σ₀.fl m.view.ref))
    (hk : Calm defs B T c K σ₀ (k ⟨⟩)) : Calm defs B T c K σ₀ (.op (.store m r w Mk hx hm) k) := fun σ h =>
  Run.store hb (by rw [h.fl]; exact hd) (hk _ (h.set hf _))

theorem Run.ite {P : Prop} {_ : Decidable P} {p q : Prog (TpuEff nD τ sig Val Λ .tc) α}
    (hp : P → Run defs B T c p Φ σ) (hq : ¬P → Run defs B T c q Φ σ) : Run defs B T c (if P then p else q) Φ σ := by
  split
  exacts [hp ‹_›, hq ‹_›]

theorem Run.dite {P : Prop} {_ : Decidable P} {p : P → Prog (TpuEff nD τ sig Val Λ .tc) α} {q : ¬P → Prog (TpuEff nD τ sig Val Λ .tc) α}
    (hp : ∀ h, Run defs B T c (p h) Φ σ) (hq : ∀ h, Run defs B T c (q h) Φ σ) : Run defs B T c (if h : P then p h else q h) Φ σ := by
  split
  exacts [hp _, hq _]

/-- One word read from scalar memory. -/
theorem Run.smemLoad {s : Shape} {e : EltTy} {m : Memref sig .tc .smem s e} {r : Rect s} {h1 : r.shape.numel = 1} {hp : e.packing = 1}
    (hb : m.view.ref ∈ B) (hS : Disjoint (m.view.setOn r.toLoadRect.set) (St.lent T σ.fl m.view.ref))
    {Ψ : Val e → St sig Val → Prop}
    (hk : ∀ x, Ψ (m.view.readAt Val r.toLoadRect (σ.mem m.view.ref) x) σ) : Run defs B T c (Idealize.ShloMosaic.smemLoad m r h1 hp) Ψ σ :=
  Run.load hb hS (Run.ret (hk _))

theorem Calm.run {p : Prog (TpuEff nD τ sig Val Λ .tc) α} (hp : Calm defs B T c K σ₀ p) (h : Kept K σ₀ σ)
    (hk : ∀ a σ', Kept K σ₀ σ' → Φ a σ') : Run defs B T c p Φ σ := (hp σ h).mono hk

/-- From every state with the copies of `σ₀` in flight and its contents in `K`, the program runs to a state as `Φ` asks. -/
def Lull (defs : Defs nD τ sig Val Λ) (B : Finset (Ref sig .tc)) (T : Finset (SemLoc sig)) (c : Dev nD) (K : Finset (Ref sig .tc)) (σ₀ : St sig Val)
    (Φ : α → St sig Val → Prop) (p : Prog (TpuEff nD τ sig Val Λ .tc) α) : Prop :=
  ∀ σ, Kept K σ₀ σ → Run defs B T c p Φ σ

theorem Lull.bind {p : Prog (TpuEff nD τ sig Val Λ .tc) β} {f : β → Prog (TpuEff nD τ sig Val Λ .tc) α}
    (hp : Calm defs B T c K σ₀ p) (hf : ∀ a, Lull defs B T c K σ₀ Φ (f a)) : Lull defs B T c K σ₀ Φ (p >>= f) :=
  fun σ h => Run.bind ((hp σ h).mono fun a σ' h' => hf a σ' h')

theorem Lull.dite {P : Prop} {_ : Decidable P} {p : P → Prog (TpuEff nD τ sig Val Λ .tc) α} {q : ¬P → Prog (TpuEff nD τ sig Val Λ .tc) α}
    (hp : ∀ h, Lull defs B T c K σ₀ Φ (p h)) (hq : ∀ h, Lull defs B T c K σ₀ Φ (q h)) : Lull defs B T c K σ₀ Φ (if h : P then p h else q h) := by
  split
  exacts [hp _, hq _]

theorem Lull.ite {P : Prop} {_ : Decidable P} {p q : Prog (TpuEff nD τ sig Val Λ .tc) α}
    (hp : Lull defs B T c K σ₀ Φ p) (hq : Lull defs B T c K σ₀ Φ q) : Lull defs B T c K σ₀ Φ (if P then p else q) := by
  split
  exacts [hp, hq]

/-- A branch that goes on the same either way. -/
theorem Run.same {P : Prop} {_ : Decidable P} {p : Prog (TpuEff nD τ sig Val Λ .tc) α} (h : Run defs B T c p Φ σ) :
    Run defs B T c (if P then p else p) Φ σ := Run.ite (fun _ => h) fun _ => h

end Rules

end Cert.Own

end
-- ==== Proof.Body.lean ====
/- The kernel body's buffers and semaphores, and each of its parts applied to them. -/
module

public import proofs.«01_k».proof.Proof.Gen.KernelIdeal.Skeleton
public import proofs.«01_k».proof.Proof.Gen.KernelIdeal.Points
public import proofs.«01_k».proof.Proof.Run

@[expose] public section

set_option maxRecDepth 16384

noncomputable section

namespace Cert.KernelIdeal.Body

open Cert.KernelIdeal Cert.KernelIdeal.Gen Cert.Own
open Idealize.ShloMosaic Idealize.ShloMosaic.TcCoe

variable {F : FTy → Type} [FloatOps F]

/-- The buffers the body reads or writes: the arrays it copies from and to, the staged blocks, its scratch and its rings. -/
def bufs : Finset (Ref sig .tc) :=
  {main_arg0, main_arg14, main_arg15, main_v0_0, main_v0_5, main_v0_6, cc0_stg0_0, cc0_stg1_0, cc0_stg2_0, cc0_stg3_0, cc0_stg4_0, cc0_stg5_0,
    cc0_stg6_0, cc0_stg7_0, cc0_stg8_0, cc0_stg9_0, cc0_stg10_0, cc0_stg11_0, cc0_stg12_0, cc0_stg13_0, cc0_stg14_0, cc0_stg15_0, cc0_stg16_0,
    cc0_scratch0, cc0_scratch1, cc0_scratch2, cc0_scratch3, cc0_scratch4, cc0_scratch5, cc0_scratch6, cc0_scratch7, cc0_scratch8, cc0_scratch9,
    cc0_scratch10, cc0_scratch11, cc0_scratch12, cc0_scratch13, cc0_scratch14, cc0_scoped0, cc0_scoped2, cc0_scoped4, cc0_scoped6, cc0_scoped8,
    cc0_scoped10}

/-- Its own DMA semaphores, two for each of the six rings. -/
def cell (j : Fin 12) : SemLoc sig := .dma ⟨17 + j.val, by have := j.isLt; show 17 + j.val < 29; omega⟩
def cells : Finset (SemLoc sig) := Finset.univ.image cell

/-- The buffers no copy reads or writes. -/
def still : Finset (Ref sig .tc) :=
  {cc0_stg0_0, cc0_stg1_0, cc0_stg2_0, cc0_stg3_0, cc0_stg4_0, cc0_stg5_0, cc0_stg6_0, cc0_stg7_0, cc0_stg8_0, cc0_stg9_0, cc0_stg10_0, cc0_stg11_0,
    cc0_stg12_0, cc0_stg13_0, cc0_stg14_0, cc0_stg15_0, cc0_stg16_0, cc0_scratch0, cc0_scratch1, cc0_scratch2, cc0_scratch3, cc0_scratch4,
    cc0_scratch5, cc0_scratch6, cc0_scratch7, cc0_scratch8, cc0_scratch9, cc0_scratch10, cc0_scratch11, cc0_scratch12, cc0_scratch13, cc0_scratch14}

/-- The buffers one block's work only reads: the staged inputs, the arrays copied from, the word that counts the blocks. -/
def keep : Finset (Ref sig .tc) :=
  {cc0_stg0_0, cc0_stg1_0, cc0_stg2_0, cc0_stg3_0, cc0_stg4_0, cc0_stg5_0, cc0_stg6_0, cc0_stg7_0, cc0_stg8_0, cc0_stg9_0, cc0_stg10_0, cc0_stg11_0,
    cc0_stg12_0, main_arg0, main_arg14, main_arg15, cc0_scratch14,
    cc0_scoped0, cc0_scoped2, cc0_scoped4}

/-- A part of the body, applied to the launch's buffers. -/
abbrev ap {γ : Sort _} (p : ∀
      (arg0 : Memref sig .tc .hbm S8x2048x1024 .f32) (harg0 : arg0.IsWhole) (arg1 : Memref sig .tc .vmem S8x6144 .f32) (harg1 : arg1.IsWhole)
      (arg2 : Memref sig .tc .vmem S1024x1536 .bf16) (harg2 : arg2.IsWhole) (arg3 : Memref sig .tc .vmem S10x512 .f32) (harg3 : arg3.IsWhole)
      (arg4 : Memref sig .tc .vmem S2x256x512 .bf16) (harg4 : arg4.IsWhole) (arg5 : Memref sig .tc .vmem S8x2048 .f32) (harg5 : arg5.IsWhole)
      (arg6 : Memref sig .tc .vmem S8x2048 .f32) (harg6 : arg6.IsWhole) (arg7 : Memref sig .tc .vmem S2x256x1024 .bf16) (harg7 : arg7.IsWhole)
      (arg8 : Memref sig .tc .vmem S2x256x1024 .bf16) (harg8 : arg8.IsWhole) (arg9 : Memref sig .tc .vmem S2x1024x256 .bf16) (harg9 : arg9.IsWhole)
      (arg10 : Memref sig .tc .vmem S2x1024x256 .bf16) (harg10 : arg10.IsWhole) (arg11 : Memref sig .tc .vmem S512x512 .bf16)
      (harg11 : arg11.IsWhole) (arg12 : Memref sig .tc .vmem S1024x1024 .bf16) (harg12 : arg12.IsWhole) (arg13 : Memref sig .tc .vmem S5x1024 .f32)
      (harg13 : arg13.IsWhole) (arg14 : Memref sig .tc .hbm S1024x4096 .f32) (harg14 : arg14.IsWhole) (arg15 : Memref sig .tc .hbm S4096x1024 .f32)
      (harg15 : arg15.IsWhole) (arg16 : Memref sig .tc .hbm S2048x8x1024 .f32) (harg16 : arg16.IsWhole) (arg17 : Memref sig .tc .vmem S24x512 .f32)
      (harg17 : arg17.IsWhole) (arg18 : Memref sig .tc .vmem S8x512 .f32) (harg18 : arg18.IsWhole) (arg19 : Memref sig .tc .vmem S8x2048 .f32)
      (harg19 : arg19.IsWhole) (arg20 : Memref sig .tc .vmem S8x2048 .f32) (harg20 : arg20.IsWhole) (arg21 : Memref sig .tc .hbm S1024x4096 .bf16)
      (harg21 : arg21.IsWhole) (arg22 : Memref sig .tc .hbm S4096x1024 .bf16) (harg22 : arg22.IsWhole) (arg23 : Memref sig .tc .vmem S512x1024 .f32)
      (harg23 : arg23.IsWhole) (arg24 : Memref sig .tc .vmem S512x1024 .f32) (harg24 : arg24.IsWhole) (arg25 : Memref sig .tc .vmem S512x1024 .bf16)
      (harg25 : arg25.IsWhole) (arg26 : Memref sig .tc .vmem S512x512 .f32) (harg26 : arg26.IsWhole) (arg27 : Memref sig .tc .vmem S512x512 .f32)
      (harg27 : arg27.IsWhole) (arg28 : Memref sig .tc .vmem S536x512 .f32) (harg28 : arg28.IsWhole) (arg29 : Memref sig .tc .vmem S512x512 .f32)
      (harg29 : arg29.IsWhole) (arg30 : Memref sig .tc .vmem S512x512 .f32) (harg30 : arg30.IsWhole) (arg31 : Memref sig .tc .vmem S512x512 .f32)
      (harg31 : arg31.IsWhole) (arg32 : Memref sig .tc .vmem S512x2048 .f32) (harg32 : arg32.IsWhole) (arg33 : Memref sig .tc .vmem S512x2048 .f32)
      (harg33 : arg33.IsWhole) (arg34 : Memref sig .tc .vmem S512x1024 .bf16) (harg34 : arg34.IsWhole) (arg35 : Memref sig .tc .vmem S512x512 .f32)
      (harg35 : arg35.IsWhole) (arg36 : Memref sig .tc .vmem S512x1024 .f32) (harg36 : arg36.IsWhole) (arg37 : Memref sig .tc .smem S1 .i32)
      (harg37 : arg37.IsWhole) (alloca_r0 : Memref sig .tc .vmem S2x8x64x1024 .f32) (halloca_r0 : alloca_r0.IsWhole) (v1_r0 : DmaSems sig S2)
      (alloca_0_r0 : Memref sig .tc .vmem S2x32x4096 .f32) (halloca_0_r0 : alloca_0_r0.IsWhole) (v2_r0 : DmaSems sig S2)
      (alloca_1_r0 : Memref sig .tc .vmem S2x128x1024 .f32) (halloca_1_r0 : alloca_1_r0.IsWhole) (v3_r0 : DmaSems sig S2)
      (alloca_2_r0 : Memref sig .tc .vmem S2x64x8x1024 .f32) (halloca_2_r0 : alloca_2_r0.IsWhole) (v4_r0 : DmaSems sig S2)
      (alloca_3_r0 : Memref sig .tc .vmem S2x32x4096 .bf16) (halloca_3_r0 : alloca_3_r0.IsWhole) (v5_r0 : DmaSems sig S2)
      (alloca_4_r0 : Memref sig .tc .vmem S2x128x1024 .bf16) (halloca_4_r0 : alloca_4_r0.IsWhole) (v6_r0 : DmaSems sig S2), γ) : γ :=
  p (Memref.whole main_arg0) (Memref.isWhole_whole _) (Memref.whole cc0_stg0_0) (Memref.isWhole_whole _) (Memref.whole cc0_stg1_0)
    (Memref.isWhole_whole _) (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _) (Memref.whole cc0_stg6_0)
    (Memref.isWhole_whole _) (Memref.whole cc0_stg7_0) (Memref.isWhole_whole _) (Memref.whole cc0_stg8_0) (Memref.isWhole_whole _)
    (Memref.whole cc0_stg9_0) (Memref.isWhole_whole _) (Memref.whole cc0_stg10_0) (Memref.isWhole_whole _) (Memref.whole cc0_stg11_0)
    (Memref.isWhole_whole _) (Memref.whole cc0_stg12_0) (Memref.isWhole_whole _) (Memref.whole main_arg14) (Memref.isWhole_whole _)
    (Memref.whole main_arg15) (Memref.isWhole_whole _) (Memref.whole main_v0_0) (Memref.isWhole_whole _) (Memref.whole cc0_stg13_0)
    (Memref.isWhole_whole _) (Memref.whole cc0_stg14_0) (Memref.isWhole_whole _) (Memref.whole cc0_stg15_0) (Memref.isWhole_whole _)
    (Memref.whole cc0_stg16_0) (Memref.isWhole_whole _) (Memref.whole main_v0_5) (Memref.isWhole_whole _) (Memref.whole main_v0_6)
    (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4)
    (Memref.isWhole_whole _) (Memref.whole cc0_scratch5) (Memref.isWhole_whole _) (Memref.whole cc0_scratch6) (Memref.isWhole_whole _)
    (Memref.whole cc0_scratch7) (Memref.isWhole_whole _) (Memref.whole cc0_scratch8) (Memref.isWhole_whole _) (Memref.whole cc0_scratch9)
    (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole cc0_scratch14)
    (Memref.isWhole_whole _) (Memref.whole cc0_scoped0) (Memref.isWhole_whole _) cc0_scoped1 (Memref.whole cc0_scoped2) (Memref.isWhole_whole _)
    cc0_scoped3 (Memref.whole cc0_scoped4) (Memref.isWhole_whole _) cc0_scoped5 (Memref.whole cc0_scoped6) (Memref.isWhole_whole _) cc0_scoped7
    (Memref.whole cc0_scoped8) (Memref.isWhole_whole _) cc0_scoped9 (Memref.whole cc0_scoped10) (Memref.isWhole_whole _) cc0_scoped11

instance : Reads bufs still (Memref.whole cc0_stg0_0 : Memref sig .tc _ _ _) := ⟨by decide, by decide⟩
instance : Reads bufs still (Memref.whole cc0_stg1_0 : Memref sig .tc _ _ _) := ⟨by decide, by decide⟩
instance : Reads bufs still (Memref.whole cc0_stg2_0 : Memref sig .tc _ _ _) := ⟨by decide, by decide⟩
instance : Reads bufs still (Memref.whole cc0_stg3_0 : Memref sig .tc _ _ _) := ⟨by decide, by decide⟩
instance : Reads bufs still (Memref.whole cc0_stg4_0 : Memref sig .tc _ _ _) := ⟨by decide, by decide⟩
instance : Reads bufs still (Memref.whole cc0_stg5_0 : Memref sig .tc _ _ _) := ⟨by decide, by decide⟩
instance : Reads bufs still (Memref.whole cc0_stg6_0 : Memref sig .tc _ _ _) := ⟨by decide, by decide⟩
instance : Reads bufs still (Memref.whole cc0_stg7_0 : Memref sig .tc _ _ _) := ⟨by decide, by decide⟩
instance : Reads bufs still (Memref.whole cc0_stg8_0 : Memref sig .tc _ _ _) := ⟨by decide, by decide⟩
instance : Reads bufs still (Memref.whole cc0_stg9_0 : Memref sig .tc _ _ _) := ⟨by decide, by decide⟩
instance : Reads bufs still (Memref.whole cc0_stg10_0 : Memref sig .tc _ _ _) := ⟨by decide, by decide⟩
instance : Reads bufs still (Memref.whole cc0_stg11_0 : Memref sig .tc _ _ _) := ⟨by decide, by decide⟩
instance : Reads bufs still (Memref.whole cc0_stg12_0 : Memref sig .tc _ _ _) := ⟨by decide, by decide⟩
instance : Reads bufs still (Memref.whole cc0_scratch14 : Memref sig .tc _ _ _) := ⟨by decide, by decide⟩
instance : Writes bufs still keep (Memref.whole cc0_stg13_0 : Memref sig .tc _ _ _) := { mem := by decide, still := by decide, free := by decide }
instance : Writes bufs still keep (Memref.whole cc0_stg14_0 : Memref sig .tc _ _ _) := { mem := by decide, still := by decide, free := by decide }
instance : Writes bufs still keep (Memref.whole cc0_stg15_0 : Memref sig .tc _ _ _) := { mem := by decide, still := by decide, free := by decide }
instance : Writes bufs still keep (Memref.whole cc0_stg16_0 : Memref sig .tc _ _ _) := { mem := by decide, still := by decide, free := by decide }
instance : Writes bufs still keep (Memref.whole cc0_scratch0 : Memref sig .tc _ _ _) := { mem := by decide, still := by decide, free := by decide }
instance : Writes bufs still keep (Memref.whole cc0_scratch1 : Memref sig .tc _ _ _) := { mem := by decide, still := by decide, free := by decide }
instance : Writes bufs still keep (Memref.whole cc0_scratch2 : Memref sig .tc _ _ _) := { mem := by decide, still := by decide, free := by decide }
instance : Writes bufs still keep (Memref.whole cc0_scratch3 : Memref sig .tc _ _ _) := { mem := by decide, still := by decide, free := by decide }
instance : Writes bufs still keep (Memref.whole cc0_scratch4 : Memref sig .tc _ _ _) := { mem := by decide, still := by decide, free := by decide }
instance : Writes bufs still keep (Memref.whole cc0_scratch5 : Memref sig .tc _ _ _) := { mem := by decide, still := by decide, free := by decide }
instance : Writes bufs still keep (Memref.whole cc0_scratch6 : Memref sig .tc _ _ _) := { mem := by decide, still := by decide, free := by decide }
instance : Writes bufs still keep (Memref.whole cc0_scratch7 : Memref sig .tc _ _ _) := { mem := by decide, still := by decide, free := by decide }
instance : Writes bufs still keep (Memref.whole cc0_scratch8 : Memref sig .tc _ _ _) := { mem := by decide, still := by decide, free := by decide }
instance : Writes bufs still keep (Memref.whole cc0_scratch9 : Memref sig .tc _ _ _) := { mem := by decide, still := by decide, free := by decide }
instance : Writes bufs still keep (Memref.whole cc0_scratch10 : Memref sig .tc _ _ _) := { mem := by decide, still := by decide, free := by decide }
instance : Writes bufs still keep (Memref.whole cc0_scratch11 : Memref sig .tc _ _ _) := { mem := by decide, still := by decide, free := by decide }
instance : Writes bufs still keep (Memref.whole cc0_scratch12 : Memref sig .tc _ _ _) := { mem := by decide, still := by decide, free := by decide }
instance : Writes bufs still keep (Memref.whole cc0_scratch13 : Memref sig .tc _ _ _) := { mem := by decide, still := by decide, free := by decide }

end Cert.KernelIdeal.Body

end
-- ==== Proof.Core.lean ====
/- One block's work leaves the buffers it only reads as they were, and the copies in flight. -/
module

public import proofs.«01_k».proof.Proof.Body

@[expose] public section

set_option maxRecDepth 16384

noncomputable section

namespace Cert.KernelIdeal.Body

open Cert.KernelIdeal Cert.KernelIdeal.Gen Cert.Own
open Idealize.ShloMosaic Idealize.ShloMosaic.TcCoe Idealize.SL.Sem

variable {F : FTy → Type} [FloatOps F] {σ₀ : St sig (Elt F)} {c : Dev nD}

theorem load1 (hQ : Still cells still σ₀.fl) {cs : CoreSpace} {s : Shape} {e : EltTy} {m : Memref sig .tc cs s e} [Reads bufs still m] {r : LoadRect s}
    {hl : m.view.LoadsAt r} : Calm (defs₀ (F := F)) bufs cells c keep σ₀ (Prog.lift (.load m r hl)) :=
  Calm.load hQ fun _ => Calm.ret _

theorem loadRows (hQ : Still cells still σ₀.fl) {cs : CoreSpace} {s : Shape} {e : EltTy} {m : Memref sig .tc cs s e} [Reads bufs still m] {r : Rect s}
    {hr : ∀ a, r.stride a = 1} {r' : LoadRect r.shape} {hl : (m.slice r hr).view.LoadsAt r'} :
    Calm (defs₀ (F := F)) bufs cells c keep σ₀ (Prog.lift (.load (m.slice r hr) r' hl)) :=
  Calm.loadIn (Reads.mem (m := m) still) (by
    rw [show St.lent cells σ₀.fl (m.slice r hr).view.ref = St.lent cells σ₀.fl m.view.ref from rfl, hQ _ (Reads.still (m := m) bufs)]
    exact Finset.disjoint_empty_right _) fun _ => Calm.ret _

theorem store1 (hQ : Still cells still σ₀.fl) {cs : CoreSpace} {s : Shape} {e : EltTy} {m : Memref sig .tc cs s e} [Writes bufs still keep m] {r : Rect s}
    {w : r.shape.Idx → Elt F e} {Mk : Finset r.shape.Idx} {hx : (m.access r).Stores Mk} {hm : Mk = Finset.univ ∨ ∀ a, r.stride a = 1} :
    Calm (defs₀ (F := F)) bufs cells c keep σ₀ (Prog.lift (.store m r w Mk hx hm)) :=
  Calm.store hQ (Calm.ret _)

theorem pure1 {α : Type} (a : α) : Calm (defs₀ (F := F)) bufs cells c keep σ₀ (pure a) := Calm.ret a

/-! The six rings: of `x`, `w1`, `w2` copied in, and of `x1` and the rounded `w1`, `w2` copied out. -/
abbrev ringX : Memref sig .tc .vmem S2x8x64x1024 .f32 := Memref.whole cc0_scoped0
abbrev ringW : Memref sig .tc .vmem S2x32x4096 .f32 := Memref.whole cc0_scoped2
abbrev ringV : Memref sig .tc .vmem S2x128x1024 .f32 := Memref.whole cc0_scoped4
abbrev ringO : Memref sig .tc .vmem S2x64x8x1024 .f32 := Memref.whole cc0_scoped6
abbrev ringP : Memref sig .tc .vmem S2x32x4096 .bf16 := Memref.whole cc0_scoped8
abbrev ringQ : Memref sig .tc .vmem S2x128x1024 .bf16 := Memref.whole cc0_scoped10

/-- The ring slots that one block's work reads and writes are not those the copies in flight have. -/
structure Slots (fl : SemLoc sig → Option (Flt sig)) (arg40 arg42 arg44 arg45 arg47 arg49 : BitVec 32) : Prop where
  x : Clear cells fl cc0_scoped0 (0 : Fin 4) (k0_off26 arg40 0)
  w : Clear cells fl cc0_scoped2 (0 : Fin 3) (k0_off28 arg42 0)
  v : Clear cells fl cc0_scoped4 (0 : Fin 3) (k0_off30 arg44 0)
  o : Clear cells fl cc0_scoped6 (0 : Fin 4) (k0_off27 arg45 0)
  p : Clear cells fl cc0_scoped8 (0 : Fin 3) (k0_off29 arg47 0)
  q : Clear cells fl cc0_scoped10 (0 : Fin 3) (k0_off31 arg49 0)

variable {arg40 arg42 arg44 arg45 arg47 arg49 : BitVec 32}

theorem x_load (h : Slots σ₀.fl arg40 arg42 arg44 arg45 arg47 arg49) {inb}
    {hl : ringX.view.LoadsAt (Rect.unit (s := S2x8x64x1024) (k0_off26 arg40) S1x8x64x1024.size inb).toLoadRect} :
    Calm (defs₀ (F := F)) bufs cells c keep σ₀ (Prog.lift (.load ringX (Rect.unit (s := S2x8x64x1024) (k0_off26 arg40) S1x8x64x1024.size inb).toLoadRect hl)) :=
  Calm.loadIn (by decide) (by rw [show ringX.view.setOn _ = _ from setOn_whole cc0_scoped0 _]; exact h.x.disjoint fun i hi => val_of_mem_unit _ rfl hi) fun _ => Calm.ret _

theorem w_load (h : Slots σ₀.fl arg40 arg42 arg44 arg45 arg47 arg49) {inb}
    {hl : ringW.view.LoadsAt (Rect.unit (s := S2x32x4096) (k0_off28 arg42) S1x32x4096.size inb).toLoadRect} :
    Calm (defs₀ (F := F)) bufs cells c keep σ₀ (Prog.lift (.load ringW (Rect.unit (s := S2x32x4096) (k0_off28 arg42) S1x32x4096.size inb).toLoadRect hl)) :=
  Calm.loadIn (by decide) (by rw [show ringW.view.setOn _ = _ from setOn_whole cc0_scoped2 _]; exact h.w.disjoint fun i hi => val_of_mem_unit _ rfl hi) fun _ => Calm.ret _

theorem v_load (h : Slots σ₀.fl arg40 arg42 arg44 arg45 arg47 arg49) {inb}
    {hl : ringV.view.LoadsAt (Rect.unit (s := S2x128x1024) (k0_off30 arg44) S1x128x1024.size inb).toLoadRect} :
    Calm (defs₀ (F := F)) bufs cells c keep σ₀ (Prog.lift (.load ringV (Rect.unit (s := S2x128x1024) (k0_off30 arg44) S1x128x1024.size inb).toLoadRect hl)) :=
  Calm.loadIn (by decide) (by rw [show ringV.view.setOn _ = _ from setOn_whole cc0_scoped4 _]; exact h.v.disjoint fun i hi => val_of_mem_unit _ rfl hi) fun _ => Calm.ret _

theorem o_load (h : Slots σ₀.fl arg40 arg42 arg44 arg45 arg47 arg49) {inb}
    {hl : ringO.view.LoadsAt (Rect.unit (s := S2x64x8x1024) (k0_off27 arg45) S1x64x8x1024.size inb).toLoadRect} :
    Calm (defs₀ (F := F)) bufs cells c keep σ₀ (Prog.lift (.load ringO (Rect.unit (s := S2x64x8x1024) (k0_off27 arg45) S1x64x8x1024.size inb).toLoadRect hl)) :=
  Calm.loadIn (by decide) (by rw [show ringO.view.setOn _ = _ from setOn_whole cc0_scoped6 _]; exact h.o.disjoint fun i hi => val_of_mem_unit _ rfl hi) fun _ => Calm.ret _

theorem p_load (h : Slots σ₀.fl arg40 arg42 arg44 arg45 arg47 arg49) {inb}
    {hl : ringP.view.LoadsAt (Rect.unit (s := S2x32x4096) (k0_off29 arg47) S1x32x4096.size inb).toLoadRect} :
    Calm (defs₀ (F := F)) bufs cells c keep σ₀ (Prog.lift (.load ringP (Rect.unit (s := S2x32x4096) (k0_off29 arg47) S1x32x4096.size inb).toLoadRect hl)) :=
  Calm.loadIn (by decide) (by rw [show ringP.view.setOn _ = _ from setOn_whole cc0_scoped8 _]; exact h.p.disjoint fun i hi => val_of_mem_unit _ rfl hi) fun _ => Calm.ret _

theorem q_load (h : Slots σ₀.fl arg40 arg42 arg44 arg45 arg47 arg49) {inb}
    {hl : ringQ.view.LoadsAt (Rect.unit (s := S2x128x1024) (k0_off31 arg49) S1x128x1024.size inb).toLoadRect} :
    Calm (defs₀ (F := F)) bufs cells c keep σ₀ (Prog.lift (.load ringQ (Rect.unit (s := S2x128x1024) (k0_off31 arg49) S1x128x1024.size inb).toLoadRect hl)) :=
  Calm.loadIn (by decide) (by rw [show ringQ.view.setOn _ = _ from setOn_whole cc0_scoped10 _]; exact h.q.disjoint fun i hi => val_of_mem_unit _ rfl hi) fun _ => Calm.ret _

theorem o_store (h : Slots σ₀.fl arg40 arg42 arg44 arg45 arg47 arg49) {inb} {w}
    {hx : (ringO.access (Rect.unit (s := S2x64x8x1024) (k0_off27 arg45) S1x64x8x1024.size inb)).Stores Finset.univ} {hm} :
    Calm (defs₀ (F := F)) bufs cells c keep σ₀ (Prog.lift (.store ringO (Rect.unit (s := S2x64x8x1024) (k0_off27 arg45) S1x64x8x1024.size inb) w Finset.univ hx hm)) :=
  Calm.storeIn (by decide) (by decide) (by
    rw [View.setOn_univ, show (ringO.access (Rect.unit (s := S2x64x8x1024) (k0_off27 arg45) S1x64x8x1024.size inb)).set = _ from View.set_slice_whole _ _]
    exact h.o.disjoint fun i hi => val_of_mem_unit _ rfl hi) (Calm.ret _)

theorem p_store (h : Slots σ₀.fl arg40 arg42 arg44 arg45 arg47 arg49) {inb} {w}
    {hx : (ringP.access (Rect.unit (s := S2x32x4096) (k0_off29 arg47) S1x32x4096.size inb)).Stores Finset.univ} {hm} :
    Calm (defs₀ (F := F)) bufs cells c keep σ₀ (Prog.lift (.store ringP (Rect.unit (s := S2x32x4096) (k0_off29 arg47) S1x32x4096.size inb) w Finset.univ hx hm)) :=
  Calm.storeIn (by decide) (by decide) (by
    rw [View.setOn_univ, show (ringP.access (Rect.unit (s := S2x32x4096) (k0_off29 arg47) S1x32x4096.size inb)).set = _ from View.set_slice_whole _ _]
    exact h.p.disjoint fun i hi => val_of_mem_unit _ rfl hi) (Calm.ret _)

theorem q_store (h : Slots σ₀.fl arg40 arg42 arg44 arg45 arg47 arg49) {inb} {w}
    {hx : (ringQ.access (Rect.unit (s := S2x128x1024) (k0_off31 arg49) S1x128x1024.size inb)).Stores Finset.univ} {hm} :
    Calm (defs₀ (F := F)) bufs cells c keep σ₀ (Prog.lift (.store ringQ (Rect.unit (s := S2x128x1024) (k0_off31 arg49) S1x128x1024.size inb) w Finset.univ hx hm)) :=
  Calm.storeIn (by decide) (by decide) (by
    rw [View.setOn_univ, show (ringQ.access (Rect.unit (s := S2x128x1024) (k0_off31 arg49) S1x128x1024.size inb)).set = _ from View.set_slice_whole _ _]
    exact h.q.disjoint fun i hi => val_of_mem_unit _ rfl hi) (Calm.ret _)

theorem off32_eq : k0_off32 = k0_off27 := rfl

theorem calm_init (hQ : Still cells still σ₀.fl) (hS : Slots σ₀.fl arg40 arg42 arg44 arg45 arg47 arg49) :
    Calm (defs₀ (F := F)) bufs cells c keep σ₀ (ap (k0_part1 (F := F))) := by
  repeat' first
    | with_reducible exact pure1 _
    | with_reducible refine Calm.bind ?_ fun _ => ?_
    | with_reducible exact load1 hQ
    | with_reducible exact store1 hQ
    | (simp only [
        k0_part1_eq_skeleton]
       dsimp only [ap,
        k0_part1_skel])
    | exact loadRows hQ
    | exact x_load hS
    | exact w_load hS
    | exact v_load hS
    | exact o_load hS
    | exact p_load hS
    | exact q_load hS
    | exact o_store hS
    | exact p_store hS
    | exact q_store hS

set_option maxHeartbeats 4000000 in
theorem calm_first (hQ : Still cells still σ₀.fl) (hS : Slots σ₀.fl arg40 arg42 arg44 arg45 arg47 arg49) (w pid h h') :
    Calm (defs₀ (F := F)) bufs cells c keep σ₀ (ap (k0_part96 (F := F)) arg40 arg42 arg44 arg45 arg47 arg49 w pid h h') := by
  repeat' first
    | with_reducible exact pure1 _
    | with_reducible refine Calm.bind ?_ fun _ => ?_
    | with_reducible exact load1 hQ
    | with_reducible exact store1 hQ
    | (simp only [
        k0_part96_eq_skeleton, k0_part2_eq_skeleton, k0_part3_eq_skeleton, k0_part4_eq_skeleton, k0_part5_eq_skeleton,
        k0_part6_eq_skeleton, k0_part7_eq_skeleton, k0_part8_eq_skeleton, k0_part9_eq_skeleton, k0_part10_eq_skeleton,
        k0_part11_eq_skeleton, k0_part12_eq_skeleton, k0_part13_eq_skeleton, k0_part14_eq_skeleton, k0_part15_eq_skeleton,
        k0_part16_eq_skeleton, k0_part17_eq_skeleton, k0_part18_eq_skeleton, k0_part19_eq_skeleton, k0_part20_eq_skeleton,
        k0_part21_eq_skeleton, k0_part22_eq_skeleton, k0_part23_eq_skeleton, k0_part24_eq_skeleton, k0_part25_eq_skeleton,
        k0_part26_eq_skeleton, k0_part27_eq_skeleton, k0_part28_eq_skeleton, k0_part29_eq_skeleton, k0_part30_eq_skeleton,
        k0_part31_eq_skeleton, k0_part32_eq_skeleton, k0_part33_eq_skeleton, k0_part34_eq_skeleton, k0_part35_eq_skeleton,
        k0_part36_eq_skeleton, k0_part37_eq_skeleton, k0_part38_eq_skeleton, k0_part39_eq_skeleton, k0_part40_eq_skeleton,
        k0_part41_eq_skeleton, k0_part42_eq_skeleton, k0_part43_eq_skeleton, k0_part44_eq_skeleton, k0_part45_eq_skeleton,
        k0_part46_eq_skeleton, k0_part47_eq_skeleton, k0_part48_eq_skeleton, k0_part49_eq_skeleton, k0_part50_eq_skeleton,
        k0_part51_eq_skeleton, k0_part52_eq_skeleton, k0_part53_eq_skeleton, k0_part54_eq_skeleton, k0_part55_eq_skeleton,
        k0_part56_eq_skeleton, k0_part57_eq_skeleton, k0_part58_eq_skeleton, k0_part59_eq_skeleton, k0_part60_eq_skeleton,
        k0_part61_eq_skeleton]
       dsimp only [ap,
        k0_part96_skel, k0_part2_skel, k0_part3_skel, k0_part4_skel, k0_part5_skel, k0_part6_skel, k0_part7_skel, k0_part8_skel,
        k0_part9_skel, k0_part10_skel, k0_part11_skel, k0_part12_skel, k0_part13_skel, k0_part14_skel, k0_part15_skel, k0_part16_skel,
        k0_part17_skel, k0_part18_skel, k0_part19_skel, k0_part20_skel, k0_part21_skel, k0_part22_skel, k0_part23_skel, k0_part24_skel,
        k0_part25_skel, k0_part26_skel, k0_part27_skel, k0_part28_skel, k0_part29_skel, k0_part30_skel, k0_part31_skel, k0_part32_skel,
        k0_part33_skel, k0_part34_skel, k0_part35_skel, k0_part36_skel, k0_part37_skel, k0_part38_skel, k0_part39_skel, k0_part40_skel,
        k0_part41_skel, k0_part42_skel, k0_part43_skel, k0_part44_skel, k0_part45_skel, k0_part46_skel, k0_part47_skel, k0_part48_skel,
        k0_part49_skel, k0_part50_skel, k0_part51_skel, k0_part52_skel, k0_part53_skel, k0_part54_skel, k0_part55_skel, k0_part56_skel,
        k0_part57_skel, k0_part58_skel, k0_part59_skel, k0_part60_skel, k0_part61_skel])
    | exact loadRows hQ
    | exact x_load hS
    | exact w_load hS
    | exact v_load hS
    | exact o_load hS
    | exact p_load hS
    | exact q_load hS
    | exact o_store hS
    | exact p_store hS
    | exact q_store hS

end Cert.KernelIdeal.Body

end
-- ==== Proof.Ring.lean ====
/- The six rings of the body's pipeline: which blocks are in flight, and one issue and one wait on a ring. -/
module

public import proofs.«01_k».proof.Proof.Body

@[expose] public section

set_option maxRecDepth 16384

noncomputable section

namespace Cert.KernelIdeal.Body

open Cert.KernelIdeal Cert.KernelIdeal.Gen Cert.Own
open Idealize.ShloMosaic Idealize.ShloMosaic.TcCoe Idealize.SL.Sem

variable {F : FTy → Type} [FloatOps F]

/-- The two-slot buffer of each ring, the array it copies from or to, the axis it cuts that array along, and the length of a block there. -/
def ringOf : Fin 6 → Ref sig .tc := ![cc0_scoped0, cc0_scoped2, cc0_scoped4, cc0_scoped6, cc0_scoped8, cc0_scoped10]
def arrOf : Fin 6 → Ref sig .tc := ![main_arg0, main_arg14, main_arg15, main_v0_0, main_v0_5, main_v0_6]
def axOf : Fin 6 → ℕ := ![1, 0, 0, 0, 0, 0]
def lenOf : Fin 6 → ℕ := ![64, 32, 128, 64, 32, 128]

/-- The semaphore of a ring's slot. -/
def cellOf (r : Fin 6) (s : Fin 2) : SemLoc sig := cell ⟨2 * r.val + s.val, by omega⟩

/-- One coordinate of an element, 0 on an axis it has not. -/
def coord (b : Ref sig .tc) (i : b.ty.Idx) (a : ℕ) : ℕ := if h : a < b.ty.shape.rank then (i ⟨a, h⟩).val else 0

/-- The elements a copy of block `n` through slot `s` of ring `r` may read or write. -/
def Part (r : Fin 6) (s : Fin 2) (n : ℕ) (b : Ref sig .tc) (i : b.ty.Idx) : Prop :=
  (b = ringOf r ∧ coord b i 0 = s.val) ∨ (b = arrOf r ∧ coord b i (axOf r) / lenOf r = n)

/-- What a copy on each ring adds to its semaphore. -/
def amtOf : Fin 6 → ℕ := ![
  cc0_scoped0.dmaCredit S8x64x1024 .f32, cc0_scoped2.dmaCredit S32x4096 .f32, cc0_scoped4.dmaCredit S128x1024 .f32,
  main_v0_0.dmaCredit S64x8x1024 .f32, main_v0_5.dmaCredit S32x4096 .bf16, main_v0_6.dmaCredit S128x1024 .bf16]

/-- `f r s` is the block in flight through slot `s` of ring `r`, if any. -/
def Flying (fl : SemLoc sig → Option (Flt sig)) (f : Fin 6 → Fin 2 → Option ℕ) : Prop :=
  ∀ r s, (f r s = none → fl (cellOf r s) = none) ∧
    ∀ n, f r s = some n → ∃ d, fl (cellOf r s) = some d ∧ d.amt = amtOf r ∧ ∀ b, ∀ i ∈ d.cells b, Part r s n b i

/-- `f` with ring `r`'s slot `s` set to `v`. -/
def put (f : Fin 6 → Fin 2 → Option ℕ) (r : Fin 6) (s : Fin 2) (v : Option ℕ) : Fin 6 → Fin 2 → Option ℕ :=
  fun r' s' => if r' = r ∧ s' = s then v else f r' s'

theorem cellOf_inj : ∀ r s r' s', cellOf r s = cellOf r' s' → r = r' ∧ s = s' := by decide
theorem cellOf_mem : ∀ r s, cellOf r s ∈ cells := by decide
theorem ring_arr : ∀ r r', ringOf r ≠ arrOf r' := by decide
theorem ring_inj : ∀ r r', ringOf r = ringOf r' → r = r' := by decide
theorem arr_inj : ∀ r r', arrOf r = arrOf r' → r = r' := by decide
theorem ring_mem : ∀ r, ringOf r ∈ bufs := by decide
theorem arr_mem : ∀ r, arrOf r ∈ bufs := by decide
theorem ring_still : ∀ r, ringOf r ∉ still := by decide
theorem arr_still : ∀ r, arrOf r ∉ still := by decide
theorem amt_pos : ∀ r, 0 < amtOf r := by
  intro r
  fin_cases r <;> exact sig.dmaCredit_pos _ _ _ _ _ (by decide)

theorem mem_cells {s : SemLoc sig} (h : s ∈ cells) : ∃ r t, s = cellOf r t := by
  obtain ⟨j, -, rfl⟩ := Finset.mem_image.1 h
  refine ⟨⟨j.val / 2, by omega⟩, ⟨j.val % 2, by omega⟩, ?_⟩
  unfold cellOf; congr 1; apply Fin.ext; show j.val = 2 * (j.val / 2) + j.val % 2; omega

theorem Flying.lent {fl : SemLoc sig → Option (Flt sig)} {f : Fin 6 → Fin 2 → Option ℕ} (h : Flying fl f) {b : Ref sig .tc} {i : b.ty.Idx}
    (hi : i ∈ St.lent cells fl b) : ∃ r s n, f r s = some n ∧ Part r s n b i := by
  obtain ⟨c, hc, d, hd, hi⟩ := mem_lent.1 hi
  obtain ⟨r, s, rfl⟩ := mem_cells hc
  cases hn : f r s with
  | none => rw [(h r s).1 hn] at hd; cases hd
  | some n =>
    obtain ⟨d', hd', -, hp⟩ := (h r s).2 n hn
    rw [hd] at hd'; obtain rfl := Option.some.inj hd'
    exact ⟨r, s, n, hn, hp b i hi⟩

theorem Flying.still {fl : SemLoc sig → Option (Flt sig)} {f : Fin 6 → Fin 2 → Option ℕ} (h : Flying fl f) : Still cells still fl := fun b hb =>
  Finset.eq_empty_of_forall_notMem fun i hi => by
    obtain ⟨r, s, n, -, ⟨rfl, -⟩ | ⟨rfl, -⟩⟩ := h.lent hi
    · exact ring_still r hb
    · exact arr_still r hb

theorem Flying.clear {fl : SemLoc sig → Option (Flt sig)} {f : Fin 6 → Fin 2 → Option ℕ} (h : Flying fl f) (r : Fin 6) (s : Fin 2)
    (hf : f r s = none) {i : (ringOf r).ty.Idx} (hi : i ∈ St.lent cells fl (ringOf r)) : coord (ringOf r) i 0 ≠ s.val := by
  obtain ⟨r', s', n, hn, ⟨e, hc⟩ | ⟨e, -⟩⟩ := h.lent hi
  · obtain rfl := ring_inj _ _ e
    intro hs
    rw [hc] at hs
    rw [Fin.ext hs, hf] at hn; cases hn
  · exact absurd e (ring_arr _ _)

theorem Flying.congr {fl : SemLoc sig → Option (Flt sig)} {f g : Fin 6 → Fin 2 → Option ℕ} (h : Flying fl f) (e : ∀ r s, f r s = g r s) : Flying fl g := by
  rw [show g = f from (funext fun r => funext fun s => (e r s).symm)]; exact h

theorem Flying.fly {σ : St sig (Elt F)} {f : Fin 6 → Fin 2 → Option ℕ} (h : Flying σ.fl f) (r : Fin 6) (s : Fin 2) {v : Option ℕ} {d : Option (Flt sig)}
    (h0 : v = none → d = none) (h1 : ∀ n, v = some n → ∃ e, d = some e ∧ e.amt = amtOf r ∧ ∀ b, ∀ i ∈ e.cells b, Part r s n b i) :
    Flying (σ.fly (cellOf r s) d).fl (put f r s v) := by
  intro r' s'
  by_cases e : r' = r ∧ s' = s
  · obtain ⟨rfl, rfl⟩ := e
    rw [St.fly_fl_self, show put f r' s' v r' s' = v from if_pos ⟨rfl, rfl⟩]
    exact ⟨h0, h1⟩
  · rw [St.fly_fl_of_ne _ _ (fun hc => e (cellOf_inj _ _ _ _ hc)), show put f r s v r' s' = f r' s' from if_neg e]
    exact h r' s'

/-- Issuing the copy of block `n` through slot `s` of ring `r`, when neither the slot nor the block is in flight. -/
theorem issue {c : Dev 1} {σ : St sig (Elt F)} {f : Fin 6 → Fin 2 → Option ℕ} (hF : Flying σ.fl f) (r : Fin 6) (s : Fin 2) (n : ℕ)
    (hf : f r s = none) (hn : ∀ s', f r s' ≠ some n) {sp sp' : Space} {sh : Shape} {e : EltTy} {src : Memref sig .tc sp sh e} {dst : Memref sig .tc sp' sh e}
    {sm : SemLoc sig} {hsrc : src.view.WordExact} {hdst : dst.view.WordExact} {hsem : DmaTarget.Typed (nD := 1) (τ := τ) (p := .tc) sp sm (.here dst)}
    (hsm : sm = cellOf r s) (hb : (src.view.ref = arrOf r ∧ dst.view.ref = ringOf r) ∨ (src.view.ref = ringOf r ∧ dst.view.ref = arrOf r))
    (hN : dst.view.amount sm = amtOf r)
    (hS : ∀ i ∈ src.view.set, Part r s n src.view.ref i) (hD : ∀ i ∈ dst.view.set, Part r s n dst.view.ref i) :
    Run (defs₀ (F := F)) bufs cells c (Prog.lift (.enqueueDma src (.here dst) sm hsrc hdst hsem)) (fun _ σ' => Flying σ'.fl (put f r s (some n)) ∧
      (∀ b, b ≠ dst.view.ref → σ'.mem b = σ.mem b) ∧
      σ'.mem dst.view.ref = dst.view.write (Elt F) (σ.mem dst.view.ref) (src.view.read (Elt F) (σ.mem src.view.ref)) Finset.univ) σ := by
  subst hsm
  have hapart : ∀ {b : Ref sig .tc} {i : b.ty.Idx}, Part r s n b i → i ∉ St.lent cells σ.fl b := by
    intro b i hp hi
    obtain ⟨r', s', n', hn', hp'⟩ := hF.lent hi
    rcases hp with ⟨rfl, h1⟩ | ⟨rfl, h1⟩ <;> rcases hp' with ⟨e, h2⟩ | ⟨e, h2⟩
    · obtain rfl := ring_inj _ _ e
      have : s = s' := Fin.ext (h1.symm.trans h2)
      subst this; rw [hf] at hn'; cases hn'
    · exact ring_arr _ _ e
    · exact ring_arr _ _ e.symm
    · obtain rfl := arr_inj _ _ e
      exact hn s' (by rw [hn', ← h1, ← h2])
  refine Run.enqueue (cellOf_mem r s) ((hF r s).1 hf) ?_ ?_ ?_ ?_ ?_ ?_ (Run.ret ⟨?_, ?_, ?_⟩)
  · rcases hb with ⟨h, -⟩ | ⟨h, -⟩ <;> rw [h]; exacts [arr_mem r, ring_mem r]
  · rcases hb with ⟨-, h⟩ | ⟨-, h⟩ <;> rw [h]; exacts [ring_mem r, arr_mem r]
  · rcases hb with ⟨h, h'⟩ | ⟨h, h'⟩ <;> rw [h, h']; exacts [(ring_arr _ _).symm, ring_arr _ _]
  · rw [hN]; exact amt_pos r
  · exact Finset.disjoint_left.2 fun i hi => hapart (hS i hi)
  · exact Finset.disjoint_left.2 fun i hi => hapart (hD i hi)
  · refine Flying.fly (σ := σ.set _ _) hF r s (fun h => by cases h) fun m hm => ⟨_, rfl, hN, fun b i hi => ?_⟩
    obtain rfl := Option.some.inj hm
    have hne : src.view.ref ≠ dst.view.ref := by
      rcases hb with ⟨h, h'⟩ | ⟨h, h'⟩ <;> rw [h, h']; exacts [(ring_arr _ _).symm, ring_arr _ _]
    rcases Finset.mem_union.1 hi with hi | hi
    · by_cases e : b = src.view.ref
      · subst e; rw [cellsAt_self] at hi; exact hS i hi
      · rw [cellsAt_of_ne _ e] at hi; exact absurd hi (Finset.notMem_empty _)
    · by_cases e : b = dst.view.ref
      · subst e; rw [cellsAt_self] at hi; exact hD i hi
      · rw [cellsAt_of_ne _ e] at hi; exact absurd hi (Finset.notMem_empty _)
  · intro b hb'; exact St.set_mem_of_ne _ _ hb'
  · exact St.set_mem_self ..

/-- Waiting for what is in flight through slot `s` of ring `r`. -/
theorem await {c : Dev 1} {σ : St sig (Elt F)} {f : Fin 6 → Fin 2 → Option ℕ} (hF : Flying σ.fl f) (r : Fin 6) (s : Fin 2) (n : ℕ)
    (hf : f r s = some n) {sp sp' : Space} {sh sh' : Shape} {e e' : EltTy} {sem : DmaSem sig} {srcw : Memref sig .tc sp' sh' e'} {dstw : Memref sig .tc sp sh e}
    {hsrc : srcw.view.WordExact} {hdst : dstw.view.WordExact} (hsm : SemLoc.dma sem = cellOf r s) (hN : dstw.view.dmaCredit = amtOf r) :
    Run (defs₀ (F := F)) bufs cells c (Prog.lift (.waitDma2 sem srcw dstw hsrc hdst)) (fun _ σ' => Flying σ'.fl (put f r s none) ∧ σ'.mem = σ.mem) σ := by
  obtain ⟨d, hd, ha, -⟩ := (hF r s).2 n hf
  refine Run.wait (d := d) (by rw [hsm]; exact cellOf_mem r s) (by rw [hsm]; exact hd) (hN.trans ha.symm) (Run.ret ⟨?_, rfl⟩)
  rw [hsm]
  exact hF.fly r s (fun _ => rfl) fun m hm => by cases hm

theorem part_ring {b : Ref sig .tc} {off size : Fin b.ty.shape.rank → ℕ} {inb} (r : Fin 6) (s : Fin 2) (n : ℕ) (hb : b = ringOf r)
    (h0 : 0 < b.ty.shape.rank) (h1 : size ⟨0, h0⟩ = 1) (ho : off ⟨0, h0⟩ = s.val) :
    ∀ i ∈ ((View.whole b).slice (Rect.unit (s := b.ty.shape) off size inb)).set, Part r s n b i := fun i hi => by
  rw [View.set_slice_whole] at hi
  refine .inl ⟨hb, ?_⟩
  unfold coord; rw [dif_pos h0, val_of_mem_unit _ h1 hi, ho]

theorem part_arr {b : Ref sig .tc} {off size : Fin b.ty.shape.rank → ℕ} {inb} (r : Fin 6) (s : Fin 2) (n : ℕ) (hb : b = arrOf r)
    (h0 : axOf r < b.ty.shape.rank) (h1 : size ⟨axOf r, h0⟩ = lenOf r) (ho : off ⟨axOf r, h0⟩ = lenOf r * n) :
    ∀ i ∈ ((View.whole b).slice (Rect.unit (s := b.ty.shape) off size inb)).set, Part r s n b i := fun i hi => by
  rw [View.set_slice_whole] at hi
  refine .inr ⟨hb, ?_⟩
  have h := Rect.mem_set_unit.1 hi ⟨axOf r, h0⟩
  unfold coord; rw [dif_pos h0]
  rw [h1, ho] at h
  exact Nat.div_eq_of_lt_le (by rw [Nat.mul_comm]; exact h.1) (by rw [Nat.succ_mul, Nat.mul_comm]; exact h.2)

theorem mem_reshape {κ : Kind} {sp : Space} {s s' : Shape} {e : EltTy} {v : View sig κ sp s e} {h : s'.numel = s.numel} {i : v.ty.Idx} :
    i ∈ (v.reshape s' h).set ↔ i ∈ v.set := by rw [View.set_reshape]

theorem rowMajor_two : ∀ i : S2.Idx, (S2.rowMajor i).val = (i 0).val := by decide

theorem sem_at {base : ℕ} {hb : base + S2.numel ≤ 29} {off : Fin 1 → ℕ} {inb} {r : Fin 6} (s : Fin 2) (h : off 0 = s.val) (hr : base = 17 + 2 * r.val) :
    SemLoc.dma ((((SemArray.consecutive base S2 hb : DmaSems sig S2)).slice (Rect.unit (s := S2) off S1.size inb)).squeeze S_ squeezes_S1_S_).sem = cellOf r s := by
  unfold cellOf cell
  congr 1
  apply Fin.ext
  have e : (((((SemArray.consecutive base S2 hb : DmaSems sig S2)).slice (Rect.unit (s := S2) off S1.size inb)).squeeze S_ squeezes_S1_S_).sem).val
      = base + (S2.rowMajor ((Rect.unit (s := S2) off S1.size inb).emb (Shape.reshapeEquiv squeezes_S1_S_.numel_eq (fun i : Fin 0 => i.elim0)))).val := rfl
  rw [e, rowMajor_two]
  have e2 : ∀ j : S1.Idx, (((Rect.unit (s := S2) off S1.size inb).emb j) 0).val = off 0 := fun j =>
    val_of_mem_unit (s := S2) (off := off) (size := S1.size) (inb := inb) 0 rfl (by rw [← Rect.map_emb_univ]; exact Finset.mem_map_of_mem _ (Finset.mem_univ _))
  rw [e2, h, hr]
  show _ = 17 + (2 * r.val + s.val)
  omega

theorem sem_x {off : Fin 1 → ℕ} {inb} (s : Fin 2) (h : off 0 = s.val) :
    SemLoc.dma ((cc0_scoped1.slice (Rect.unit (s := S2) off S1.size inb)).squeeze S_ squeezes_S1_S_).sem = cellOf 0 s :=
  sem_at s h rfl

theorem slot_x {off : Fin 4 → ℕ} {inb} (s : Fin 2) (n : ℕ) (h : off 0 = s.val) : ∀ i ∈ ((((Memref.whole cc0_scoped0 : Memref sig .tc .vmem S2x8x64x1024 .f32).slice
    (Rect.unit (s := S2x8x64x1024) off S1x8x64x1024.size inb) (fun _ => rfl)).squeeze S8x64x1024 squeezes_S1x8x64x1024_S8x64x1024).view.set), Part 0 s n cc0_scoped0 i := fun i hi => by
  replace hi := mem_reshape.1 hi
  exact part_ring 0 s n rfl (by decide) rfl h i hi

theorem block_x {off : Fin 3 → ℕ} {inb} (s : Fin 2) (n : ℕ) (h : off 1 = 64 * n) : ∀ i ∈ (((Memref.whole main_arg0 : Memref sig .tc .hbm S8x2048x1024 .f32).slice
    (Rect.unit (s := S8x2048x1024) off S8x64x1024.size inb) (fun _ => rfl)).view.set), Part 0 s n main_arg0 i := fun i hi =>
  part_arr 0 s n rfl (by decide) rfl h i hi

theorem sem_w {off : Fin 1 → ℕ} {inb} (s : Fin 2) (h : off 0 = s.val) :
    SemLoc.dma ((cc0_scoped3.slice (Rect.unit (s := S2) off S1.size inb)).squeeze S_ squeezes_S1_S_).sem = cellOf 1 s :=
  sem_at s h rfl

theorem slot_w {off : Fin 3 → ℕ} {inb} (s : Fin 2) (n : ℕ) (h : off 0 = s.val) : ∀ i ∈ ((((Memref.whole cc0_scoped2 : Memref sig .tc .vmem S2x32x4096 .f32).slice
    (Rect.unit (s := S2x32x4096) off S1x32x4096.size inb) (fun _ => rfl)).squeeze S32x4096 squeezes_S1x32x4096_S32x4096).view.set), Part 1 s n cc0_scoped2 i := fun i hi => by
  replace hi := mem_reshape.1 hi
  exact part_ring 1 s n rfl (by decide) rfl h i hi

theorem block_w {off : Fin 2 → ℕ} {inb} (s : Fin 2) (n : ℕ) (h : off 0 = 32 * n) : ∀ i ∈ (((Memref.whole main_arg14 : Memref sig .tc .hbm S1024x4096 .f32).slice
    (Rect.unit (s := S1024x4096) off S32x4096.size inb) (fun _ => rfl)).view.set), Part 1 s n main_arg14 i := fun i hi =>
  part_arr 1 s n rfl (by decide) rfl h i hi

theorem sem_v {off : Fin 1 → ℕ} {inb} (s : Fin 2) (h : off 0 = s.val) :
    SemLoc.dma ((cc0_scoped5.slice (Rect.unit (s := S2) off S1.size inb)).squeeze S_ squeezes_S1_S_).sem = cellOf 2 s :=
  sem_at s h rfl

theorem slot_v {off : Fin 3 → ℕ} {inb} (s : Fin 2) (n : ℕ) (h : off 0 = s.val) : ∀ i ∈ ((((Memref.whole cc0_scoped4 : Memref sig .tc .vmem S2x128x1024 .f32).slice
    (Rect.unit (s := S2x128x1024) off S1x128x1024.size inb) (fun _ => rfl)).squeeze S128x1024 squeezes_S1x128x1024_S128x1024).view.set), Part 2 s n cc0_scoped4 i := fun i hi => by
  replace hi := mem_reshape.1 hi
  exact part_ring 2 s n rfl (by decide) rfl h i hi

theorem block_v {off : Fin 2 → ℕ} {inb} (s : Fin 2) (n : ℕ) (h : off 0 = 128 * n) : ∀ i ∈ (((Memref.whole main_arg15 : Memref sig .tc .hbm S4096x1024 .f32).slice
    (Rect.unit (s := S4096x1024) off S128x1024.size inb) (fun _ => rfl)).view.set), Part 2 s n main_arg15 i := fun i hi =>
  part_arr 2 s n rfl (by decide) rfl h i hi

theorem sem_o {off : Fin 1 → ℕ} {inb} (s : Fin 2) (h : off 0 = s.val) :
    SemLoc.dma ((cc0_scoped7.slice (Rect.unit (s := S2) off S1.size inb)).squeeze S_ squeezes_S1_S_).sem = cellOf 3 s :=
  sem_at s h rfl

theorem slot_o {off : Fin 4 → ℕ} {inb} (s : Fin 2) (n : ℕ) (h : off 0 = s.val) : ∀ i ∈ ((((Memref.whole cc0_scoped6 : Memref sig .tc .vmem S2x64x8x1024 .f32).slice
    (Rect.unit (s := S2x64x8x1024) off S1x64x8x1024.size inb) (fun _ => rfl)).squeeze S64x8x1024 squeezes_S1x64x8x1024_S64x8x1024).view.set), Part 3 s n cc0_scoped6 i := fun i hi => by
  replace hi := mem_reshape.1 hi
  exact part_ring 3 s n rfl (by decide) rfl h i hi

theorem block_o {off : Fin 3 → ℕ} {inb} (s : Fin 2) (n : ℕ) (h : off 0 = 64 * n) : ∀ i ∈ (((Memref.whole main_v0_0 : Memref sig .tc .hbm S2048x8x1024 .f32).slice
    (Rect.unit (s := S2048x8x1024) off S64x8x1024.size inb) (fun _ => rfl)).view.set), Part 3 s n main_v0_0 i := fun i hi =>
  part_arr 3 s n rfl (by decide) rfl h i hi

theorem sem_p {off : Fin 1 → ℕ} {inb} (s : Fin 2) (h : off 0 = s.val) :
    SemLoc.dma ((cc0_scoped9.slice (Rect.unit (s := S2) off S1.size inb)).squeeze S_ squeezes_S1_S_).sem = cellOf 4 s :=
  sem_at s h rfl

theorem slot_p {off : Fin 3 → ℕ} {inb} (s : Fin 2) (n : ℕ) (h : off 0 = s.val) : ∀ i ∈ ((((Memref.whole cc0_scoped8 : Memref sig .tc .vmem S2x32x4096 .bf16).slice
    (Rect.unit (s := S2x32x4096) off S1x32x4096.size inb) (fun _ => rfl)).squeeze S32x4096 squeezes_S1x32x4096_S32x4096).view.set), Part 4 s n cc0_scoped8 i := fun i hi => by
  replace hi := mem_reshape.1 hi
  exact part_ring 4 s n rfl (by decide) rfl h i hi

theorem block_p {off : Fin 2 → ℕ} {inb} (s : Fin 2) (n : ℕ) (h : off 0 = 32 * n) : ∀ i ∈ (((Memref.whole main_v0_5 : Memref sig .tc .hbm S1024x4096 .bf16).slice
    (Rect.unit (s := S1024x4096) off S32x4096.size inb) (fun _ => rfl)).view.set), Part 4 s n main_v0_5 i := fun i hi =>
  part_arr 4 s n rfl (by decide) rfl h i hi

theorem sem_q {off : Fin 1 → ℕ} {inb} (s : Fin 2) (h : off 0 = s.val) :
    SemLoc.dma ((cc0_scoped11.slice (Rect.unit (s := S2) off S1.size inb)).squeeze S_ squeezes_S1_S_).sem = cellOf 5 s :=
  sem_at s h rfl

theorem slot_q {off : Fin 3 → ℕ} {inb} (s : Fin 2) (n : ℕ) (h : off 0 = s.val) : ∀ i ∈ ((((Memref.whole cc0_scoped10 : Memref sig .tc .vmem S2x128x1024 .bf16).slice
    (Rect.unit (s := S2x128x1024) off S1x128x1024.size inb) (fun _ => rfl)).squeeze S128x1024 squeezes_S1x128x1024_S128x1024).view.set), Part 5 s n cc0_scoped10 i := fun i hi => by
  replace hi := mem_reshape.1 hi
  exact part_ring 5 s n rfl (by decide) rfl h i hi

theorem block_q {off : Fin 2 → ℕ} {inb} (s : Fin 2) (n : ℕ) (h : off 0 = 128 * n) : ∀ i ∈ (((Memref.whole main_v0_6 : Memref sig .tc .hbm S4096x1024 .bf16).slice
    (Rect.unit (s := S4096x1024) off S128x1024.size inb) (fun _ => rfl)).view.set), Part 5 s n main_v0_6 i := fun i hi =>
  part_arr 5 s n rfl (by decide) rfl h i hi

end Cert.KernelIdeal.Body
-- ==== Proof.Sched.lean ====
/- The schedule of the body's pipeline: what is in flight at the start of each of its 33 trips, the counters it carries, and its twelve ring operations. -/
module

public import proofs.«01_k».proof.Proof.Ring

@[expose] public section

set_option maxRecDepth 16384

noncomputable section

namespace Cert.KernelIdeal.Body

open Cert.KernelIdeal Cert.KernelIdeal.Gen Cert.Own
open Idealize.ShloMosaic Idealize.ShloMosaic.TcCoe Idealize.SL.Sem

/-- The slot of a block. -/
abbrev par (n : ℕ) : Fin 2 := ⟨n % 2, by omega⟩

/-- What is in flight at the start of trip `k`: the inputs' blocks `k`, the output block `k - 2` of the first output, the blocks `k - 1` of the two
others (which stand still for a trip at their last block). -/
def flight (k : ℕ) (r : Fin 6) (s : Fin 2) : Option ℕ :=
  if r.val ≤ 2 then (if k ≤ 31 ∧ s = par k then some k else none)
  else if r.val = 3 then (if 2 ≤ k ∧ s = par k then some (k - 2) else none)
  else if 1 ≤ k ∧ k ≤ 31 ∧ s = par (k - 1) then some (k - 1)
  else if k = 33 ∧ s = 1 then some 31 else none

/-- A ring operation of trip `k`: whether it is done, the ring, the slot, and the block put in flight (none for a wait). -/
structure Act where
  on : Bool
  ring : Fin 6
  slot : Fin 2
  val : Option ℕ

def act (k : ℕ) : ℕ → Act
  | 0 => ⟨decide (k < 31), 0, par (k + 1), some (k + 1)⟩
  | 1 => ⟨decide (k < 31), 1, par (k + 1), some (k + 1)⟩
  | 2 => ⟨decide (k < 31), 2, par (k + 1), some (k + 1)⟩
  | 3 => ⟨decide (k < 32), 0, par k, none⟩
  | 4 => ⟨decide (k < 32), 1, par k, none⟩
  | 5 => ⟨decide (k < 32), 2, par k, none⟩
  | 6 => ⟨decide (1 ≤ k), 3, par (k - 1), some (k - 1)⟩
  | 7 => ⟨decide (k ≠ 31), 4, par (min k 31), some (min k 31)⟩
  | 8 => ⟨decide (k ≠ 31), 5, par (min k 31), some (min k 31)⟩
  | 9 => ⟨decide (2 ≤ k), 3, par k, none⟩
  | 10 => ⟨decide (1 ≤ k ∧ k ≤ 31), 4, par (k - 1), none⟩
  | _ => ⟨decide (1 ≤ k ∧ k ≤ 31), 5, par (k - 1), none⟩

/-- What is in flight before operation `j` of trip `k`. -/
def stage (k : ℕ) : ℕ → Fin 6 → Fin 2 → Option ℕ
  | 0 => flight k
  | j + 1 => if (act k j).on then put (stage k j) (act k j).ring (act k j).slot (act k j).val else stage k j

theorem stage_last : ∀ k : Fin 33, ∀ r s, stage k 12 r s = flight (k + 1) r s := by decide
theorem act_free : ∀ k : Fin 33, ∀ j : Fin 12, (act k j).on → (act k j).val ≠ none → stage k j (act k j).ring (act k j).slot = none ∧
    ∀ s, stage k j (act k j).ring s ≠ (act k j).val := by decide
theorem act_busy : ∀ k : Fin 33, ∀ j : Fin 12, (act k j).on → (act k j).val = none → stage k j (act k j).ring (act k j).slot ≠ none := by decide

/-- The counters carried into trip `k`. -/
abbrev c39 (k : ℕ) : BitVec 32 := BitVec.ofNat 32 (min (k + 1) 32)
abbrev c40 (k : ℕ) : BitVec 32 := BitVec.ofNat 32 (if k ≤ 31 then k else k - 1)
abbrev c45 (k : ℕ) : BitVec 32 := BitVec.ofNat 32 (k - 1)
abbrev c46 (k : ℕ) : BitVec 32 := BitVec.ofNat 32 (k - 2)
abbrev c48 (k : ℕ) : BitVec 32 := BitVec.ofNat 32 (min (k - 1) 31)
abbrev c51 (k : ℕ) : BitVec 32 := BitVec.ofNat 32 (k % 33)

theorem cond1_iff : ∀ k : Fin 33, k0_cond1 k (c51 k) = 1#1 ↔ (act k 0).on = true := by decide
theorem cond2_iff : ∀ k : Fin 33, k0_cond2 k (c51 k) = 1#1 ↔ (act k 1).on = true := by decide
theorem cond3_iff : ∀ k : Fin 33, k0_cond3 k (c51 k) = 1#1 ↔ (act k 2).on = true := by decide
theorem cond4_iff : ∀ k : Fin 33, k0_cond4 k (c51 k) = 1#1 ↔ (act k 3).on = true := by decide
theorem cond5_iff : ∀ k : Fin 33, k0_cond5 k (c51 k) = 1#1 ↔ (act k 4).on = true := by decide
theorem cond6_iff : ∀ k : Fin 33, k0_cond6 k (c51 k) = 1#1 ↔ (act k 5).on = true := by decide
theorem cond16_iff : ∀ k : Fin 33, k0_cond16 k (c51 k) = 1#1 ↔ (act k 6).on = true := by decide
theorem cond17_iff : ∀ k : Fin 33, k0_cond17 k (c51 k) = 1#1 ↔ (act k 7).on = true := by decide
theorem cond18_iff : ∀ k : Fin 33, k0_cond18 k (c51 k) = 1#1 ↔ (act k 8).on = true := by decide
theorem cond22_iff : ∀ k : Fin 33, k0_cond22 k (c51 k) = 1#1 ↔ (act k 9).on = true := by decide
theorem cond23_iff : ∀ k : Fin 33, k0_cond23 k (c51 k) = 1#1 ↔ (act k 10).on = true := by decide
theorem cond24_iff : ∀ k : Fin 33, k0_cond24 k (c51 k) = 1#1 ↔ (act k 11).on = true := by decide

theorem offs_x : ∀ k : Fin 33, (act k 0).on → k0_off8 (c39 k) 0 = (act k 0).slot ∧ k0_off9 (c39 k) 0 = (act k 0).slot ∧ k0_off10 (c51 k) 1 = 64 * (k + 1) := by decide
theorem offs_w : ∀ k : Fin 33, (act k 1).on → k0_off11 (c39 k) 0 = (act k 1).slot ∧ k0_off12 (c39 k) 0 = (act k 1).slot ∧ k0_off13 (c51 k) 0 = 32 * (k + 1) := by decide
theorem offs_v : ∀ k : Fin 33, (act k 2).on → k0_off14 (c39 k) 0 = (act k 2).slot ∧ k0_off15 (c39 k) 0 = (act k 2).slot ∧ k0_off16 (c51 k) 0 = 128 * (k + 1) := by decide
theorem offs_wait : ∀ k : Fin 33, (act k 3).on → k0_off17 (c40 k) 0 = (act k 3).slot ∧ k0_off20 (c40 k) 0 = (act k 4).slot ∧ k0_off23 (c40 k) 0 = (act k 5).slot := by decide
theorem offs_o : ∀ k : Fin 33, (act k 6).on → k0_off33 (c45 k) 0 = (act k 6).slot ∧ k0_off35 (c45 k) 0 = (act k 6).slot ∧ k0_off34 (c51 k) 0 = 64 * (k - 1) := by decide
theorem offs_p : ∀ k : Fin 33, (act k 7).on → k0_off36 (c40 k) 0 = (act k 7).slot ∧ k0_off38 (c40 k) 0 = (act k 7).slot ∧ k0_off37 (c51 k) 0 = 32 * (min k 31) := by decide
theorem offs_q : ∀ k : Fin 33, (act k 8).on → k0_off39 (c40 k) 0 = (act k 8).slot ∧ k0_off41 (c40 k) 0 = (act k 8).slot ∧ k0_off40 (c51 k) 0 = 128 * (min k 31) := by decide
theorem offs_ow : ∀ k : Fin 33, (act k 9).on → k0_off42 (c46 k) 0 = (act k 9).slot := by decide
theorem offs_pw : ∀ k : Fin 33, (act k 10).on → k0_off45 (c48 k) 0 = (act k 10).slot := by decide
theorem offs_qw : ∀ k : Fin 33, (act k 11).on → k0_off48 (c48 k) 0 = (act k 11).slot := by decide

/-- The slots the body itself works on are not in flight while it does. -/
theorem work_free : ∀ k : Fin 33, stage k 6 0 (par (if k.val ≤ 31 then k.val else k - 1)) = none ∧ stage k 6 1 (par (if k.val ≤ 31 then k.val else k - 1)) = none ∧
    stage k 6 2 (par (if k.val ≤ 31 then k.val else k - 1)) = none ∧ stage k 6 3 (par (k - 1)) = none ∧
    stage k 6 4 (par (if k.val ≤ 31 then k.val else k - 1)) = none ∧ stage k 6 5 (par (if k.val ≤ 31 then k.val else k - 1)) = none := by decide
theorem work_offs : ∀ k : Fin 33, k0_off26 (c40 k) 0 = par (if k.val ≤ 31 then k.val else k - 1) ∧ k0_off28 (c40 k) 0 = par (if k.val ≤ 31 then k.val else k - 1) ∧
    k0_off30 (c40 k) 0 = par (if k.val ≤ 31 then k.val else k - 1) ∧ k0_off27 (c45 k) 0 = par (k - 1) ∧
    k0_off29 (c40 k) 0 = par (if k.val ≤ 31 then k.val else k - 1) ∧ k0_off31 (c40 k) 0 = par (if k.val ≤ 31 then k.val else k - 1) := by decide

theorem chk1 : ∀ k : Fin 33, k0_chk1 k (c39 k) (c40 k) (c39 k) (c40 k) (c39 k) (c40 k) (c45 k) (c46 k) (c40 k) (c48 k) (c40 k) (c48 k) (c51 k) := by
  intro k
  unfold k0_chk1 k0_chk1_0 k0_chk1_1
  repeat' apply And.intro
  all_goals (revert k; decide)
theorem chk2 : ∀ k : Fin 33, k0_chk2 (c40 k) (c40 k) (c40 k) (c45 k) (c40 k) (c40 k) (BitVec.ofNat 32 k) := by decide
theorem chk_last : k0_chk6 (c48 33) ∧ k0_chk5 (c48 33) ∧ k0_chk4 (c51 33) ∧ k0_chk3 (c46 33) := by decide

end Cert.KernelIdeal.Body
-- ==== Proof.Work.lean ====
/- One trip's work on its block, beside the copies in flight: the word that counts the blocks goes up by one. -/
module

public import proofs.«01_k».proof.Proof.Core
public import proofs.«01_k».proof.Proof.Sched

@[expose] public section

set_option maxRecDepth 16384

noncomputable section

namespace Cert.KernelIdeal.Body

open Cert.KernelIdeal Cert.KernelIdeal.Gen Cert.Own
open Idealize.ShloMosaic Idealize.ShloMosaic.TcCoe Idealize.SL.Sem

variable {F : FTy → Type} [FloatOps F] {σ σ₀ : St sig (Elt F)} {c : Dev nD}

theorem slots (k : Fin 33) {fl : SemLoc sig → Option (Flt sig)} (h : Flying fl (stage k 6)) :
    Slots fl (c40 k) (c40 k) (c40 k) (c45 k) (c40 k) (c40 k) := by
  obtain ⟨fx, fw, fv, fo, fp, fq⟩ := work_free k
  obtain ⟨ox, ow, ov, oo, op, oq⟩ := work_offs k
  exact ⟨fun i hi => by rw [ox]; exact h.clear 0 _ fx hi, fun i hi => by rw [ow]; exact h.clear 1 _ fw hi,
    fun i hi => by rw [ov]; exact h.clear 2 _ fv hi, fun i hi => by rw [oo]; exact h.clear 3 _ fo hi,
    fun i hi => by rw [op]; exact h.clear 4 _ fp hi, fun i hi => by rw [oq]; exact h.clear 5 _ fq hi⟩

abbrev counter : Memref sig .tc .smem S1 .i32 := Memref.whole cc0_scratch14

theorem counter_read {v : BitVec 32} {r : LoadRect S1} {x : r.shape.Idx} :
    counter.view.readAt (Elt F) r (fun _ => v) x = v := rfl

theorem counter_write {v : BitVec 32} {inb} (f : (Memref.whole cc0_scratch14 : Memref sig .tc .smem S1 .i32).view.ref.ty.Contents (Elt F)) :
    (counter.access (Rect.unit (s := S1) ![0] S1.size inb)).write (Elt F) f (fun _ => v) Finset.univ = fun _ => v := by
  funext i
  have : i ∈ (counter.access (Rect.unit (s := S1) ![0] S1.size inb)).setOn Finset.univ := by
    rw [View.setOn_univ, show (counter.access (Rect.unit (s := S1) ![0] S1.size inb)).set = _ from View.set_slice_whole _ _, Rect.mem_set_unit]
    intro a
    obtain rfl : a = (0 : Fin 1) := Subsingleton.elim (α := Fin 1) _ _
    exact ⟨Nat.zero_le _, (i (0 : Fin 1)).isLt⟩
  obtain ⟨x, -, rfl⟩ := Finset.mem_map.1 this
  exact (View.write_emb_of_mem _ _ (Finset.mem_univ _)).trans rfl

theorem counter_mem : counter.view.ref ∈ bufs := by decide

theorem counter_clear (hQ : Still cells still σ.fl) (S : Finset counter.view.ty.Idx) : Disjoint S (St.lent cells σ.fl counter.view.ref) := by
  rw [hQ _ (by decide)]; exact Finset.disjoint_empty_right _

theorem counter_load (hQ : Still cells still σ.fl) {v : BitVec 32} (hp : σ.mem cc0_scratch14 = fun _ => v) {r : Rect S1} {h1 : r.shape.numel = 1}
    {hk : EltTy.i32.packing = 1} {Ψ : BitVec 32 → St sig (Elt F) → Prop} (h : Ψ v σ) :
    Run (defs₀ (F := F)) bufs cells c (smemLoad counter r h1 hk) Ψ σ :=
  Run.smemLoad counter_mem (counter_clear hQ _) fun x => by
    have e : counter.view.readAt (Elt F) r.toLoadRect (σ.mem cc0_scratch14) x = v := by rw [hp]; rfl
    exact e.symm ▸ h

/-- What a trip's work keeps: the copies in flight, the windows of input and the kept buffers; and its counter is one higher. -/
def Worked (k : ℕ) (σ σ' : St sig (Elt F)) : Prop :=
  σ'.fl = σ.fl ∧ (∀ b ∈ keep.erase cc0_scratch14, σ'.mem b = σ.mem b) ∧ σ'.mem cc0_scratch14 = fun _ => BitVec.ofNat 32 (k + 1)

set_option maxHeartbeats 4000000 in
theorem run_work (k : Fin 33) (hF : Flying σ.fl (stage k 6)) (hp : σ.mem cc0_scratch14 = fun _ => BitVec.ofNat 32 k) (a38 v94 v95 v112 v113 v136 v178 v197 z) :
    Run (defs₀ (F := F)) bufs cells c (ap (k0_part103 (F := F)) (c40 k) (c40 k) (c40 k) (c45 k) (c40 k) (c40 k) a38 v94 v95 v112 v113 v136 v178 v197 z)
      (fun _ σ' => Worked k σ σ') σ := by
  have hQ := hF.still
  have hS := slots k hF
  simp only [k0_part103_eq_skeleton]
  dsimp -zeta only [ap, k0_part103_skel]
  extract_lets -underBinder _ jp
  refine Run.same ?_
  dsimp -zeta only [jp]
  clear jp
  extract_lets -underBinder _ _ _ _ _ _ jp
  refine Run.same ?_
  dsimp -zeta only [jp]
  clear jp
  extract_lets -underBinder v205 v206
  refine Run.bind (counter_load hQ hp ?_)
  refine Run.bind (Run.assume (chk2 k) (Run.ret ?_))
  extract_lets -underBinder hw v212 v213 v214 jp
  suffices hj : Lull (defs₀ (F := F)) bufs cells c keep σ (fun _ σ' => Worked k σ σ') (jp ⟨⟩) by
    clear_value jp
    refine (?_ : Lull (defs₀ (F := F)) bufs cells c keep σ _ _) σ (Kept.refl σ)
    repeat' first
      | with_reducible exact hj
      | with_reducible refine Lull.bind ?_ fun _ => ?_
      | with_reducible refine Lull.ite ?_ ?_
      | with_reducible exact load1 hQ
      | with_reducible exact store1 hQ
      | exact calm_init hQ hS
  intro σ₁ h₁
  dsimp -zeta only [jp]
  clear jp
  refine Run.bind (Calm.run (K := keep) (σ₀ := σ) (load1 hQ) h₁ fun _ σ₂ h₂ => ?_)
  extract_lets -underBinder jp
  suffices hj : Lull (defs₀ (F := F)) bufs cells c keep σ (fun _ σ' => Worked k σ σ') (jp ⟨⟩) by
    clear_value jp
    refine (?_ : Lull (defs₀ (F := F)) bufs cells c keep σ _ _) σ₂ h₂
    repeat' first
      | with_reducible exact hj
      | with_reducible refine Calm.bind ?_ fun _ => ?_
      | with_reducible refine Lull.bind ?_ fun _ => ?_
      | with_reducible refine Lull.dite (fun _ => ?_) fun _ => ?_
      | with_reducible exact pure1 _
      | with_reducible exact load1 hQ
      | with_reducible exact store1 hQ
      | with_reducible exact calm_first hQ hS _ _ _ _
      | (simp only [
        k0_part62_eq_skeleton, k0_part63_eq_skeleton, k0_part64_eq_skeleton, k0_part65_eq_skeleton, k0_part66_eq_skeleton, k0_part67_eq_skeleton,
        k0_part68_eq_skeleton, k0_part69_eq_skeleton, k0_part70_eq_skeleton, k0_part71_eq_skeleton, k0_part72_eq_skeleton, k0_part73_eq_skeleton,
        k0_part74_eq_skeleton, k0_part75_eq_skeleton, k0_part76_eq_skeleton, k0_part77_eq_skeleton, k0_part78_eq_skeleton, k0_part79_eq_skeleton,
        k0_part80_eq_skeleton, k0_part81_eq_skeleton, k0_part82_eq_skeleton, k0_part83_eq_skeleton, k0_part84_eq_skeleton, k0_part85_eq_skeleton,
        k0_part86_eq_skeleton, k0_part87_eq_skeleton, k0_part88_eq_skeleton, k0_part89_eq_skeleton, k0_part90_eq_skeleton, k0_part91_eq_skeleton,
        k0_part92_eq_skeleton, k0_part93_eq_skeleton, k0_part94_eq_skeleton, k0_part95_eq_skeleton, k0_part97_eq_skeleton, k0_part98_eq_skeleton,
        k0_part99_eq_skeleton]
         dsimp only [ap,
        k0_part62_skel, k0_part63_skel, k0_part64_skel, k0_part65_skel, k0_part66_skel, k0_part67_skel, k0_part68_skel, k0_part69_skel,
        k0_part70_skel, k0_part71_skel, k0_part72_skel, k0_part73_skel, k0_part74_skel, k0_part75_skel, k0_part76_skel, k0_part77_skel,
        k0_part78_skel, k0_part79_skel, k0_part80_skel, k0_part81_skel, k0_part82_skel, k0_part83_skel, k0_part84_skel, k0_part85_skel,
        k0_part86_skel, k0_part87_skel, k0_part88_skel, k0_part89_skel, k0_part90_skel, k0_part91_skel, k0_part92_skel, k0_part93_skel,
        k0_part94_skel, k0_part95_skel, k0_part97_skel, k0_part98_skel, k0_part99_skel])
      | with_reducible exact loadRows hQ
      | with_reducible exact w_load hS
      | with_reducible exact v_load hS
      | with_reducible exact o_load hS
      | with_reducible exact p_load hS
      | with_reducible exact q_load hS
      | with_reducible exact o_store hS
      | with_reducible exact p_store hS
      | with_reducible exact q_store hS
  intro σ₃ h₃
  dsimp -zeta only [jp]
  clear jp
  extract_lets -underBinder jp
  suffices hj : Lull (defs₀ (F := F)) bufs cells c keep σ (fun _ σ' => Worked k σ σ') (jp ⟨⟩) by
    clear_value jp
    refine (?_ : Lull (defs₀ (F := F)) bufs cells c keep σ _ _) σ₃ h₃
    repeat' first
      | with_reducible exact hj
      | with_reducible refine Calm.bind ?_ fun _ => ?_
      | with_reducible refine Lull.bind ?_ fun _ => ?_
      | with_reducible refine Lull.dite (fun _ => ?_) fun _ => ?_
      | with_reducible exact pure1 _
      | with_reducible exact load1 hQ
      | with_reducible exact store1 hQ
      | (simp only [k0_part97_eq_skeleton, k0_part98_eq_skeleton, k0_part99_eq_skeleton]
         dsimp only [ap, k0_part97_skel, k0_part98_skel, k0_part99_skel])
      | with_reducible exact loadRows hQ
      | exact o_load hS
      | exact o_store hS
  intro σ₄ h₄
  dsimp -zeta only [jp]
  clear jp
  have hQ₄ : Still cells still σ₄.fl := by rw [h₄.fl]; exact hQ
  extract_lets -underBinder v222
  refine Run.bind (Run.smemLoad counter_mem (counter_clear hQ₄ _) fun x => ?_)
  refine Run.bind (Run.store counter_mem (counter_clear hQ₄ _) (Run.ret ?_))
  extract_lets -underBinder _ _ _ _ jp
  refine Run.same (Run.ret ⟨h₄.fl, fun b hb => ?_, ?_⟩)
  · rw [St.set_mem_of_ne _ _ (Finset.ne_of_mem_erase hb)]
    exact h₄.mem b (Finset.mem_of_mem_erase hb)
  · refine (St.set_mem_self ..).trans ((counter_write _).trans ?_)
    funext _
    clear * -
    revert k; decide

end Cert.KernelIdeal.Body

end
-- ==== Proof.Amt.lean ====
/- What one copy on each ring adds to its semaphore, wherever its block lies. -/
module

public import proofs.«01_k».proof.Proof.Ring

@[expose] public section

set_option maxRecDepth 16384

noncomputable section

namespace Cert.KernelIdeal.Body

open Cert.KernelIdeal Cert.KernelIdeal.Gen Cert.Own
open Idealize.ShloMosaic Idealize.ShloMosaic.TcCoe Idealize.SL.Sem

theorem amt_x {off : Fin 4 → ℕ} {inb} : (((Memref.whole cc0_scoped0 : Memref sig .tc .vmem S2x8x64x1024 .f32).slice
    (Rect.unit (s := S2x8x64x1024) off S1x8x64x1024.size inb) (fun _ => rfl)).squeeze S8x64x1024 squeezes_S1x8x64x1024_S8x64x1024).view.dmaCredit = amtOf 0 :=
  View.dmaCredit_closed _ S8x64x1024 rfl cc0_scoped0.idx rfl _ rfl
theorem amt_w {off : Fin 3 → ℕ} {inb} : (((Memref.whole cc0_scoped2 : Memref sig .tc .vmem S2x32x4096 .f32).slice
    (Rect.unit (s := S2x32x4096) off S1x32x4096.size inb) (fun _ => rfl)).squeeze S32x4096 squeezes_S1x32x4096_S32x4096).view.dmaCredit = amtOf 1 :=
  View.dmaCredit_closed _ S32x4096 rfl cc0_scoped2.idx rfl _ rfl
theorem amt_v {off : Fin 3 → ℕ} {inb} : (((Memref.whole cc0_scoped4 : Memref sig .tc .vmem S2x128x1024 .f32).slice
    (Rect.unit (s := S2x128x1024) off S1x128x1024.size inb) (fun _ => rfl)).squeeze S128x1024 squeezes_S1x128x1024_S128x1024).view.dmaCredit = amtOf 2 :=
  View.dmaCredit_closed _ S128x1024 rfl cc0_scoped4.idx rfl _ rfl
theorem amt_o {off : Fin 3 → ℕ} {inb} : ((Memref.whole main_v0_0 : Memref sig .tc .hbm S2048x8x1024 .f32).slice
    (Rect.unit (s := S2048x8x1024) off S64x8x1024.size inb) (fun _ => rfl)).view.dmaCredit = amtOf 3 :=
  View.dmaCredit_closed _ S64x8x1024 rfl main_v0_0.idx rfl _ rfl
theorem amt_p {off : Fin 2 → ℕ} {inb} : ((Memref.whole main_v0_5 : Memref sig .tc .hbm S1024x4096 .bf16).slice
    (Rect.unit (s := S1024x4096) off S32x4096.size inb) (fun _ => rfl)).view.dmaCredit = amtOf 4 :=
  View.dmaCredit_closed _ S32x4096 rfl main_v0_5.idx rfl _ rfl
theorem amt_q {off : Fin 2 → ℕ} {inb} : ((Memref.whole main_v0_6 : Memref sig .tc .hbm S4096x1024 .bf16).slice
    (Rect.unit (s := S4096x1024) off S128x1024.size inb) (fun _ => rfl)).view.dmaCredit = amtOf 5 :=
  View.dmaCredit_closed _ S128x1024 rfl main_v0_6.idx rfl _ rfl

end Cert.KernelIdeal.Body
-- ==== Proof.Trip.lean ====
/- One trip of the body's loop: its ring operations around the trip's work. -/
module

public import proofs.«01_k».proof.Proof.Work
public import proofs.«01_k».proof.Proof.Amt

@[expose] public section

set_option maxRecDepth 16384

noncomputable section

namespace Cert.KernelIdeal.Body

open Cert.KernelIdeal Cert.KernelIdeal.Gen Cert.Own
open Idealize.ShloMosaic Idealize.ShloMosaic.TcCoe Idealize.SL.Sem

variable {F : FTy → Type} [FloatOps F] {σ σ₀ : St sig (Elt F)} {c : Dev nD}

/-- The buffers no copy and no store of the body writes. -/
def fixed : Finset (Ref sig .tc) := (keep.erase cc0_scratch14) \ {cc0_scoped0, cc0_scoped2, cc0_scoped4}

/-- The state before operation `j` of trip `k`, with `n` blocks counted: what is in flight, the counter, and what stays as in `σ₀`. -/
structure At (σ₀ : St sig (Elt F)) (k j n : ℕ) (σ : St sig (Elt F)) : Prop where
  flying : Flying σ.fl (stage k j)
  count : σ.mem cc0_scratch14 = fun _ => BitVec.ofNat 32 n
  same : ∀ b ∈ fixed, σ.mem b = σ₀.mem b

theorem ring_fixed : ∀ r, ringOf r ∉ fixed ∧ ringOf r ≠ cc0_scratch14 := by decide
theorem arr_fixed : ∀ r : Fin 6, arrOf r ≠ cc0_scratch14 ∧ (3 ≤ r.val → arrOf r ∉ fixed) := by decide
theorem fixed_keep : fixed ⊆ keep.erase cc0_scratch14 := Finset.sdiff_subset

theorem stage_on {k j : ℕ} (h : (act k j).on = true) : stage k (j + 1) = put (stage k j) (act k j).ring (act k j).slot (act k j).val := if_pos h
theorem stage_off {k j : ℕ} (h : ¬(act k j).on = true) : stage k (j + 1) = stage k j := if_neg h

theorem At.skip {k j n : ℕ} (h : At σ₀ k j n σ) (hn : ¬(act k j).on = true) : At σ₀ k (j + 1) n σ :=
  ⟨by rw [stage_off hn]; exact h.flying, h.count, h.same⟩

/-- An issue of trip `k`. -/
theorem At.issue {c : Dev 1} {k : Fin 33} {j : Fin 12} {n m : ℕ} (h : At σ₀ k j n σ) (hon : (act k j).on = true) (hm : (act k j).val = some m)
    {sp sp' : Space} {sh : Shape} {e : EltTy} {src : Memref sig .tc sp sh e} {dst : Memref sig .tc sp' sh e}
    {sm : DmaSem sig} {hsrc : src.view.WordExact} {hdst : dst.view.WordExact} {hsem : DmaTarget.Typed (nD := 1) (τ := τ) (p := .tc) sp (.dma sm) (.here dst)}
    (hsm : .dma sm = cellOf (act k j).ring (act k j).slot)
    (hb : (src.view.ref = arrOf (act k j).ring ∧ dst.view.ref = ringOf (act k j).ring) ∨
      (3 ≤ (act k j).ring.val ∧ src.view.ref = ringOf (act k j).ring ∧ dst.view.ref = arrOf (act k j).ring))
    (hN : dst.view.dmaCredit = amtOf (act k j).ring)
    (hS : ∀ i ∈ src.view.set, Part (act k j).ring (act k j).slot m src.view.ref i)
    (hD : ∀ i ∈ dst.view.set, Part (act k j).ring (act k j).slot m dst.view.ref i) :
    Run (defs₀ (F := F)) bufs cells c (Prog.lift (.enqueueDma src (.here dst) (.dma sm) hsrc hdst hsem)) (fun _ σ' => At σ₀ k (j + 1) n σ') σ := by
  obtain ⟨h1, h2⟩ := act_free k j hon (by rw [hm]; exact Option.some_ne_none _)
  refine (Body.issue h.flying (act k j).ring (act k j).slot m h1 (fun s' => hm ▸ h2 s') hsm (hb.imp id And.right) hN hS hD).mono fun _ σ' h' => ⟨?_, ?_, ?_⟩
  · rw [stage_on hon, hm]; exact h'.1
  · rw [h'.2.1 _ (by rcases hb with ⟨-, e⟩ | ⟨-, -, e⟩ <;> rw [e]; exacts [(ring_fixed _).2.symm, (arr_fixed _).1.symm])]; exact h.count
  · intro b hbf
    rw [h'.2.1 b ?_]; · exact h.same b hbf
    rintro rfl
    rcases hb with ⟨-, e⟩ | ⟨hr, -, e⟩ <;> rw [e] at hbf
    exacts [(ring_fixed _).1 hbf, (arr_fixed _).2 hr hbf]

/-- A wait of trip `k`. -/
theorem At.await {c : Dev 1} {k : Fin 33} {j : Fin 12} {n : ℕ} (h : At σ₀ k j n σ) (hon : (act k j).on = true) (hm : (act k j).val = none)
    {sp sp' : Space} {sh sh' : Shape} {e e' : EltTy} {sem : DmaSem sig} {srcw : Memref sig .tc sp' sh' e'} {dstw : Memref sig .tc sp sh e}
    {hsrc : srcw.view.WordExact} {hdst : dstw.view.WordExact} (hsm : SemLoc.dma sem = cellOf (act k j).ring (act k j).slot)
    (hN : dstw.view.dmaCredit = amtOf (act k j).ring) :
    Run (defs₀ (F := F)) bufs cells c (Prog.lift (.waitDma2 sem srcw dstw hsrc hdst)) (fun _ σ' => At σ₀ k (j + 1) n σ') σ := by
  obtain ⟨m, hbusy⟩ := Option.ne_none_iff_exists'.1 (act_busy k j hon hm)
  refine (Body.await h.flying (act k j).ring (act k j).slot m hbusy hsm hN).mono fun _ σ' h' => ⟨?_, ?_, ?_⟩
  · rw [stage_on hon, hm]; exact h'.1
  · rw [h'.2]; exact h.count
  · intro b hb; rw [h'.2]; exact h.same b hb

/-- A ring operation done under its condition, then the rest. -/
theorem Run.join {α : Type} {P : Prop} {_ : Decidable P} {Φ : α → St sig (Elt F) → Prop} (S : St sig (Elt F) → Prop)
    {p : P → Prog (TpuEff nD τ sig (Elt F) Λ₀ .tc) α} {q : Prog (TpuEff nD τ sig (Elt F) Λ₀ .tc) α}
    (hp : ∀ h, (∀ σ₁, S σ₁ → Run (defs₀ (F := F)) bufs cells c q Φ σ₁) → Run (defs₀ (F := F)) bufs cells c (p h) Φ σ)
    (hn : ¬P → S σ) (hq : ∀ σ₁, S σ₁ → Run (defs₀ (F := F)) bufs cells c q Φ σ₁) :
    Run (defs₀ (F := F)) bufs cells c (if h : P then p h else q) Φ σ :=
  Run.dite (fun h => hp h hq) fun h => hq _ (hn h)

/-- The counters carried into trip `k`. -/
abbrev carried (k : ℕ) : BitVec 32 × BitVec 32 × BitVec 32 × BitVec 32 × BitVec 32 × BitVec 32 × BitVec 32 × BitVec 32 × BitVec 32 × BitVec 32 × BitVec 32 ×
    BitVec 32 × BitVec 32 :=
  (c39 k, c40 k, c39 k, c40 k, c39 k, c40 k, c45 k, c46 k, c40 k, c48 k, c40 k, c48 k, c51 k)

set_option maxHeartbeats 1000000 in
theorem run_trip (k : Fin 33) (v28 z : BitVec 32) (hA : At σ₀ k 0 k σ) :
    Run (defs₀ (F := F)) bufs cells c (ap (k0_t1_body (F := F)) v28 z k (carried k))
      (fun x σ' => x = carried (k + 1) ∧ At σ₀ (k + 1) 0 (k + 1) σ') σ := by
  dsimp -zeta only [ap, k0_t1_body, carried]
  simp only [k0_part100_eq_skeleton]
  refine Run.bind ?_
  dsimp -zeta only [k0_part100_skel]
  refine Run.bind (Run.assume (chk1 k) (Run.ret ?_))
  extract_lets -underBinder -merge hw a38 v94 v95 v96 v97 v98 v99 v100 v101 v102 v103 v104 v105 v106 v112 v113 v114 v115 v116 v117 jp
  refine Run.join (At σ₀ k 1 k) (fun h hq => ?_) (fun h => hA.skip (j := 0) (mt (cond1_iff k).2 h)) fun σ1 h1 => ?_
  · extract_lets -underBinder -merge
    have hon := (cond1_iff k).1 h
    obtain ⟨o1, o2, o3⟩ := offs_x k hon
    refine Run.bind (Run.mono ?_ fun _ => hq)
    exact hA.issue (j := 0) hon rfl (sem_x _ o1) (.inl ⟨rfl, rfl⟩) amt_x (block_x _ _ o3) (slot_x _ _ o2)
  dsimp -zeta only [jp]
  clear jp
  extract_lets -underBinder -merge v121 v122 v123
  refine Run.ret ?_
  dsimp -zeta only
  simp only [k0_part101_eq_skeleton]
  refine Run.bind ?_
  dsimp -zeta only [k0_part101_skel]
  extract_lets -underBinder -merge v124 v125 v126 v127 v128 v129 jp
  refine Run.join (At σ₀ k 2 k) (fun h hq => ?_) (fun h => h1.skip (j := 1) (mt (cond2_iff k).2 h)) fun σ2 h2 => ?_
  · extract_lets -underBinder -merge
    have hon := (cond2_iff k).1 h
    obtain ⟨o1, o2, o3⟩ := offs_w k hon
    refine Run.bind (Run.mono ?_ fun _ => hq)
    exact h1.issue (j := 1) hon rfl (sem_w _ o1) (.inl ⟨rfl, rfl⟩) amt_w (block_w _ _ o3) (slot_w _ _ o2)
  dsimp -zeta only [jp]
  clear jp
  extract_lets -underBinder -merge v133 v134 v135 v136 v137 v138 v139 v140 v141 jp
  refine Run.join (At σ₀ k 3 k) (fun h hq => ?_) (fun h => h2.skip (j := 2) (mt (cond3_iff k).2 h)) fun σ3 h3 => ?_
  · extract_lets -underBinder -merge
    have hon := (cond3_iff k).1 h
    obtain ⟨o1, o2, o3⟩ := offs_v k hon
    refine Run.bind (Run.mono ?_ fun _ => hq)
    exact h2.issue (j := 2) hon rfl (sem_v _ o1) (.inl ⟨rfl, rfl⟩) amt_v (block_v _ _ o3) (slot_v _ _ o2)
  dsimp -zeta only [jp]
  clear jp
  extract_lets -underBinder -merge v145 v146 v147 v148 v149 v150 v151 v156 v157 v158
  refine Run.ret ?_
  dsimp -zeta only
  simp only [k0_part102_eq_skeleton]
  refine Run.bind ?_
  dsimp -zeta only [k0_part102_skel]
  extract_lets -underBinder -merge v164 jp
  refine Run.join (At σ₀ k 4 k) (fun h hq => ?_) (fun h => h3.skip (j := 3) (mt (cond4_iff k).2 h)) fun σ4 h4 => ?_
  · extract_lets -underBinder -merge
    have hon := (cond4_iff k).1 h
    obtain ⟨o1, o2, o3⟩ := offs_wait k hon
    refine Run.bind (Run.mono ?_ fun _ => hq)
    exact h3.await (j := 3) hon rfl (sem_x _ o1) amt_x
  dsimp -zeta only [jp]
  clear jp
  extract_lets -underBinder -merge v171 jp
  refine Run.join (At σ₀ k 5 k) (fun h hq => ?_) (fun h => h4.skip (j := 4) (mt (cond5_iff k).2 h)) fun σ5 h5 => ?_
  · extract_lets -underBinder -merge
    have hon := (cond5_iff k).1 h
    obtain ⟨o1, o2, o3⟩ := offs_wait k hon
    refine Run.bind (Run.mono ?_ fun _ => hq)
    exact h4.await (j := 4) hon rfl (sem_w _ o2) amt_w
  dsimp -zeta only [jp]
  clear jp
  extract_lets -underBinder -merge v178 jp
  refine Run.join (At σ₀ k 6 k) (fun h hq => ?_) (fun h => h5.skip (j := 5) (mt (cond6_iff k).2 h)) fun σ6 h6 => ?_
  · extract_lets -underBinder -merge
    have hon := (cond6_iff k).1 h
    obtain ⟨o1, o2, o3⟩ := offs_wait k hon
    refine Run.bind (Run.mono ?_ fun _ => hq)
    exact h5.await (j := 5) hon rfl (sem_v _ o3) amt_v
  dsimp -zeta only [jp]
  clear jp
  extract_lets -underBinder -merge v185 v186 v187 v188 v189 v190 v191 v192 jp
  refine Run.same ?_
  dsimp -zeta only [jp]
  clear jp
  extract_lets -underBinder -merge v193 v194 v195 v196 v197
  refine Run.ret ?_
  dsimp -zeta only
  refine Run.bind ((run_work k h6.flying h6.count _ _ _ _ _ _ _ _ _).mono fun _ σw hw => ?_)
  replace h6 : At σ₀ k 6 (k + 1) σw := ⟨by rw [hw.1]; exact h6.flying, hw.2.2, fun b hb => (hw.2.1 b (fixed_keep hb)).trans (h6.same b hb)⟩
  clear hw
  simp only [k0_part104_eq_skeleton]
  refine Run.bind ?_
  dsimp -zeta only [k0_part104_skel]
  extract_lets -underBinder -merge v229 v230 v231 v232 jp
  refine Run.same ?_
  dsimp -zeta only [jp]
  clear jp
  extract_lets -underBinder -merge v234 v235 v236 v237 jp
  refine Run.same ?_
  dsimp -zeta only [jp]
  clear jp
  extract_lets -underBinder -merge v239 v240 jp
  refine Run.join (At σ₀ k 7 (k + 1)) (fun h hq => ?_) (fun h => h6.skip (j := 6) (mt (cond16_iff k).2 h)) fun σ7 h7 => ?_
  · extract_lets -underBinder -merge
    have hon := (cond16_iff k).1 h
    obtain ⟨o1, o2, o3⟩ := offs_o k hon
    refine Run.bind (Run.mono ?_ fun _ => hq)
    exact h6.issue (j := 6) hon rfl (sem_o _ o1) (.inr ⟨(by decide : 3 ≤ 3), rfl, rfl⟩) amt_o (slot_o _ _ o2) (block_o _ _ o3)
  dsimp -zeta only [jp]
  clear jp
  extract_lets -underBinder -merge v243 v244 v245 v246 v247 jp
  refine Run.join (At σ₀ k 8 (k + 1)) (fun h hq => ?_) (fun h => h7.skip (j := 7) (mt (cond17_iff k).2 h)) fun σ8 h8 => ?_
  · extract_lets -underBinder -merge
    have hon := (cond17_iff k).1 h
    obtain ⟨o1, o2, o3⟩ := offs_p k hon
    refine Run.bind (Run.mono ?_ fun _ => hq)
    exact h7.issue (j := 7) hon rfl (sem_p _ o1) (.inr ⟨(by decide : 3 ≤ 4), rfl, rfl⟩) amt_p (slot_p _ _ o2) (block_p _ _ o3)
  dsimp -zeta only [jp]
  clear jp
  extract_lets -underBinder -merge v250 v251 v252 v253 v254 jp
  refine Run.join (At σ₀ k 9 (k + 1)) (fun h hq => ?_) (fun h => h8.skip (j := 8) (mt (cond18_iff k).2 h)) fun σ9 h9 => ?_
  · extract_lets -underBinder -merge
    have hon := (cond18_iff k).1 h
    obtain ⟨o1, o2, o3⟩ := offs_q k hon
    refine Run.bind (Run.mono ?_ fun _ => hq)
    exact h8.issue (j := 8) hon rfl (sem_q _ o1) (.inr ⟨(by decide : 3 ≤ 5), rfl, rfl⟩) amt_q (slot_q _ _ o2) (block_q _ _ o3)
  dsimp -zeta only [jp]
  clear jp
  extract_lets -underBinder -merge v257 v258 v259 v260 v261 v262 v263 v264 jp
  refine Run.same ?_
  dsimp -zeta only [jp]
  clear jp
  extract_lets -underBinder -merge v266
  refine Run.ret ?_
  dsimp -zeta only
  simp only [k0_part105_eq_skeleton]
  refine Run.bind ?_
  dsimp -zeta only [k0_part105_skel]
  extract_lets -underBinder -merge v267 v268 v269 v270 jp
  refine Run.same ?_
  dsimp -zeta only [jp]
  clear jp
  extract_lets -underBinder -merge v272 v273 v274 v275 v276 jp
  refine Run.same ?_
  dsimp -zeta only [jp]
  clear jp
  extract_lets -underBinder -merge v278 v279 v280 jp
  refine Run.join (At σ₀ k 10 (k + 1)) (fun h hq => ?_) (fun h => h9.skip (j := 9) (mt (cond22_iff k).2 h)) fun σ10 h10 => ?_
  · extract_lets -underBinder -merge
    have hon := (cond22_iff k).1 h
    obtain o1 := offs_ow k hon
    refine Run.bind (Run.mono ?_ fun _ => hq)
    exact h9.await (j := 9) hon rfl (sem_o _ o1) amt_o
  dsimp -zeta only [jp]
  clear jp
  extract_lets -underBinder -merge v283 v284 v285 v286 v287 v288 jp
  refine Run.join (At σ₀ k 11 (k + 1)) (fun h hq => ?_) (fun h => h10.skip (j := 10) (mt (cond23_iff k).2 h)) fun σ11 h11 => ?_
  · extract_lets -underBinder -merge
    have hon := (cond23_iff k).1 h
    obtain o1 := offs_pw k hon
    refine Run.bind (Run.mono ?_ fun _ => hq)
    exact h10.await (j := 10) hon rfl (sem_p _ o1) amt_p
  dsimp -zeta only [jp]
  clear jp
  extract_lets -underBinder -merge v291 v292 v293 v294 v295 v296 jp
  refine Run.join (At σ₀ k 12 (k + 1)) (fun h hq => ?_) (fun h => h11.skip (j := 11) (mt (cond24_iff k).2 h)) fun σ12 h12 => ?_
  · extract_lets -underBinder -merge
    have hon := (cond24_iff k).1 h
    obtain o1 := offs_qw k hon
    refine Run.bind (Run.mono ?_ fun _ => hq)
    exact h11.await (j := 11) hon rfl (sem_q _ o1) amt_q
  dsimp -zeta only [jp]
  clear jp
  extract_lets -underBinder -merge v299 v300 v301 v302 v303
  refine Run.ret ?_
  dsimp -zeta only
  refine Run.ret ⟨?_, h12.flying.congr (stage_last k), h12.count, h12.same⟩
  simp only [Prod.mk.injEq]
  refine ⟨?_, ?_, ?_, ?_, ?_, ?_, ?_, ?_, ?_, ?_, ?_, ?_, ?_⟩
  all_goals
    try dsimp +zetaDelta only
    clear * -
    revert k
    decide

end Cert.KernelIdeal.Body
-- ==== Proof.Whole.lean ====
/- The whole body: the first blocks put in flight, the 33 trips, and the last blocks waited for. -/
module

public import proofs.«01_k».proof.Proof.Trip

@[expose] public section

set_option maxRecDepth 16384

noncomputable section

namespace Cert.KernelIdeal.Body

open Cert.KernelIdeal Cert.KernelIdeal.Gen Cert.Own
open Idealize.ShloMosaic Idealize.ShloMosaic.TcCoe Idealize.SL.Sem

variable {F : FTy → Type} [FloatOps F] {σ σ₀ : St sig (Elt F)} {c : Dev nD}

/-- The state before or after the loop: what is in flight, the counter, and what stays as in `σ₀`. -/
structure Now (σ₀ : St sig (Elt F)) (f : Fin 6 → Fin 2 → Option ℕ) (n : ℕ) (σ : St sig (Elt F)) : Prop where
  flying : Flying σ.fl f
  count : σ.mem cc0_scratch14 = fun _ => BitVec.ofNat 32 n
  same : ∀ b ∈ fixed, σ.mem b = σ₀.mem b

theorem At.now {k n : ℕ} (h : At σ₀ k 0 n σ) : Now σ₀ (flight k) n σ := ⟨h.flying, h.count, h.same⟩
theorem Now.at {k n : ℕ} {f} (h : Now σ₀ f n σ) (hf : ∀ r s, f r s = flight k r s) : At σ₀ k 0 n σ := ⟨h.flying.congr hf, h.count, h.same⟩

/-- A block of an input put in flight. -/
theorem Now.issue {c : Dev 1} {f : Fin 6 → Fin 2 → Option ℕ} {n : ℕ} (h : Now σ₀ f n σ) (r : Fin 6) (s : Fin 2) (m : ℕ) (hf : f r s = none)
    (hn : ∀ s', f r s' ≠ some m)
    {sp sp' : Space} {sh : Shape} {e : EltTy} {src : Memref sig .tc sp sh e} {dst : Memref sig .tc sp' sh e}
    {sm : DmaSem sig} {hsrc : src.view.WordExact} {hdst : dst.view.WordExact} {hsem : DmaTarget.Typed (nD := 1) (τ := τ) (p := .tc) sp (.dma sm) (.here dst)}
    (hsm : .dma sm = cellOf r s) (h1 : src.view.ref = arrOf r) (h2 : dst.view.ref = ringOf r)
    (hN : dst.view.dmaCredit = amtOf r)
    (hS : ∀ i ∈ src.view.set, Part r s m src.view.ref i) (hD : ∀ i ∈ dst.view.set, Part r s m dst.view.ref i) :
    Run (defs₀ (F := F)) bufs cells c (Prog.lift (.enqueueDma src (.here dst) (.dma sm) hsrc hdst hsem)) (fun _ σ' => Now σ₀ (put f r s (some m)) n σ') σ := by
  refine (Body.issue h.flying r s m hf hn hsm (.inl ⟨h1, h2⟩) hN hS hD).mono fun _ σ' h' => ⟨h'.1, ?_, fun b hb => ?_⟩
  · rw [h'.2.1 _ (by rw [h2]; exact (ring_fixed _).2.symm)]; exact h.count
  · rw [h'.2.1 b (by rintro rfl; rw [h2] at hb; exact (ring_fixed _).1 hb)]; exact h.same b hb

/-- A block of an output waited for. -/
theorem Now.await {c : Dev 1} {f : Fin 6 → Fin 2 → Option ℕ} {n : ℕ} (h : Now σ₀ f n σ) (r : Fin 6) (s : Fin 2) (m : ℕ) (hf : f r s = some m)
    {sp sp' : Space} {sh sh' : Shape} {e e' : EltTy} {sem : DmaSem sig} {srcw : Memref sig .tc sp' sh' e'} {dstw : Memref sig .tc sp sh e}
    {hsrc : srcw.view.WordExact} {hdst : dstw.view.WordExact} (hsm : SemLoc.dma sem = cellOf r s) (hN : dstw.view.dmaCredit = amtOf r) :
    Run (defs₀ (F := F)) bufs cells c (Prog.lift (.waitDma2 sem srcw dstw hsrc hdst)) (fun _ σ' => Now σ₀ (put f r s none) n σ') σ :=
  (Body.await h.flying r s m hf hsm hN).mono fun _ σ' h' =>
    ⟨h'.1, by rw [h'.2]; exact h.count, fun b hb => by rw [h'.2]; exact h.same b hb⟩

abbrev idle : Fin 6 → Fin 2 → Option ℕ := fun _ _ => none

theorem first_flight : ∀ r s, put (put (put idle 0 0 (some 0)) 1 0 (some 0)) 2 0 (some 0) r s = flight 0 r s := by decide
theorem last_flight : ∀ r s, put (put (put (flight 33) 3 1 none) 4 1 none) 5 1 none r s = none := by decide

/-- Nothing in flight on the body's semaphores. -/
def Rest (fl : SemLoc sig → Option (Flt sig)) : Prop := ∀ s ∈ cells, fl s = none

theorem trips_eq : k0_t1_loop.trips = 33 := by decide
theorem first_carried : ((1#32 : BitVec 32), (0#32 : BitVec 32), (1#32 : BitVec 32), (0#32 : BitVec 32), (1#32 : BitVec 32), (0#32 : BitVec 32), (0#32 : BitVec 32),
    (0#32 : BitVec 32), (0#32 : BitVec 32), (0#32 : BitVec 32), (0#32 : BitVec 32), (0#32 : BitVec 32), (0#32 : BitVec 32)) = carried 0 := rfl

theorem run_body (h0 : Rest σ₀.fl) :
    Run (defs₀ (F := F)) bufs cells c (ap (cc0_mixer_sublayer (F := F))) (fun _ σ' => Rest σ'.fl ∧ ∀ b ∈ fixed, σ'.mem b = σ₀.mem b) σ₀ := by
  have hF : Flying σ₀.fl idle := fun r s => ⟨fun _ => h0 _ (cellOf_mem r s), fun n h => by cases h⟩
  simp only [cc0_mixer_sublayer_eq_skeleton]
  dsimp -zeta only [ap, cc0_mixer_sublayer_skel]
  simp only [k0_part106_eq_skeleton]
  refine Run.bind ?_
  dsimp -zeta only [k0_part106_skel]
  refine Run.bind (Run.smemLoad counter_mem (counter_clear hF.still _) fun x => ?_)
  refine Run.bind (Run.mono (Ψ := fun _ => Now σ₀ idle 0) ?_ fun _ σ₁ h1 => ?_)
  · refine Run.store counter_mem (counter_clear hF.still _) (Run.ret ?_)
    refine ⟨hF, (St.set_mem_self ..).trans (counter_write _), fun b hb => St.set_mem_of_ne _ _ (Finset.ne_of_mem_erase (fixed_keep hb))⟩
  extract_lets -underBinder -merge
  refine Run.bind (Run.mono (Ψ := fun _ => Now σ₀ (put idle 0 0 (some 0)) 0) ?_ fun _ σ₂ h2 => ?_)
  · exact h1.issue 0 0 0 rfl (by decide) (sem_x 0 rfl) rfl rfl amt_x (block_x 0 0 rfl) (slot_x 0 0 rfl)
  refine Run.ret ?_
  dsimp -zeta only
  simp only [k0_part107_eq_skeleton]
  refine Run.bind ?_
  dsimp -zeta only [k0_part107_skel]
  extract_lets -underBinder -merge
  refine Run.bind (Run.mono (Ψ := fun _ => Now σ₀ (put (put idle 0 0 (some 0)) 1 0 (some 0)) 0) ?_ fun _ σ₃ h3 => ?_)
  · exact h2.issue 1 0 0 rfl (by decide) (sem_w 0 rfl) rfl rfl amt_w (block_w 0 0 rfl) (slot_w 0 0 rfl)
  extract_lets -underBinder -merge
  refine Run.bind (Run.mono (Ψ := fun _ => Now σ₀ (put (put (put idle 0 0 (some 0)) 1 0 (some 0)) 2 0 (some 0)) 0) ?_ fun _ σ₄ h4 => ?_)
  · exact h3.issue 2 0 0 rfl (by decide) (sem_v 0 rfl) rfl rfl amt_v (block_v 0 0 rfl) (slot_v 0 0 rfl)
  extract_lets -underBinder -merge
  refine Run.bind (Run.mono (Run.loop (fun k x σ => x = carried k ∧ At σ₀ k 0 k σ) ⟨rfl, h4.at first_flight⟩ fun k x σ hx => ?_) fun x σ₅ hx => ?_)
  · obtain ⟨rfl, hx⟩ := hx
    exact run_trip k _ _ hx
  obtain ⟨rfl, hx⟩ := hx
  replace hx : At σ₀ 33 0 33 σ₅ := hx
  dsimp -zeta only
  refine Run.bind (Run.assume chk_last.1 (Run.ret ?_))
  refine Run.bind (Run.assume chk_last.2.1 (Run.ret ?_))
  refine Run.bind (Run.assume chk_last.2.2.1 (Run.ret ?_))
  refine Run.bind (Run.assume chk_last.2.2.2 (Run.ret ?_))
  extract_lets -underBinder -merge
  refine Run.ret ?_
  dsimp -zeta only
  simp only [k0_part108_eq_skeleton]
  refine Run.bind ?_
  dsimp -zeta only [k0_part108_skel]
  extract_lets -underBinder -merge
  refine Run.bind (Run.mono (Ψ := fun _ => Now σ₀ (put (flight 33) 3 1 none) 33) ?_ fun _ σ₆ h6 => ?_)
  · exact hx.now.await 3 1 31 rfl (sem_o 1 (by decide)) amt_o
  refine Run.ret ?_
  try dsimp -zeta only
  extract_lets -underBinder -merge
  refine Run.bind (Run.mono (Ψ := fun _ => Now σ₀ (put (put (flight 33) 3 1 none) 4 1 none) 33) ?_ fun _ σ₇ h7 => ?_)
  · exact h6.await 4 1 31 rfl (sem_p 1 (by decide)) amt_p
  extract_lets -underBinder -merge
  refine Run.bind (Run.mono (Ψ := fun _ => Now σ₀ (put (put (put (flight 33) 3 1 none) 4 1 none) 5 1 none) 33) ?_ fun _ σ₈ h8 => ?_)
  · exact h7.await 5 1 31 rfl (sem_q 1 (by decide)) amt_q
  refine Run.ret ⟨fun s hs => ?_, h8.same⟩
  obtain ⟨r, s, rfl⟩ := mem_cells hs
  exact (h8.flying r s).1 (last_flight r s)

end Cert.KernelIdeal.Body
-- ==== Proof.Launch.lean ====
/- The launch: what the call hands the body is a state with nothing in flight, and what the body ends with is handed back. -/
module

public import proofs.«01_k».proof.Proof.Whole
public import proofs.«01_k».proof.Proof.Gen.KernelIdeal.Launch
public import Idealize.ShloMosaic.Lib.Pipeline.FrameBody

@[expose] public section

set_option maxRecDepth 16384

noncomputable section

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} [∀ e, Nonempty (Val e)]

local notation "𝕄" => MT nD τ sig Unit Val ℕ (Pipeline.UD sig nD τ) ℕ

variable {Λ : Labels} {defs : Defs nD τ sig Val Λ} {B : Finset (Ref sig .tc)} {T : Finset (SemLoc sig)} {c : Dev nD}

omit [∀ e, Nonempty (Val e)] in
theorem lent_rest {fl : SemLoc sig → Option (Flt sig)} (h : ∀ s ∈ T, fl s = none) (b : Ref sig .tc) : St.lent T fl b = ∅ := by
  refine Finset.eq_empty_of_forall_notMem fun i hi => ?_
  obtain ⟨s, hs, d, hd, -⟩ := mem_lent.mp hi
  rw [h s hs] at hd; cases hd

omit [∀ e, Nonempty (Val e)] in
/-- The buffers of two sets with none in common. -/
theorem parts {s t : Finset (Ref sig .tc)} (h : Disjoint s t) {Φ : Ref sig .tc → sProp 𝕄} :
    bigSep (s ∪ t) Φ = iprop(bigSep s Φ ∗ bigSep t Φ) := bigSep_union h

/-- With nothing in flight the core holds every buffer whole and every counter at zero. -/
def calm (B : Finset (Ref sig .tc)) (T : Finset (SemLoc sig)) (c : Dev nD) (m : (b : Ref sig .tc) → b.ty.Contents Val) : sProp 𝕄 :=
  iprop((∃ W, owes (c : Thread nD τ) 0 W)
    ∗ (bigSep B fun b => (c : Thread nD τ).loc b ↦{fullShare} m b) ∗ bigSep T fun s => semVal ((c : Thread nD τ), s) 0)

omit [∀ e, Nonempty (Val e)] in
theorem own_calm {σ : St sig Val} (h : ∀ s ∈ T, σ.fl s = none) : (own B T c σ : sProp 𝕄) = iprop(⌜Apart T σ.fl⌝ ∗ calm B T c σ.mem) := by
  unfold own calm
  rw [bigSep_congr (s := B) (Φ := held T c σ.mem σ.fl) (Ψ := fun b => (c : Thread nD τ).loc b ↦{fullShare} σ.mem b)
      fun b _ => by unfold held; rw [lent_rest h, Finset.sdiff_empty],
    bigSep_congr (s := T) (Φ := atSem B c σ.mem σ.fl) (Ψ := fun s => semVal ((c : Thread nD τ), s) 0)
      fun s hs => by unfold atSem; rw [h s hs]; rfl]

omit [∀ e, Nonempty (Val e)] in
/-- Buffers at given contents are at some contents. -/
theorem some_of {E : Finset (Ref sig .tc)} {y : (b : Ref sig .tc) → b.ty.Contents Val} :
    (bigSep E fun b => (c : Thread nD τ).loc b ↦{fullShare} y b)
      ⊢ (bigSep E fun b => iprop(∃ f : b.ty.Contents Val, (c : Thread nD τ).loc b ↦{fullShare} f) : sProp 𝕄) :=
  bigSep_mono fun b _ => show (iprop((c : Thread nD τ).loc b ↦{fullShare} y b) : sProp 𝕄)
      ⊢ iprop(∃ f : b.ty.Contents Val, (c : Thread nD τ).loc b ↦{fullShare} f) from by iintro H; iexists _; iexact H

/-- A body that ends with nothing in flight and leaves the buffers `H` as they were, run on the buffers `H` at given contents
    and the buffers `E` at some contents. -/
theorem Run.owned {α : Type} {p : Prog (TpuEff nD τ sig Val Λ .tc) α} {H E : Finset (Ref sig .tc)} (hd : Disjoint H E) (hB : B = H ∪ E)
    (V : (b : Ref sig .tc) → b.ty.Contents Val)
    (h : ∀ σ : St sig Val, (∀ s ∈ T, σ.fl s = none) →
      Run defs B T c p (fun _ σ' => (∀ s ∈ T, σ'.fl s = none) ∧ ∀ b ∈ H, σ'.mem b = σ.mem b) σ) :
    iprop((∃ W, owes (c : Thread nD τ) 0 W) ∗ (bigSep H fun b => (c : Thread nD τ).loc b ↦{fullShare} V b)
        ∗ (bigSep E fun b => iprop(∃ f : b.ty.Contents Val, (c : Thread nD τ).loc b ↦{fullShare} f))
        ∗ bigSep T fun s => semVal ((c : Thread nD τ), s) 0)
      ⊢ wp frame (wpE defs Variants.none (c : Thread nD τ) none) Set.univ p fun _ =>
        (iprop((∃ W, owes (c : Thread nD τ) 0 W) ∗ (bigSep H fun b => (c : Thread nD τ).loc b ↦{fullShare} V b)
          ∗ (bigSep E fun b => iprop(∃ f : b.ty.Contents Val, (c : Thread nD τ).loc b ↦{fullShare} f))
          ∗ bigSep T fun s => semVal ((c : Thread nD τ), s) 0) : sProp 𝕄) := by
  classical
  iintro ⟨HW, HH, HE, HT⟩
  ihave HE := (bigSep_exists_pi E fun b (f : b.ty.Contents Val) => (iprop((c : Thread nD τ).loc b ↦{fullShare} f) : sProp 𝕄)) $$ HE
  icases HE with ⟨%y, HE⟩
  let σ : St sig Val := ⟨fun b => if b ∈ H then V b else y b, fun _ => none⟩
  have hσ : ∀ s ∈ T, σ.fl s = none := fun _ _ => rfl
  have hV : ∀ b ∈ H, σ.mem b = V b := fun b hb => if_pos hb
  have hy : ∀ b ∈ E, σ.mem b = y b := fun b hb => if_neg fun hb' => Finset.disjoint_left.mp hd hb' hb
  iapply h σ hσ _ fun a σ' h' => by
    rw [own_calm h'.1]; unfold calm
    rw [hB, parts hd,
      bigSep_congr (s := H) (Φ := fun b => (c : Thread nD τ).loc b ↦{fullShare} σ'.mem b) (Ψ := fun b => (c : Thread nD τ).loc b ↦{fullShare} V b)
        fun b hb => by rw [h'.2 b hb, hV b hb]]
    iintro ⟨-, HW, ⟨HH, HE⟩, HT⟩
    isplitl [HW]; · iexact HW
    isplitl [HH]; · iexact HH
    isplitl [HE]
    · iapply some_of $$ HE
    iexact HT
  rw [own_calm hσ]; unfold calm
  rw [hB, parts hd,
    bigSep_congr (s := H) (Φ := fun b => (c : Thread nD τ).loc b ↦{fullShare} σ.mem b) (Ψ := fun b => (c : Thread nD τ).loc b ↦{fullShare} V b)
      fun b hb => by rw [hV b hb],
    bigSep_congr (s := E) (Φ := fun b => (c : Thread nD τ).loc b ↦{fullShare} σ.mem b) (Ψ := fun b => (c : Thread nD τ).loc b ↦{fullShare} y b)
      fun b hb => by rw [hy b hb]]
  isplitr
  · ipureintro; intro s _ s' _ _ d d' hs; cases hs
  isplitl [HW]; · iexact HW
  isplitl [HH HE]
  · isplitl [HH]; · iexact HH
    iexact HE
  iexact HT

end Cert.Own

namespace Cert.KernelIdeal.Body

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays the body copies from, and those it copies to. -/
def H0 : Finset (Ref sig .tc) := {main_arg0, main_arg14, main_arg15}
def R0 : Finset (Ref sig .tc) := {main_v0_0, main_v0_5, main_v0_6}

/-- The launch's contents of the arrays. -/
abbrev V (c : Dev nD) (b : Ref sig .tc) : Buf (Elt F) ((c : Thread nD τ).loc b) := m ((c : Thread nD τ).loc b)

theorem H0_sub : H0 ⊆ Pipeline.restRefs sig spec0 := by decide
theorem R0_sub : R0 ⊆ Pipeline.restRefs sig spec0 \ H0 := by decide
theorem ownSemFacts0 : Pipeline.OwnSemFacts spec0 cell := by decide

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The scoped buffers that are no staging buffer, and the staging buffers. -/
def inner : Finset (Ref sig .tc) := (Finset.univ.filter fun b : Ref sig .tc => b.isScoped) \ Finset.univ.image (Pipeline.stageRef spec0)
def staged : List (Ref sig .tc) := [cc0_stg0_0, cc0_stg1_0, cc0_stg2_0, cc0_stg3_0, cc0_stg4_0, cc0_stg5_0, cc0_stg6_0, cc0_stg7_0, cc0_stg8_0, cc0_stg9_0,
  cc0_stg10_0, cc0_stg11_0, cc0_stg12_0, cc0_stg13_0, cc0_stg14_0, cc0_stg15_0, cc0_stg16_0]

/-- The buffers handed over at some contents. -/
def loose : Finset (Ref sig .tc) := inner ∪ (R0 ∪ staged.toFinset)

theorem H0_loose : Disjoint H0 loose := by decide
theorem inner_rest : Disjoint inner (R0 ∪ staged.toFinset) := by decide
theorem R0_staged : Disjoint R0 staged.toFinset := by decide
theorem bufs_eq : bufs = H0 ∪ loose := by decide
theorem staged_nodup : staged.Nodup := by decide
theorem cell_inj : Function.Injective cell := by decide
theorem H0_fixed : ∀ b ∈ H0, b ∈ fixed := by decide

/-- A buffer at some contents. -/
def some_ (c : Dev nD) (b : Ref sig .tc) : sProp 𝕄 := iprop(∃ f : b.ty.Contents (Elt F), (c : Thread nD τ).loc b ↦{fullShare} f)

theorem stages_eq (c : Dev nD) (t : Fin cfg0.N) :
    (bigSep Finset.univ fun w : Fin cfg0.W => (iprop(∃ X, owns (c : Thread nD τ) ((cfg0.win w).stage (cfg0.slots t w)) fullShare X) : sProp 𝕄))
      = bigSep staged.toFinset (some_ c) := by
  rw [bigSep_eq_bigSepL_of_eq staged rfl staged_nodup, bigSep_W0]
  have h : ∀ b : Ref sig .tc, (iprop(∃ X, owns (c : Thread nD τ) (Memref.whole b) fullShare X) : sProp 𝕄) = some_ c b := fun b => by
    unfold some_; simp only [owns_whole]
  show _ = iprop(some_ c cc0_stg0_0 ∗ some_ c cc0_stg1_0 ∗ some_ c cc0_stg2_0 ∗ some_ c cc0_stg3_0 ∗ some_ c cc0_stg4_0 ∗ some_ c cc0_stg5_0
    ∗ some_ c cc0_stg6_0 ∗ some_ c cc0_stg7_0 ∗ some_ c cc0_stg8_0 ∗ some_ c cc0_stg9_0 ∗ some_ c cc0_stg10_0 ∗ some_ c cc0_stg11_0
    ∗ some_ c cc0_stg12_0 ∗ some_ c cc0_stg13_0 ∗ some_ c cc0_stg14_0 ∗ some_ c cc0_stg15_0 ∗ some_ c cc0_stg16_0)
  simp only [← h]
  rfl

/-- The proof data: the arrays as the call finds them, nothing said of what the body leaves in a staging buffer. -/
def dats (_ : Fin 1) (c : Dev nD) : Dat τ (Elt F) Unit ℕ (Pipeline.UD sig nD τ) ℕ cfg0 c where
  A w := V m c (Pipeline.arrRef spec0 w)
  after w t := Pipeline.Dat.unnamed w t
  Φ _ := Pipeline.ΦDR cell spec0 H0 R0 (V m) c
  q _ := fullShare
  owed _ := 0

theorem A_eq (c : Dev nD) (w : Fin cfg0.W) : (dats m 0 c).A w = V m c (Pipeline.arrRef spec0 w) := by
  dsimp only [dats]

/-- What the body is handed and hands back, conjunct by conjunct. -/
theorem body_hands (c : Dev nD) (t : Fin (cfg0.N + 1)) :
    iprop((dats m 0 c).Φ t ∗ (dats m 0 c).owesAt () t ∗ bigSep staged.toFinset (some_ c))
      ⊣⊢ (iprop((∃ r, prngReg c r) ∗ (∃ W, owes (c : Thread nD τ) 0 W) ∗ (bigSep H0 fun b => (c : Thread nD τ).loc b ↦{fullShare} V m c b)
        ∗ bigSep loose (some_ c) ∗ bigSep cells fun s => semVal ((c : Thread nD τ), s) 0) : sProp 𝕄) := by
  have e : (bigSep cells fun s => (semVal ((c : Thread nD τ), s) 0 : sProp 𝕄)) = Pipeline.ownSems0 (τ := τ) cell c := by
    unfold cells Pipeline.ownSems0; exact bigSep_image_of_injOn (cell_inj.injOn) _
  rw [e, show (dats m 0 c).Φ t = Pipeline.ΦDR cell spec0 H0 R0 (V m) c from rfl, Pipeline.ΦDR_eq]
  unfold loose
  rw [parts inner_rest, parts R0_staged]
  unfold Dat.owesAt Pipeline.owesWithin
  rw [show (dats m 0 c).owed t = 0 from rfl, show Pipeline.scopedRest spec0 c = bigSep inner (some_ c) from rfl,
    show Pipeline.owned R0 c = bigSep R0 (some_ c) from rfl]
  constructor
  · iintro ⟨⟨HS, Hg, Hq, HH, HR⟩, ⟨%W, -, HW⟩, HT⟩
    isplitl [Hg]; · iexact Hg
    isplitl [HW]; · iexists W; iexact HW
    isplitl [HH]; · iexact HH
    isplitl [HS HR HT]
    · isplitl [HS]; · iexact HS
      isplitl [HR]; · iexact HR
      iexact HT
    iexact Hq
  · iintro ⟨Hg, ⟨%W, HW⟩, HH, ⟨HS, HR, HT⟩, Hq⟩
    isplitl [Hg HH HS HR Hq]
    · isplitl [HS]; · iexact HS
      isplitl [Hg]; · iexact Hg
      isplitl [Hq]; · iexact Hq
      isplitl [HH]; · iexact HH
      iexact HR
    isplitl [HW]
    · iexists W; isplitr; · ipureintro; exact fun _ _ => Or.inl trivial
      iexact HW
    iexact HT

theorem defs₀_row (t : Fin cfg0.N) :
    defs₀ (F := F) .tc cfg0.body (cfg0.bodyArgs t (cfg0.slots t)) = bodyAt0 t := by
  unfold defs₀; rw [Defs.onTc_tc]

theorem sound_body (c : Dev nD) (t : Fin cfg0.N) :
    iprop((dats m 0 c).Φ t.castSucc ∗ (dats m 0 c).owesAt () t.castSucc ∗ bigSep staged.toFinset (some_ c))
      ⊢ wp frame (wpE (defs₀ (F := F)) Variants.none c none) Set.univ (bodyAt0 t) fun _ =>
        (iprop((dats m 0 c).Φ t.succ ∗ (dats m 0 c).owesAt () t.succ ∗ bigSep staged.toFinset (some_ c)) : sProp 𝕄) := by
  refine (body_hands m c _).1.trans ?_
  have h := Run.owned (defs := defs₀ (F := F)) (B := bufs) (T := cells) (c := c) (p := ap (cc0_mixer_sublayer (F := F))) H0_loose bufs_eq (V m c)
    fun σ hσ => (run_body (c := c) hσ).mono fun _ σ' h => ⟨h.1, fun b hb => h.2 b (H0_fixed b hb)⟩
  refine ((sep_mono_right h).trans (wp_frame_l _ _ _)).trans (wp_mono _ _ _ fun _ => ?_)
  exact (body_hands m c _).2

theorem body_obligation (c : Dev nD) : BodyObligation (dats (F := F) m 0 c) (defs₀ (F := F)) Variants.none () Set.univ (fun _ => true) := fun t => by
  rw [defs₀_row]
  dsimp only
  rw [stages_eq]
  exact sound_body m c t

set_option backward.isDefEq.respectTransparency.types false in
/-- The run: it ends with every counter at zero, every input array and every array the body does not write as at the launch. -/
theorem run_main : θ_run defs (onTc (τ := τ) (main (F := F))) (s₀ m ρ)
    (fun r => Pipeline.RDat.FramePostR cfg0 (fun c => (dats m 0 c).toRForget fun _ => true) R0 (V m) r ∧ r.2.sem = fun _ => 0) :=
  Pipeline.θ_run_frame_dmaR_forget (Q' := _) cfgs (dats m) (0 : Fin 1) launch0 cell defs₀ Variants.none (fun _ => true) ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- An input array ends as it was. -/
theorem input_kept {r : PUnit × MemSt nD τ sig (Elt F)} {c : Dev nD}
    (h : Pipeline.RDat.FramePostR cfg0 (fun c => (dats m 0 c).toRForget fun _ => true) R0 (V m) r) (w : Fin cfg0.W) (hw : (cfg0.win w).isOut = false) :
    r.2.mem ((cfg0.spec w).arr.view.loc (c.tc : Thread nD τ)) = V m c (Pipeline.arrRef spec0 w) := by
  have h1 := (h c).1 w
  rw [Pipeline.RDat.ArrAt_in _ w hw] at h1
  exact h1

/-- Every argument ends as it was, and every counter is zero again. -/
theorem run_frame : θ_run defs (onTc (τ := τ) (main (F := F))) ⟨m, fun _ => 0, ρ⟩ (fun r =>
    (∀ c : Dev nD, ∀ b ∈ ([main_arg0, main_arg1, main_arg2, main_arg3, main_arg4, main_arg5, main_arg6, main_arg7, main_arg8, main_arg9, main_arg10,
        main_arg11, main_arg12, main_arg13, main_arg14, main_arg15] : List (Ref sig .tc)),
      r.2.mem ((c.tc : Thread nD τ).loc b) = m ((c.tc : Thread nD τ).loc b)) ∧ r.2.sem = fun _ => 0) := by
  refine (θ_run defs _ _).mono (fun r h => ⟨fun c => ?_, h.2⟩) (run_main m ρ)
  have hr : ∀ b ∈ Pipeline.restRefs sig cfg0.spec \ R0, r.2.mem ((c.tc : Thread nD τ).loc b) = m ((c.tc : Thread nD τ).loc b) := (h.1 c).2
  simp only [List.forall_mem_cons, List.not_mem_nil, IsEmpty.forall_iff, implies_true, and_true]
  exact ⟨hr _ (by decide), input_kept m h.1 0 rfl, input_kept m h.1 1 rfl, input_kept m h.1 2 rfl, input_kept m h.1 3 rfl, input_kept m h.1 4 rfl,
    input_kept m h.1 5 rfl, input_kept m h.1 6 rfl, input_kept m h.1 7 rfl, input_kept m h.1 8 rfl, input_kept m h.1 9 rfl, input_kept m h.1 10 rfl,
    input_kept m h.1 11 rfl, input_kept m h.1 12 rfl, hr _ (by decide), hr _ (by decide)⟩

end Cert.KernelIdeal.Body
-- ==== Proof.MlpRows.lean ====
/-
  One row of the MLP sub-layer over the extended reals, and the kernel's vector operations read at a row.

  The first part is the mathematics of a row: the modulated input, the squared rectified activations, their projection,
  the residual and the layer norm. The second part states the vector operations the kernel is made of for any number of
  rows, `T` times `B` of them, a row being the pair of a time step and a sequence, and reads each at a row.
-/
module

public import Idealize.ShloMosaic.PureOps.Ideal.Laws
public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.MlpRows

open Idealize.ShloMosaic Idealize.ShloMosaic.ValueIdx
open scoped BigOperators

/-! ## The mathematics of a row -/

/-- The numbers the program writes as constants. -/
def one : EReal := Ideal.ofBits .f32 0x3F800000#32
def alpha : EReal := Ideal.ofBits .f32 0x3F9837F0#32
def width : EReal := Ideal.ofBits .f32 0x44800000#32
def eps : EReal := Ideal.ofBits .f32 0x3727C5AC#32

/-- The modulated input. -/
def hid (x sh sc : Fin 1024 → EReal) : Fin 1024 → EReal := fun k => x k * (one + sc k) + sh k

/-- A unit's rectified activation, from the input and the unit's column and bias. -/
def act (h w : Fin 1024 → EReal) (b : EReal) : EReal := max ((∑ k, h k * w k) + b) 0

/-- A unit's activation, squared, and projected by the unit's weight. -/
def unit (h w : Fin 1024 → EReal) (b p : EReal) : EReal := act h w b * act h w b * p

/-- The projection of all the squared activations, with its bias. -/
def proj (h : Fin 1024 → EReal) (W1 : Fin 1024 → Fin 4096 → EReal) (B1 : Fin 4096 → EReal)
    (W2 : Fin 4096 → Fin 1024 → EReal) (B2 : Fin 1024 → EReal) : Fin 1024 → EReal :=
  fun d => (∑ j, unit h (fun k => W1 k j) (B1 j) (W2 j d)) + B2 d

/-- The residual. -/
def mix (x g f : Fin 1024 → EReal) : Fin 1024 → EReal := fun d => alpha * x d + g d * f d

/-- The mean of a row. -/
def mean (v : Fin 1024 → EReal) : EReal := Ideal.div (∑ k, v k) width

/-- The layer norm of a row. -/
def norm (v γ β : Fin 1024 → EReal) : Fin 1024 → EReal := fun d =>
  (v d - mean v) * Ideal.rsqrt (mean (fun k => (v k - mean v) * (v k - mean v)) + eps) * γ d + β d

/-- A row before its norm. -/
def pre (x sh sc g : Fin 1024 → EReal) (W1 : Fin 1024 → Fin 4096 → EReal) (B1 : Fin 4096 → EReal)
    (W2 : Fin 4096 → Fin 1024 → EReal) (B2 : Fin 1024 → EReal) : Fin 1024 → EReal :=
  mix x g (proj (hid x sh sc) W1 B1 W2 B2)

/-- Unit `j` of quarter `c`. -/
def quarter (c : Fin 4) (j : Fin 1024) : Fin 4096 := ⟨1024 * c.val + j.val, by omega⟩

/-- A sum over all units is the sum over the four quarters. -/
theorem sum_quarters (f : Fin 4096 → EReal) :
    ∑ j, f j = ((∑ j, f (quarter 0 j)) + (∑ j, f (quarter 1 j)) + (∑ j, f (quarter 2 j))) + ∑ j, f (quarter 3 j) := by
  have h := (finProdFinEquiv (m := 4) (n := 1024)).sum_comp (fun j => f (Fin.cast (by norm_num) j))
  have e : ∑ j : Fin (4 * 1024), f (Fin.cast (by norm_num) j) = ∑ j, f j :=
    (finCongr (by norm_num : 4 * 1024 = 4096)).sum_comp f
  rw [← e, ← h, Fintype.sum_prod_type, Fin.sum_univ_four]
  have q : ∀ (c : Fin 4) (j : Fin 1024), Fin.cast (by norm_num) (finProdFinEquiv (c, j)) = quarter c j := fun c j =>
    Fin.ext (by simp only [Fin.val_cast, finProdFinEquiv_apply_val, quarter]; omega)
  simp only [q]

/-! ## The kernel's operations, for any number of rows -/

section

variable {T B M : ℕ}

/-- The shapes: one row of parameters, the rows as a matrix, the rows by time and sequence, one number to a row. -/
abbrev S1 : Shape := ⟨2, ![1, 1024]⟩
abbrev S2 (M : ℕ) : Shape := ⟨2, ![M, 1024]⟩
abbrev S3 (T B : ℕ) : Shape := ⟨3, ![T, B, 1024]⟩
abbrev SU (T B : ℕ) : Shape := ⟨3, ![T, B, 1]⟩

/-- The row of time `t` and sequence `b`. -/
def rowOf (h : T * B = M) (t : Fin T) (b : Fin B) : Fin M :=
  ⟨t.val * B + b.val, by
    have h1 : (t.val + 1) * B ≤ T * B := Nat.mul_le_mul_right B t.isLt
    have h2 : (t.val + 1) * B = t.val * B + B := Nat.succ_mul t.val B
    have := b.isLt
    omega⟩

theorem split_apply {α : Type} (hM : T * B = M) (v : (S2 M).Idx → α) (h : (S2 M).ShapeCasts (S3 T B))
    (t : Fin T) (b : Fin B) (d : Fin 1024) : shapeCast (S3 T B) v h (ix3 t b d) = v (ix2 (rowOf hM t b) d) :=
  shapeCast_apply v h _ _ (by rw [Shape.rowMajor_val_two, Shape.rowMajor_val_three]; rfl)

theorem join_apply {α : Type} (hM : T * B = M) (v : (S3 T B).Idx → α) (h : (S3 T B).ShapeCasts (S2 M))
    (t : Fin T) (b : Fin B) (d : Fin 1024) : shapeCast (S2 M) v h (ix2 (rowOf hM t b) d) = v (ix3 t b d) :=
  shapeCast_apply v h _ _ (by rw [Shape.rowMajor_val_two, Shape.rowMajor_val_three]; rfl)

/-- A row of parameters under every row of a matrix. -/
theorem under_apply {α : Type} (v : S1.Idx → α) (h : S1.Broadcasts (S2 M)) (r : Fin M) (d : Fin 1024) :
    broadcastTo (S2 M) v h (ix2 r d) = v (ix2 0 d) :=
  broadcastTo_apply v h _ _ fun a => match a with | ⟨0, _⟩ => rfl | ⟨1, _⟩ => rfl

/-- One row for each sequence, at every time. -/
theorem times_apply {α : Type} (v : (S2 B).Idx → α) (h1 : (S2 B).ShapeCasts (S3 1 B)) (h2 : (S3 1 B).Broadcasts (S3 T B))
    (t : Fin T) (b : Fin B) (d : Fin 1024) :
    broadcastTo (S3 T B) (shapeCast (S3 1 B) v h1) h2 (ix3 t b d) = v (ix2 b d) := by
  rw [broadcastTo_apply _ h2 _ (ix3 0 b d) fun a => match a with
    | ⟨0, _⟩ => rfl
    | ⟨1, _⟩ => by
      show b.val = if B = 1 then 0 else b.val
      split
      · have := b.isLt; omega
      · rfl
    | ⟨2, _⟩ => rfl]
  exact shapeCast_ab_1ab_apply v h1 0 b d

/-- A row of parameters at every time and sequence. -/
theorem params_apply {α : Type} (v : S1.Idx → α) (h1 : S1.ShapeCasts (S3 1 1)) (h2 : (S3 1 1).Broadcasts (S3 T B))
    (t : Fin T) (b : Fin B) (d : Fin 1024) :
    broadcastTo (S3 T B) (shapeCast (S3 1 1) v h1) h2 (ix3 t b d) = v (ix2 0 d) := by
  rw [broadcastTo_apply _ h2 _ (ix3 0 0 d) fun a => match a with
    | ⟨0, _⟩ => rfl
    | ⟨1, _⟩ => rfl
    | ⟨2, _⟩ => rfl]
  exact shapeCast_ab_1ab_apply v h1 0 0 d

/-- One number of a row at every place of it. -/
theorem along_apply {α : Type} (v : (SU T B).Idx → α) (h : (SU T B).Broadcasts (S3 T B))
    (t : Fin T) (b : Fin B) (d : Fin 1024) : broadcastTo (S3 T B) v h (ix3 t b d) = v (ix3 t b 0) :=
  broadcastTo_apply v h _ _ fun a => match a with
    | ⟨0, _⟩ => by
      show t.val = if T = 1 then 0 else t.val
      split
      · have := t.isLt; omega
      · rfl
    | ⟨1, _⟩ => by
      show b.val = if B = 1 then 0 else b.val
      split
      · have := b.isLt; omega
      · rfl
    | ⟨2, _⟩ => rfl

/-- The sum of each row. -/
theorem total_apply (v : FVec Ideal (S3 T B) .f32) (h : (S3 T B).Reduces [2] ⟨2, ![T, B]⟩)
    (h1 : (⟨2, ![T, B]⟩ : Shape).ShapeCasts (SU T B)) (t : Fin T) (b : Fin B) :
    shapeCast (SU T B) (multiReduction .add [2] ⟨2, ![T, B]⟩ v 0x00000000#32 h (.inl rfl) rfl) h1 (ix3 t b 0)
      = ∑ k : Fin 1024, v (ix3 t b k) := by
  rw [shapeCast_apply _ h1 _ (ix2 t b) (by
    rw [Shape.rowMajor_val_two, Shape.rowMajor_val_three]
    show t.val * B + b.val = (t.val * B + b.val) * 1 + 0
    omega)]
  refine (Ideal.multiReduction_add_single v 0x00000000#32 h (.inl rfl) rfl (ix2 t b)).trans ?_
  refine Finset.sum_congr rfl fun k _ => congrArg v ?_
  funext a
  match a with
  | ⟨0, _⟩ => rfl
  | ⟨1, _⟩ => rfl
  | ⟨2, _⟩ => rfl

/-- The modulated input of every row. -/
def hidV (x : FVec Ideal (S3 T B) .f32) (sh sc : FVec Ideal (S2 B) .f32) (h1 : (S2 B).ShapeCasts (S3 1 B))
    (h2 : (S3 1 B).Broadcasts (S3 T B)) (h3 : (S3 T B).ShapeCasts (S2 M)) (h4 : FTy.bits .bf16 < FTy.bits .f32) : FVec Ideal (S2 M) .bf16 :=
  truncf .bf16 (shapeCast (S2 M)
    (addf (mulf x (broadcastTo (S3 T B) (shapeCast (S3 1 B) (addf (broadcast (S2 B) (Scalar.ofBits .f32 0x3F800000#32)) sc) h1) h2))
      (broadcastTo (S3 T B) (shapeCast (S3 1 B) sh h1) h2)) h3) h4

theorem hidV_apply (hM : T * B = M) (x : FVec Ideal (S3 T B) .f32) (sh sc : FVec Ideal (S2 B) .f32) (h1 : (S2 B).ShapeCasts (S3 1 B))
    (h2 : (S3 1 B).Broadcasts (S3 T B)) (h3 : (S3 T B).ShapeCasts (S2 M)) (h4 : FTy.bits .bf16 < FTy.bits .f32)
    (t : Fin T) (b : Fin B) (k : Fin 1024) :
    hidV x sh sc h1 h2 h3 h4 (ix2 (rowOf hM t b) k)
      = hid (fun k => x (ix3 t b k)) (fun k => sh (ix2 b k)) (fun k => sc (ix2 b k)) k := by
  unfold hidV
  rw [truncf_apply]
  refine (join_apply (α := Ideal .f32) hM _ h3 t b k).trans ?_
  show x (ix3 t b k) * broadcastTo (S3 T B) _ h2 (ix3 t b k) + broadcastTo (S3 T B) _ h2 (ix3 t b k) = _
  rw [times_apply, times_apply]
  rfl

/-- The squared activations of a quarter of the units. -/
def actV (h : FVec Ideal (S2 M) .bf16) (w : FVec Ideal (S2 1024) .bf16) (b : FVec Ideal S1 .f32) (hb : S1.Broadcasts (S2 M))
    (h4 : FTy.bits .bf16 < FTy.bits .f32) : FVec Ideal (S2 M) .bf16 :=
  let a : FVec Ideal (S2 M) .f32 := maximumf (addf (matmul (DotDims.plain M 1024 1024) none h w (constant (S2 M) .f32 0x00000000#32))
    (broadcastTo (S2 M) b hb)) (broadcast (S2 M) (Scalar.ofBits .f32 0x00000000#32))
  truncf .bf16 (mulf a a) h4

/-- A product from a zero accumulator. -/
theorem dot_apply {φ : FTy} (l : FVec Ideal (S2 M) φ) (w : FVec Ideal (S2 1024) φ) (r : Fin M) (d : Fin 1024) :
    matmul (DotDims.plain M 1024 1024) none l w (constant (S2 M) .f32 0x00000000#32) (ix2 r d)
      = ∑ k : Fin 1024, l (ix2 r k) * w (ix2 k d) := by
  show FloatOps.matmul (DotDims.plain M 1024 1024) none l w (constant (S2 M) .f32 0x00000000#32) (ix2 r d) = _
  rw [Ideal.matmul_plain_apply]
  show Ideal.ofBits .f32 0x00000000#32 + _ = _
  rw [Ideal.ofBits_zero_f32, zero_add]

theorem actV_apply (h : FVec Ideal (S2 M) .bf16) (w : FVec Ideal (S2 1024) .bf16) (b : FVec Ideal S1 .f32) (hb : S1.Broadcasts (S2 M))
    (h4 : FTy.bits .bf16 < FTy.bits .f32) (r : Fin M) (j : Fin 1024) :
    actV h w b hb h4 (ix2 r j)
      = act (fun k => h (ix2 r k)) (fun k => w (ix2 k j)) (b (ix2 0 j)) * act (fun k => h (ix2 r k)) (fun k => w (ix2 k j)) (b (ix2 0 j)) := by
  have e : max (matmul (DotDims.plain M 1024 1024) none h w (constant (S2 M) .f32 0x00000000#32) (ix2 r j)
      + broadcastTo (S2 M) b hb (ix2 r j)) (Ideal.ofBits .f32 0x00000000#32)
      = act (fun k => h (ix2 r k)) (fun k => w (ix2 k j)) (b (ix2 0 j)) := by
    rw [dot_apply, under_apply, Ideal.ofBits_zero_f32]; rfl
  rw [← e]
  rfl

/-- What a quarter of the units adds to the projection. -/
def quarterV (h : FVec Ideal (S2 M) .bf16) (w : FVec Ideal (S2 1024) .bf16) (b : FVec Ideal S1 .f32) (p : FVec Ideal (S2 1024) .bf16)
    (hb : S1.Broadcasts (S2 M)) (h4 : FTy.bits .bf16 < FTy.bits .f32) : FVec Ideal (S2 M) .f32 :=
  matmul (DotDims.plain M 1024 1024) none (actV h w b hb h4) p (constant (S2 M) .f32 0x00000000#32)

theorem quarterV_apply (h : FVec Ideal (S2 M) .bf16) (w : FVec Ideal (S2 1024) .bf16) (b : FVec Ideal S1 .f32)
    (p : FVec Ideal (S2 1024) .bf16) (hb : S1.Broadcasts (S2 M)) (h4 : FTy.bits .bf16 < FTy.bits .f32) (r : Fin M) (d : Fin 1024) :
    quarterV h w b p hb h4 (ix2 r d)
      = ∑ j : Fin 1024, unit (fun k => h (ix2 r k)) (fun k => w (ix2 k j)) (b (ix2 0 j)) (p (ix2 j d)) := by
  unfold quarterV
  rw [dot_apply]
  exact Finset.sum_congr rfl fun j _ => by rw [actV_apply]; rfl

/-- The projection of all four quarters, with its bias. -/
def projV (h : FVec Ideal (S2 M) .bf16) (w : Fin 4 → FVec Ideal (S2 1024) .bf16) (b : Fin 4 → FVec Ideal S1 .f32)
    (p : Fin 4 → FVec Ideal (S2 1024) .bf16) (b2 : FVec Ideal S1 .f32)
    (hb : S1.Broadcasts (S2 M)) (h4 : FTy.bits .bf16 < FTy.bits .f32) : FVec Ideal (S2 M) .f32 :=
  addf (addf (addf (addf (quarterV h (w 0) (b 0) (p 0) hb h4) (quarterV h (w 1) (b 1) (p 1) hb h4)) (quarterV h (w 2) (b 2) (p 2) hb h4))
    (quarterV h (w 3) (b 3) (p 3) hb h4)) (broadcastTo (S2 M) b2 hb)

theorem projV_apply (h : FVec Ideal (S2 M) .bf16) (w : Fin 4 → FVec Ideal (S2 1024) .bf16) (b : Fin 4 → FVec Ideal S1 .f32)
    (p : Fin 4 → FVec Ideal (S2 1024) .bf16) (b2 : FVec Ideal S1 .f32)
    (hb : S1.Broadcasts (S2 M)) (h4 : FTy.bits .bf16 < FTy.bits .f32)
    (W1 : Fin 1024 → Fin 4096 → EReal) (B1 : Fin 4096 → EReal) (W2 : Fin 4096 → Fin 1024 → EReal)
    (hw : ∀ c k j, w c (ix2 k j) = W1 k (quarter c j)) (hb1 : ∀ c j, b c (ix2 0 j) = B1 (quarter c j))
    (hp : ∀ c j d, p c (ix2 j d) = W2 (quarter c j) d) (r : Fin M) (d : Fin 1024) :
    projV h w b p b2 hb h4 (ix2 r d) = proj (fun k => h (ix2 r k)) W1 B1 W2 (fun d => b2 (ix2 0 d)) d := by
  unfold projV proj
  show quarterV h (w 0) (b 0) (p 0) hb h4 (ix2 r d) + quarterV h (w 1) (b 1) (p 1) hb h4 (ix2 r d)
    + quarterV h (w 2) (b 2) (p 2) hb h4 (ix2 r d) + quarterV h (w 3) (b 3) (p 3) hb h4 (ix2 r d) + broadcastTo (S2 M) b2 hb (ix2 r d) = _
  rw [sum_quarters, under_apply]
  simp only [quarterV_apply, hw, hb1, hp]

/-- The residual of every row, by time and sequence. -/
def mixV (x : FVec Ideal (S3 T B) .f32) (g : FVec Ideal (S2 B) .f32) (f : FVec Ideal (S2 M) .f32) (h0 : (S2 M).ShapeCasts (S3 T B))
    (h1 : (S2 B).ShapeCasts (S3 1 B)) (h2 : (S3 1 B).Broadcasts (S3 T B)) : FVec Ideal (S3 T B) .f32 :=
  addf (mulf (broadcast (S3 T B) (Scalar.ofBits .f32 0x3F9837F0#32)) x)
    (mulf (broadcastTo (S3 T B) (shapeCast (S3 1 B) g h1) h2) (shapeCast (S3 T B) f h0))

theorem mixV_apply (hM : T * B = M) (x : FVec Ideal (S3 T B) .f32) (g : FVec Ideal (S2 B) .f32) (f : FVec Ideal (S2 M) .f32)
    (h0 : (S2 M).ShapeCasts (S3 T B)) (h1 : (S2 B).ShapeCasts (S3 1 B)) (h2 : (S3 1 B).Broadcasts (S3 T B))
    (t : Fin T) (b : Fin B) (d : Fin 1024) :
    mixV x g f h0 h1 h2 (ix3 t b d)
      = mix (fun k => x (ix3 t b k)) (fun k => g (ix2 b k)) (fun k => f (ix2 (rowOf hM t b) k)) d := by
  unfold mixV
  show Ideal.ofBits .f32 0x3F9837F0#32 * x (ix3 t b d)
    + broadcastTo (S3 T B) _ h2 (ix3 t b d) * shapeCast (S3 T B) f h0 (ix3 t b d) = _
  rw [times_apply, split_apply hM]
  rfl

/-- The mean of every row. -/
def meanV (v : FVec Ideal (S3 T B) .f32) (h : (S3 T B).Reduces [2] ⟨2, ![T, B]⟩) (h1 : (⟨2, ![T, B]⟩ : Shape).ShapeCasts (SU T B)) :
    FVec Ideal (SU T B) .f32 :=
  divf (shapeCast (SU T B) (multiReduction .add [2] ⟨2, ![T, B]⟩ v 0x00000000#32 h (.inl rfl) rfl) h1)
    (broadcast (SU T B) (Scalar.ofBits .f32 0x44800000#32))

theorem meanV_apply (v : FVec Ideal (S3 T B) .f32) (h : (S3 T B).Reduces [2] ⟨2, ![T, B]⟩)
    (h1 : (⟨2, ![T, B]⟩ : Shape).ShapeCasts (SU T B)) (t : Fin T) (b : Fin B) :
    meanV v h h1 (ix3 t b 0) = mean (fun k => v (ix3 t b k)) := by
  unfold meanV mean
  rw [← total_apply v h h1]
  rfl

/-- Every row less its mean. -/
def centV (v : FVec Ideal (S3 T B) .f32) (h : (S3 T B).Reduces [2] ⟨2, ![T, B]⟩) (h1 : (⟨2, ![T, B]⟩ : Shape).ShapeCasts (SU T B))
    (h2 : (SU T B).Broadcasts (S3 T B)) : FVec Ideal (S3 T B) .f32 :=
  subf v (broadcastTo (S3 T B) (meanV v h h1) h2)

theorem centV_apply (v : FVec Ideal (S3 T B) .f32) (h : (S3 T B).Reduces [2] ⟨2, ![T, B]⟩)
    (h1 : (⟨2, ![T, B]⟩ : Shape).ShapeCasts (SU T B)) (h2 : (SU T B).Broadcasts (S3 T B)) (t : Fin T) (b : Fin B) (d : Fin 1024) :
    centV v h h1 h2 (ix3 t b d) = v (ix3 t b d) - mean (fun k => v (ix3 t b k)) := by
  unfold centV
  show v (ix3 t b d) - broadcastTo (S3 T B) _ h2 (ix3 t b d) = _
  rw [along_apply, meanV_apply]

/-- The layer norm of every row, from the row less its mean; the sequences run first in the result. -/
def normV (c : FVec Ideal (S3 T B) .f32) (γ β : FVec Ideal S1 .f32) (h : (S3 T B).Reduces [2] ⟨2, ![T, B]⟩)
    (h1 : (⟨2, ![T, B]⟩ : Shape).ShapeCasts (SU T B)) (h2 : (SU T B).Broadcasts (S3 T B)) (h3 : S1.ShapeCasts (S3 1 1))
    (h4 : (S3 1 1).Broadcasts (S3 T B)) (h5 : (S3 T B).Transposes [1, 0, 2] (S3 B T)) : FVec Ideal (S3 B T) .f32 :=
  transpose (S3 B T) [1, 0, 2]
    (addf (mulf (mulf c (broadcastTo (S3 T B)
      (rsqrt (addf (meanV (mulf c c) h h1) (broadcast (SU T B) (Scalar.ofBits .f32 0x3727C5AC#32)))) h2))
      (broadcastTo (S3 T B) (shapeCast (S3 1 1) γ h3) h4)) (broadcastTo (S3 T B) (shapeCast (S3 1 1) β h3) h4)) h5

theorem normV_apply (v : FVec Ideal (S3 T B) .f32) (γ β : FVec Ideal S1 .f32) (h : (S3 T B).Reduces [2] ⟨2, ![T, B]⟩)
    (h1 : (⟨2, ![T, B]⟩ : Shape).ShapeCasts (SU T B)) (h2 : (SU T B).Broadcasts (S3 T B)) (h3 : S1.ShapeCasts (S3 1 1))
    (h4 : (S3 1 1).Broadcasts (S3 T B)) (h5 : (S3 T B).Transposes [1, 0, 2] (S3 B T)) (t : Fin T) (b : Fin B) (d : Fin 1024) :
    normV (centV v h h1 h2) γ β h h1 h2 h3 h4 h5 (ix3 b t d)
      = norm (fun k => v (ix3 t b k)) (fun k => γ (ix2 0 k)) (fun k => β (ix2 0 k)) d := by
  unfold normV
  rw [transpose_apply [1, 0, 2] _ h5 _ (ix3 t b d) fun c => match c with | ⟨0, _⟩ => rfl | ⟨1, _⟩ => rfl | ⟨2, _⟩ => rfl]
  show centV v h h1 h2 (ix3 t b d) * broadcastTo (S3 T B) _ h2 (ix3 t b d) * broadcastTo (S3 T B) _ h4 (ix3 t b d)
    + broadcastTo (S3 T B) _ h4 (ix3 t b d) = _
  rw [params_apply, params_apply, along_apply, centV_apply]
  show (v (ix3 t b d) - mean (fun k => v (ix3 t b k)))
    * Ideal.rsqrt (meanV (mulf (centV v h h1 h2) (centV v h h1 h2)) h h1 (ix3 t b 0) + Ideal.ofBits .f32 0x3727C5AC#32) * γ (ix2 0 d)
    + β (ix2 0 d) = _
  rw [meanV_apply]
  have e : (fun k => mulf (centV v h h1 h2) (centV v h h1 h2) (ix3 t b k))
      = fun k => (v (ix3 t b k) - mean (fun k => v (ix3 t b k))) * (v (ix3 t b k) - mean (fun k => v (ix3 t b k))) := by
    funext k
    show centV v h h1 h2 (ix3 t b k) * centV v h h1 h2 (ix3 t b k) = _
    rw [centV_apply]
  rw [e]
  rfl

/-- The whole chain at a row: the layer norm of the row. -/
theorem chain_apply (hM : T * B = M) (x : FVec Ideal (S3 T B) .f32) (sh sc g : FVec Ideal (S2 B) .f32)
    (w : Fin 4 → FVec Ideal (S2 1024) .bf16) (b1 : Fin 4 → FVec Ideal S1 .f32) (p : Fin 4 → FVec Ideal (S2 1024) .bf16)
    (b2 γ β : FVec Ideal S1 .f32) (h1 : (S2 B).ShapeCasts (S3 1 B)) (h2 : (S3 1 B).Broadcasts (S3 T B))
    (h3 : (S3 T B).ShapeCasts (S2 M)) (h4 : FTy.bits .bf16 < FTy.bits .f32) (hb : S1.Broadcasts (S2 M)) (h0 : (S2 M).ShapeCasts (S3 T B))
    (hr : (S3 T B).Reduces [2] ⟨2, ![T, B]⟩) (hu : (⟨2, ![T, B]⟩ : Shape).ShapeCasts (SU T B)) (ha : (SU T B).Broadcasts (S3 T B))
    (hc : S1.ShapeCasts (S3 1 1)) (hp : (S3 1 1).Broadcasts (S3 T B)) (ht : (S3 T B).Transposes [1, 0, 2] (S3 B T))
    (W1 : Fin 1024 → Fin 4096 → EReal) (B1 : Fin 4096 → EReal) (W2 : Fin 4096 → Fin 1024 → EReal)
    (hw : ∀ c k j, w c (ix2 k j) = W1 k (quarter c j)) (hb1 : ∀ c j, b1 c (ix2 0 j) = B1 (quarter c j))
    (hp1 : ∀ c j d, p c (ix2 j d) = W2 (quarter c j) d) (t : Fin T) (b : Fin B) (d : Fin 1024) :
    normV (centV (mixV x g (projV (hidV x sh sc h1 h2 h3 h4) w b1 p b2 hb h4) h0 h1 h2) hr hu ha) γ β hr hu ha hc hp ht (ix3 b t d)
      = norm (pre (fun k => x (ix3 t b k)) (fun k => sh (ix2 b k)) (fun k => sc (ix2 b k)) (fun k => g (ix2 b k)) W1 B1 W2
          (fun d => b2 (ix2 0 d))) (fun k => γ (ix2 0 k)) (fun k => β (ix2 0 k)) d := by
  rw [normV_apply]
  simp only [mixV_apply hM, projV_apply _ w b1 p b2 hb h4 W1 B1 W2 hw hb1 hp1, hidV_apply hM]
  rfl

end

/-! ## The result as a function of the arrays -/

/-- Sixth `c` of a row of the modulation. -/
def part (c : Fin 6) (k : Fin 1024) : Fin 6144 := ⟨1024 * c.val + k.val, by omega⟩

/-- The result's row of time `t` and sequence `b`, from the arrays: the rows, the shift, the scale and the gate of each
    sequence, the weights, and the rows of parameters. -/
def outAt {T B : ℕ} (x : (S3 T B).Idx → EReal) (sh sc g : Fin B → Fin 1024 → EReal) (w1 : (⟨2, ![1024, 4096]⟩ : Shape).Idx → EReal)
    (b1 : (⟨2, ![1, 4096]⟩ : Shape).Idx → EReal) (w2 : (⟨2, ![4096, 1024]⟩ : Shape).Idx → EReal)
    (p : (⟨2, ![5, 1024]⟩ : Shape).Idx → EReal) (t : Fin T) (b : Fin B) : Fin 1024 → EReal :=
  norm (pre (fun k => x (ix3 t b k)) (sh b) (sc b) (g b) (fun k j => w1 (ix2 k j)) (fun j => b1 (ix2 0 j)) (fun j d => w2 (ix2 j d))
    (fun d => p (ix2 2 d))) (fun k => p (ix2 3 k)) (fun k => p (ix2 4 k))

/-- The result of all rows, the sequences first; the modulation is the last three sixths of each sequence's row. -/
def out {T B : ℕ} (x : (S3 T B).Idx → EReal) (q : (⟨2, ![B, 6144]⟩ : Shape).Idx → EReal) (w1 : (⟨2, ![1024, 4096]⟩ : Shape).Idx → EReal)
    (b1 : (⟨2, ![1, 4096]⟩ : Shape).Idx → EReal) (w2 : (⟨2, ![4096, 1024]⟩ : Shape).Idx → EReal)
    (p : (⟨2, ![5, 1024]⟩ : Shape).Idx → EReal) : (S3 B T).Idx → EReal :=
  fun i => outAt x (fun b k => q (ix2 b (part 3 k))) (fun b k => q (ix2 b (part 4 k))) (fun b k => q (ix2 b (part 5 k))) w1 b1 w2 p
    (i 1) (i 0) (i 2)

end Cert.MlpRows

end
-- ==== Proof.MlpRef.lean ====
/-
  The reference's results, read one operation at a time, are the rows of Proof/MlpRows.lean.
-/
module

public import proofs.«01_k».proof.Proof.Gen.MlpReferenceIdeal.Run
public import proofs.«01_k».proof.Proof.Gen.MlpReferenceIdeal.Read
public import proofs.«01_k».proof.Proof.MlpRows

@[expose] public section

noncomputable section

namespace Cert.MlpReferenceIdeal.Rows

open Idealize.ShloMosaic Idealize.ShloMosaic.TcCoe Idealize.ShloMosaic.ValueIdx
open Cert.MlpReferenceIdeal Cert.MlpReferenceIdeal.Gen Cert.MlpReferenceIdeal.Read Cert.MlpRows
open scoped BigOperators

/-- An index is given by its coordinates' values. -/
theorem ext2 {A B : ℕ} {i : (⟨2, ![A, B]⟩ : Shape).Idx} {a : Fin A} {b : Fin B} (h0 : (i 0).val = a.val) (h1 : (i 1).val = b.val) :
    i = ix2 a b := funext fun d => Fin.ext <| match d with | ⟨0, _⟩ => h0 | ⟨1, _⟩ => h1

theorem ext3 {A B C : ℕ} {i : (⟨3, ![A, B, C]⟩ : Shape).Idx} {a : Fin A} {b : Fin B} {c : Fin C} (h0 : (i 0).val = a.val)
    (h1 : (i 1).val = b.val) (h2 : (i 2).val = c.val) : i = ix3 a b c :=
  funext fun d => Fin.ext <| match d with | ⟨0, _⟩ => h0 | ⟨1, _⟩ => h1 | ⟨2, _⟩ => h2

/-- The reference's zero. -/
theorem zero_eq : (FloatOps.ofBits (F := Ideal) .f32 0x00000000#32 : EReal) = 0 := Ideal.ofBits_zero_f32

variable (x0 : Vec Ideal S2048x8x1024 .f32) (x1 : Vec Ideal S8x6144 .f32) (x2 : Vec Ideal S1024x4096 .bf16) (x3 : Vec Ideal S1x4096 .f32)
  (x4 : Vec Ideal S4096x1024 .bf16) (x5 : Vec Ideal S5x1024 .f32) (x6 : Vec Ideal S4x128x1024 .f32) (x7 : Vec Ideal S128x6144 .f32)

/-! ## The prompt -/

theorem promptHid (t : Fin 2048) (b : Fin 8) (k : Fin 1024) :
    val_main_v14 (F := Ideal) x0 x1 (ix2 (rowOf (M := 16384) rfl t b) k)
      = hid (fun k => x0 (ix3 t b k)) (fun k => x1 (ix2 b (part 3 k))) (fun k => x1 (ix2 b (part 4 k))) k := by
  have e : idx_main_v14 (ix2 (rowOf (M := 16384) rfl t b) k) = ix3 t b k := by
    refine ext3 ?_ ?_ ?_
    · show ((t.val * 8 + b.val) * 1024 + k.val) / 8192 = t.val; omega
    · show ((t.val * 8 + b.val) * 1024 + k.val) / 1024 % 8 = b.val; omega
    · show ((t.val * 8 + b.val) * 1024 + k.val) % 1024 = k.val; omega
  have e4 : idx_main_v2 (idx_main_v4 (idx_main_v8 (idx_main_v9 (ix3 t b k)))) = ix2 b (part 4 k) :=
    ext2 rfl (by show 3072 + (1024 + k.val) = 1024 * 4 + k.val; omega)
  have e3 : idx_main_v2 (idx_main_v3 (idx_main_v11 (idx_main_v12 (ix3 t b k)))) = ix2 b (part 3 k) :=
    ext2 rfl (by show 3072 + k.val = 1024 * 3 + k.val; omega)
  rw [val_main_v14_apply, e]
  simp only [val_main_v13_apply, val_main_v10_apply, val_main_v9_apply, val_main_v8_apply, val_main_v7_apply, val_main_v6_apply,
    val_main_cst_apply, val_main_v4_apply, val_main_v2_apply, val_main_v12_apply, val_main_v11_apply, val_main_v3_apply]
  rw [e4, e3]
  rfl

theorem promptProj (r : Fin 16384) (d : Fin 1024) :
    val_main_v26 (F := Ideal) x0 x1 x2 x3 x4 x5 (ix2 r d)
      = proj (fun k => val_main_v14 (F := Ideal) x0 x1 (ix2 r k)) (fun k j => x2 (ix2 k j)) (fun j => x3 (ix2 0 j)) (fun j d => x4 (ix2 j d))
          (fun d => x5 (ix2 2 d)) d := by
  have e5 : idx_main_v22 (idx_main_v23 (idx_main_v24 (idx_main_v25 (ix2 r d)))) = ix2 2 d := ext2 rfl (Nat.mod_eq_of_lt d.isLt)
  have l1 : ∀ j, lidx_main_v21 (ix2 r d) j = ix2 r j := fun j => ext2 rfl rfl
  have r1 : ∀ j, ridx_main_v21 (ix2 r d) j = ix2 j d := fun j => ext2 rfl rfl
  have l0 : ∀ j k, lidx_main_v15 (ix2 r j) k = ix2 r k := fun j k => ext2 rfl rfl
  have r0 : ∀ j k, ridx_main_v15 (ix2 r j) k = ix2 k j := fun j k => ext2 rfl rfl
  have e3 : ∀ j, idx_main_v16 (ix2 r j) = ix2 0 j := fun j => ext2 rfl rfl
  simp only [val_main_v26_apply, val_main_v25_apply, val_main_v24_apply, val_main_v23_apply, val_main_v22_apply, e5, val_main_v21_apply, l1, r1,
    val_main_v1_apply, val_main_v20_apply, val_main_v19_apply, val_main_v18_apply, val_main_cst_0_apply, zero_eq, val_main_v17_apply,
    val_main_v16_apply, e3, val_main_v15_apply, l0, r0, val_main_v0_apply]
  rfl

theorem promptMix (t : Fin 2048) (b : Fin 8) (d : Fin 1024) :
    val_main_v33 (F := Ideal) x0 x1 x2 x3 x4 x5 (ix3 t b d)
      = pre (fun k => x0 (ix3 t b k)) (fun k => x1 (ix2 b (part 3 k))) (fun k => x1 (ix2 b (part 4 k))) (fun k => x1 (ix2 b (part 5 k)))
          (fun k j => x2 (ix2 k j)) (fun j => x3 (ix2 0 j)) (fun j d => x4 (ix2 j d)) (fun d => x5 (ix2 2 d)) d := by
  have e : idx_main_v29 (ix3 t b d) = ix2 (rowOf (M := 16384) rfl t b) d := by
    refine ext2 ?_ ?_
    · show ((t.val * 8 + b.val) * 1024 + d.val) / 1024 = t.val * 8 + b.val; omega
    · show ((t.val * 8 + b.val) * 1024 + d.val) % 1024 = d.val; omega
  have e5 : idx_main_v2 (idx_main_v5 (idx_main_v30 (idx_main_v31 (ix3 t b d)))) = ix2 b (part 5 d) :=
    ext2 rfl (by show 3072 + (2048 + d.val) = 1024 * 5 + d.val; omega)
  simp only [val_main_v33_apply, val_main_v28_apply, val_main_v27_apply, val_main_cst_1_apply, val_main_v32_apply, val_main_v31_apply,
    val_main_v30_apply, val_main_v5_apply, val_main_v2_apply, e5, val_main_v29_apply, e, promptProj, promptHid]
  rfl

theorem promptMean (t : Fin 2048) (b : Fin 8) :
    val_main_v37 (F := Ideal) x0 x1 x2 x3 x4 x5 (ix3 t b 0) = mean (fun k => val_main_v33 (F := Ideal) x0 x1 x2 x3 x4 x5 (ix3 t b k)) := by
  have e : ∀ k, idx_main_v34 (idx_main_v35 (ix3 t b 0)) k = ix3 t b k := fun k => ext3 rfl rfl rfl
  simp only [val_main_v37_apply, val_main_v36_apply, val_main_cst_3_apply, val_main_v35_apply, val_main_v34_apply, val_main_cst_2_apply, e,
    zero_eq, zero_add]
  rfl

theorem promptCent (t : Fin 2048) (b : Fin 8) (d : Fin 1024) :
    val_main_v39 (F := Ideal) x0 x1 x2 x3 x4 x5 (ix3 t b d) = val_main_v33 (F := Ideal) x0 x1 x2 x3 x4 x5 (ix3 t b d)
      - mean (fun k => val_main_v33 (F := Ideal) x0 x1 x2 x3 x4 x5 (ix3 t b k)) := by
  have e : idx_main_v38 (ix3 t b d) = ix3 t b 0 := ext3 rfl rfl rfl
  rw [val_main_v39_apply, val_main_v38_apply, e, promptMean]
  rfl

theorem promptVar (t : Fin 2048) (b : Fin 8) :
    val_main_v44 (F := Ideal) x0 x1 x2 x3 x4 x5 (ix3 t b 0) = mean (fun k =>
      val_main_v39 (F := Ideal) x0 x1 x2 x3 x4 x5 (ix3 t b k) * val_main_v39 (F := Ideal) x0 x1 x2 x3 x4 x5 (ix3 t b k)) := by
  have e : ∀ k, idx_main_v41 (idx_main_v42 (ix3 t b 0)) k = ix3 t b k := fun k => ext3 rfl rfl rfl
  simp only [val_main_v44_apply, val_main_v43_apply, val_main_cst_5_apply, val_main_v42_apply, val_main_v41_apply, val_main_cst_4_apply, e,
    val_main_v40_apply, zero_eq, zero_add]
  rfl

/-- The reference's first result. -/
theorem prompt : val_main_v60 (F := Ideal) x0 x1 x2 x3 x4 x5 = out x0 x1 x2 x3 x4 x5 := by
  funext i
  obtain ⟨b, t, d, rfl⟩ : ∃ (b : Fin 8) (t : Fin 2048) (d : Fin 1024), i = ix3 b t d := ⟨i 0, i 1, i 2, eq_ix3 i⟩
  have e : idx_main_v60 (ix3 b t d) = ix3 t b d := ext3 rfl rfl rfl
  have eγ : idx_main_v50 (idx_main_v51 (idx_main_v52 (idx_main_v53 (ix3 t b d)))) = ix2 3 d := ext2 rfl (Nat.mod_eq_of_lt d.isLt)
  have eβ : idx_main_v55 (idx_main_v56 (idx_main_v57 (idx_main_v58 (ix3 t b d)))) = ix2 4 d := ext2 rfl (Nat.mod_eq_of_lt d.isLt)
  have e8 : idx_main_v48 (ix3 t b d) = ix3 t b 0 := ext3 rfl rfl rfl
  rw [val_main_v60_apply, e]
  simp only [val_main_v59_apply, val_main_v58_apply, val_main_v57_apply, val_main_v56_apply, val_main_v55_apply, eβ, val_main_v54_apply,
    val_main_v53_apply, val_main_v52_apply, val_main_v51_apply, val_main_v50_apply, eγ, val_main_v49_apply, val_main_v48_apply, e8,
    val_main_v47_apply, val_main_v46_apply, val_main_v45_apply, val_main_cst_6_apply, promptVar, promptCent, promptMix]
  rfl

/-! ## The sample -/

theorem sampleHid (t : Fin 4) (b : Fin 128) (k : Fin 1024) :
    val_main_v73 (F := Ideal) x6 x7 (ix2 (rowOf (M := 512) rfl t b) k)
      = hid (fun k => x6 (ix3 t b k)) (fun k => x7 (ix2 b (part 3 k))) (fun k => x7 (ix2 b (part 4 k))) k := by
  have e : idx_main_v73 (ix2 (rowOf (M := 512) rfl t b) k) = ix3 t b k := by
    refine ext3 ?_ ?_ ?_
    · show ((t.val * 128 + b.val) * 1024 + k.val) / 131072 = t.val; omega
    · show ((t.val * 128 + b.val) * 1024 + k.val) / 1024 % 128 = b.val; omega
    · show ((t.val * 128 + b.val) * 1024 + k.val) % 1024 = k.val; omega
  have e4 : idx_main_v61 (idx_main_v63 (idx_main_v67 (idx_main_v68 (ix3 t b k)))) = ix2 b (part 4 k) :=
    ext2 rfl (by show 3072 + (1024 + k.val) = 1024 * 4 + k.val; omega)
  have e3 : idx_main_v61 (idx_main_v62 (idx_main_v70 (idx_main_v71 (ix3 t b k)))) = ix2 b (part 3 k) :=
    ext2 rfl (by show 3072 + k.val = 1024 * 3 + k.val; omega)
  rw [val_main_v73_apply, e]
  simp only [val_main_v72_apply, val_main_v69_apply, val_main_v68_apply, val_main_v67_apply, val_main_v66_apply, val_main_v65_apply,
    val_main_cst_7_apply, val_main_v63_apply, val_main_v61_apply, val_main_v71_apply, val_main_v70_apply, val_main_v62_apply]
  rw [e4, e3]
  rfl

theorem sampleProj (r : Fin 512) (d : Fin 1024) :
    val_main_v85 (F := Ideal) x2 x3 x4 x5 x6 x7 (ix2 r d)
      = proj (fun k => val_main_v73 (F := Ideal) x6 x7 (ix2 r k)) (fun k j => x2 (ix2 k j)) (fun j => x3 (ix2 0 j)) (fun j d => x4 (ix2 j d))
          (fun d => x5 (ix2 2 d)) d := by
  have e5 : idx_main_v81 (idx_main_v82 (idx_main_v83 (idx_main_v84 (ix2 r d)))) = ix2 2 d := ext2 rfl (Nat.mod_eq_of_lt d.isLt)
  have l1 : ∀ j, lidx_main_v80 (ix2 r d) j = ix2 r j := fun j => ext2 rfl rfl
  have r1 : ∀ j, ridx_main_v80 (ix2 r d) j = ix2 j d := fun j => ext2 rfl rfl
  have l0 : ∀ j k, lidx_main_v74 (ix2 r j) k = ix2 r k := fun j k => ext2 rfl rfl
  have r0 : ∀ j k, ridx_main_v74 (ix2 r j) k = ix2 k j := fun j k => ext2 rfl rfl
  have e3 : ∀ j, idx_main_v75 (ix2 r j) = ix2 0 j := fun j => ext2 rfl rfl
  simp only [val_main_v85_apply, val_main_v84_apply, val_main_v83_apply, val_main_v82_apply, val_main_v81_apply, e5, val_main_v80_apply, l1, r1,
    val_main_v1_apply, val_main_v79_apply, val_main_v78_apply, val_main_v77_apply, val_main_cst_8_apply, zero_eq, val_main_v76_apply,
    val_main_v75_apply, e3, val_main_v74_apply, l0, r0, val_main_v0_apply]
  rfl

theorem sampleMix (t : Fin 4) (b : Fin 128) (d : Fin 1024) :
    val_main_v92 (F := Ideal) x2 x3 x4 x5 x6 x7 (ix3 t b d)
      = pre (fun k => x6 (ix3 t b k)) (fun k => x7 (ix2 b (part 3 k))) (fun k => x7 (ix2 b (part 4 k))) (fun k => x7 (ix2 b (part 5 k)))
          (fun k j => x2 (ix2 k j)) (fun j => x3 (ix2 0 j)) (fun j d => x4 (ix2 j d)) (fun d => x5 (ix2 2 d)) d := by
  have e : idx_main_v88 (ix3 t b d) = ix2 (rowOf (M := 512) rfl t b) d := by
    refine ext2 ?_ ?_
    · show ((t.val * 128 + b.val) * 1024 + d.val) / 1024 = t.val * 128 + b.val; omega
    · show ((t.val * 128 + b.val) * 1024 + d.val) % 1024 = d.val; omega
  have e5 : idx_main_v61 (idx_main_v64 (idx_main_v89 (idx_main_v90 (ix3 t b d)))) = ix2 b (part 5 d) :=
    ext2 rfl (by show 3072 + (2048 + d.val) = 1024 * 5 + d.val; omega)
  simp only [val_main_v92_apply, val_main_v87_apply, val_main_v86_apply, val_main_cst_9_apply, val_main_v91_apply, val_main_v90_apply,
    val_main_v89_apply, val_main_v64_apply, val_main_v61_apply, e5, val_main_v88_apply, e, sampleProj, sampleHid]
  rfl

theorem sampleMean (t : Fin 4) (b : Fin 128) :
    val_main_v96 (F := Ideal) x2 x3 x4 x5 x6 x7 (ix3 t b 0) = mean (fun k => val_main_v92 (F := Ideal) x2 x3 x4 x5 x6 x7 (ix3 t b k)) := by
  have e : ∀ k, idx_main_v93 (idx_main_v94 (ix3 t b 0)) k = ix3 t b k := fun k => ext3 rfl rfl rfl
  simp only [val_main_v96_apply, val_main_v95_apply, val_main_cst_11_apply, val_main_v94_apply, val_main_v93_apply, val_main_cst_10_apply, e,
    zero_eq, zero_add]
  rfl

theorem sampleCent (t : Fin 4) (b : Fin 128) (d : Fin 1024) :
    val_main_v98 (F := Ideal) x2 x3 x4 x5 x6 x7 (ix3 t b d) = val_main_v92 (F := Ideal) x2 x3 x4 x5 x6 x7 (ix3 t b d)
      - mean (fun k => val_main_v92 (F := Ideal) x2 x3 x4 x5 x6 x7 (ix3 t b k)) := by
  have e : idx_main_v97 (ix3 t b d) = ix3 t b 0 := ext3 rfl rfl rfl
  rw [val_main_v98_apply, val_main_v97_apply, e, sampleMean]
  rfl

theorem sampleVar (t : Fin 4) (b : Fin 128) :
    val_main_v103 (F := Ideal) x2 x3 x4 x5 x6 x7 (ix3 t b 0) = mean (fun k =>
      val_main_v98 (F := Ideal) x2 x3 x4 x5 x6 x7 (ix3 t b k) * val_main_v98 (F := Ideal) x2 x3 x4 x5 x6 x7 (ix3 t b k)) := by
  have e : ∀ k, idx_main_v100 (idx_main_v101 (ix3 t b 0)) k = ix3 t b k := fun k => ext3 rfl rfl rfl
  simp only [val_main_v103_apply, val_main_v102_apply, val_main_cst_13_apply, val_main_v101_apply, val_main_v100_apply, val_main_cst_12_apply,
    e, val_main_v99_apply, zero_eq, zero_add]
  rfl

/-- The reference's second result. -/
theorem sample : val_main_v119 (F := Ideal) x2 x3 x4 x5 x6 x7 = out x6 x7 x2 x3 x4 x5 := by
  funext i
  obtain ⟨b, t, d, rfl⟩ : ∃ (b : Fin 128) (t : Fin 4) (d : Fin 1024), i = ix3 b t d := ⟨i 0, i 1, i 2, eq_ix3 i⟩
  have e : idx_main_v119 (ix3 b t d) = ix3 t b d := ext3 rfl rfl rfl
  have eγ : idx_main_v109 (idx_main_v110 (idx_main_v111 (idx_main_v112 (ix3 t b d)))) = ix2 3 d := ext2 rfl (Nat.mod_eq_of_lt d.isLt)
  have eβ : idx_main_v114 (idx_main_v115 (idx_main_v116 (idx_main_v117 (ix3 t b d)))) = ix2 4 d := ext2 rfl (Nat.mod_eq_of_lt d.isLt)
  have e7 : idx_main_v107 (ix3 t b d) = ix3 t b 0 := ext3 rfl rfl rfl
  rw [val_main_v119_apply, e]
  simp only [val_main_v118_apply, val_main_v117_apply, val_main_v116_apply, val_main_v115_apply, val_main_v114_apply, eβ, val_main_v113_apply,
    val_main_v112_apply, val_main_v111_apply, val_main_v110_apply, val_main_v109_apply, eγ, val_main_v108_apply, val_main_v107_apply, e7,
    val_main_v106_apply, val_main_v105_apply, val_main_v104_apply, val_main_cst_14_apply, sampleVar, sampleCent, sampleMix]
  rfl

end Cert.MlpReferenceIdeal.Rows

end
-- ==== Proof.MlpBlocks.lean ====
/-
  What the MLP call leaves in its result arrays, over the extended reals.

  The grid has seventeen points. Each of the first sixteen computes one tile of 128 times 8 rows before their norm and keeps
  it; the point after writes the norm of the tile kept. The last point also computes the single rows of the sample.
  First the buffers a point leaves are read as values of the blocks it is given, then the blocks as parts of the arrays.
-/
module

public import proofs.«01_k».proof.Proof.MlpRows
public import proofs.«01_k».proof.Proof.Gen.MlpIdeal.Value
public import Idealize.ShloMosaic.Lib.Pipeline.Value
public import Idealize.ShloMosaic.Lib.Tactic

@[expose] public section

noncomputable section

namespace Cert.MlpIdeal.Blocks

open Idealize.ShloMosaic Idealize.ShloMosaic.TcCoe Idealize.SL.Sem Idealize.ShloMosaic.ValueIdx
open Idealize.ShloMosaic.Pipeline (Dat)
open Cert.MlpIdeal Cert.MlpIdeal.Gen Cert.MlpRows

theorem hz : (![0, 0] : Fin 2 → Nat) = fun _ => 0 := funext fun a => by fin_cases a <;> rfl
theorem hz3 : (![0, 0, 0] : Fin 3 → Nat) = fun _ => 0 := funext fun a => by fin_cases a <;> rfl

/-- A load of the part written last reads what was written. -/
theorem readCov_cons {Val : EltTy → Type} [∀ e, Nonempty (Val e)] {sig : RefSig} {κ : Kind} {sp : Space} {S : Shape} {e : EltTy}
    (v : View sig κ sp S e) (r : Rect S) (w : r.shape.Idx → Val e) (L : List (View.Piece Val S e)) :
    v.readCov ((⟨r, w⟩ : View.Piece Val S e) :: L) r.toLoadRect = w := by
  rw [View.readCov_eq_canon']
  exact funext fun j => View.canon_cons_emb r w L j

/-! ## What a point leaves -/

/-- The quarters of the weights. -/
def colsOf (w : Vec Ideal S1024x4096 .bf16) : Fin 4 → FVec Ideal S1024x1024 .bf16 :=
  ![View.ld w (Rect.unit (s := S1024x4096) ![0, 0] S1024x1024.size inb_S1024x4096_S1024x1024_0_0),
    View.ld w (Rect.unit (s := S1024x4096) ![0, 1024] S1024x1024.size inb_S1024x4096_S1024x1024_0_1024),
    View.ld w (Rect.unit (s := S1024x4096) ![0, 2048] S1024x1024.size inb_S1024x4096_S1024x1024_0_2048),
    View.ld w (Rect.unit (s := S1024x4096) ![0, 3072] S1024x1024.size inb_S1024x4096_S1024x1024_0_3072)]

def biasOf (b : Vec Ideal S1x4096 .f32) : Fin 4 → FVec Ideal S1x1024 .f32 :=
  ![View.ld b (Rect.unit (s := S1x4096) ![0, 0] S1x1024.size inb_S1x4096_S1x1024_0_0),
    View.ld b (Rect.unit (s := S1x4096) ![0, 1024] S1x1024.size inb_S1x4096_S1x1024_0_1024),
    View.ld b (Rect.unit (s := S1x4096) ![0, 2048] S1x1024.size inb_S1x4096_S1x1024_0_2048),
    View.ld b (Rect.unit (s := S1x4096) ![0, 3072] S1x1024.size inb_S1x4096_S1x1024_0_3072)]

def rowsOf (w : Vec Ideal S4096x1024 .bf16) : Fin 4 → FVec Ideal S1024x1024 .bf16 :=
  ![View.ld w (Rect.unit (s := S4096x1024) ![0, 0] S1024x1024.size inb_S4096x1024_S1024x1024_0_0),
    View.ld w (Rect.unit (s := S4096x1024) ![1024, 0] S1024x1024.size inb_S4096x1024_S1024x1024_1024_0),
    View.ld w (Rect.unit (s := S4096x1024) ![2048, 0] S1024x1024.size inb_S4096x1024_S1024x1024_2048_0),
    View.ld w (Rect.unit (s := S4096x1024) ![3072, 0] S1024x1024.size inb_S4096x1024_S1024x1024_3072_0)]

/-- The rows of parameters: the projection's bias, the norm's scale and shift. -/
def biasP (p : Vec Ideal S5x1024 .f32) : FVec Ideal S1x1024 .f32 :=
  View.ld p (Rect.unit (s := S5x1024) ![2, 0] S1x1024.size inb_S5x1024_S1x1024_2_0)
def scaleP (p : Vec Ideal S5x1024 .f32) : FVec Ideal S1x1024 .f32 :=
  View.ld p (Rect.unit (s := S5x1024) ![3, 0] S1x1024.size inb_S5x1024_S1x1024_3_0)
def shiftP (p : Vec Ideal S5x1024 .f32) : FVec Ideal S1x1024 .f32 :=
  View.ld p (Rect.unit (s := S5x1024) ![4, 0] S1x1024.size inb_S5x1024_S1x1024_4_0)

/-- The prompt's modulation: the shift, the scale and the gate. -/
def shM (q : Vec Ideal S8x6144 .f32) : FVec Ideal S8x1024 .f32 :=
  View.ld q (Rect.unit (s := S8x6144) ![0, 3072] S8x1024.size inb_S8x6144_S8x1024_0_3072)
def scM (q : Vec Ideal S8x6144 .f32) : FVec Ideal S8x1024 .f32 :=
  View.ld q (Rect.unit (s := S8x6144) ![0, 4096] S8x1024.size inb_S8x6144_S8x1024_0_4096)
def gM (q : Vec Ideal S8x6144 .f32) : FVec Ideal S8x1024 .f32 :=
  View.ld q (Rect.unit (s := S8x6144) ![0, 5120] S8x1024.size inb_S8x6144_S8x1024_0_5120)

/-- The sample's modulation. -/
def shS (q : Vec Ideal S128x3072 .f32) : FVec Ideal S128x1024 .f32 :=
  View.ld q (Rect.unit (s := S128x3072) ![0, 0] S128x1024.size inb_S128x3072_S128x1024_0_0)
def scS (q : Vec Ideal S128x3072 .f32) : FVec Ideal S128x1024 .f32 :=
  View.ld q (Rect.unit (s := S128x3072) ![0, 1024] S128x1024.size inb_S128x3072_S128x1024_0_1024)
def gS (q : Vec Ideal S128x3072 .f32) : FVec Ideal S128x1024 .f32 :=
  View.ld q (Rect.unit (s := S128x3072) ![0, 2048] S128x1024.size inb_S128x3072_S128x1024_0_2048)

/-- A tile of the prompt before its norm. -/
def preP (x0 : Vec Ideal S128x8x1024 .f32) (x1 : Vec Ideal S8x6144 .f32) (x2 : Vec Ideal S1024x4096 .bf16) (x3 : Vec Ideal S1x4096 .f32)
    (x4 : Vec Ideal S4096x1024 .bf16) (x5 : Vec Ideal S5x1024 .f32) : FVec Ideal S128x8x1024 .f32 :=
  mixV x0 (gM x1) (projV (hidV x0 (shM x1) (scM x1) shapeCasts_S8x1024_S1x8x1024 broadcasts_S1x8x1024_S128x8x1024
      shapeCasts_S128x8x1024_S1024x1024 bitsLt_bf16_f32)
    (colsOf x2) (biasOf x3) (rowsOf x4) (biasP x5) broadcasts_S1x1024_S1024x1024 bitsLt_bf16_f32)
    shapeCasts_S1024x1024_S128x8x1024 shapeCasts_S8x1024_S1x8x1024 broadcasts_S1x8x1024_S128x8x1024

/-- The norm of a tile of the prompt. -/
def normP (v : FVec Ideal S128x8x1024 .f32) (x5 : Vec Ideal S5x1024 .f32) : FVec Ideal S8x128x1024 .f32 :=
  normV (centV v reduces_S128x8x1024_S128x8 shapeCasts_S128x8_S128x8x1 broadcasts_S128x8x1_S128x8x1024) (scaleP x5) (shiftP x5)
    reduces_S128x8x1024_S128x8 shapeCasts_S128x8_S128x8x1 broadcasts_S128x8x1_S128x8x1024 shapeCasts_S1x1024_S1x1x1024
    broadcasts_S1x1x1024_S128x8x1024 transposes_S128x8x1024_p1_0_2_S8x128x1024

/-- The sample before its norm. -/
def preS (x6 : Vec Ideal S4x128x1024 .f32) (x7 : Vec Ideal S128x3072 .f32) (x2 : Vec Ideal S1024x4096 .bf16) (x3 : Vec Ideal S1x4096 .f32)
    (x4 : Vec Ideal S4096x1024 .bf16) (x5 : Vec Ideal S5x1024 .f32) : FVec Ideal S4x128x1024 .f32 :=
  mixV x6 (gS x7) (projV (hidV x6 (shS x7) (scS x7) shapeCasts_S128x1024_S1x128x1024 broadcasts_S1x128x1024_S4x128x1024
      shapeCasts_S4x128x1024_S512x1024 bitsLt_bf16_f32)
    (colsOf x2) (biasOf x3) (rowsOf x4) (biasP x5) broadcasts_S1x1024_S512x1024 bitsLt_bf16_f32)
    shapeCasts_S512x1024_S4x128x1024 shapeCasts_S128x1024_S1x128x1024 broadcasts_S1x128x1024_S4x128x1024

/-- The norm of the sample. -/
def normS (v : FVec Ideal S4x128x1024 .f32) (x5 : Vec Ideal S5x1024 .f32) : FVec Ideal S128x4x1024 .f32 :=
  normV (centV v reduces_S4x128x1024_S4x128 shapeCasts_S4x128_S4x128x1 broadcasts_S4x128x1_S4x128x1024) (scaleP x5) (shiftP x5)
    reduces_S4x128x1024_S4x128 shapeCasts_S4x128_S4x128x1 broadcasts_S4x128x1_S4x128x1024 shapeCasts_S1x1024_S1x1x1024
    broadcasts_S1x1x1024_S4x128x1024 transposes_S4x128x1024_p1_0_2_S128x4x1024

/-- The chain of a tile's stores is the tile before its norm, as rows. -/
theorem tile_eq (x0 : Vec Ideal S128x8x1024 .f32) (x1 : Vec Ideal S8x6144 .f32) (x2 : Vec Ideal S1024x4096 .bf16)
    (x3 : Vec Ideal S1x4096 .f32) (x4 : Vec Ideal S4096x1024 .bf16) (x5 : Vec Ideal S5x1024 .f32) :
    k0_pay2 (F := Ideal) (gM x1) (k0_pay11 (k0_pay6 (shM x1) x0 (k0_pay5 (scM x1))) (colsOf x2 3)) (k0_pay12 (biasOf x3 3)) (rowsOf x4 3)
      (k0_pay10 (k0_pay6 (shM x1) x0 (k0_pay5 (scM x1))) (colsOf x2 2) (biasOf x3 2) (rowsOf x4 2)
        (k0_pay9 (k0_pay8 (k0_pay6 (shM x1) x0 (k0_pay5 (scM x1))) (colsOf x2 1) (biasOf x3 1)) (rowsOf x4 1)
          (k0_pay7 (k0_pay6 (shM x1) x0 (k0_pay5 (scM x1))) (colsOf x2 0) (biasOf x3 0) (rowsOf x4 0)))) (biasP x5) x0
      = shapeCast S1024x1024 (preP x0 x1 x2 x3 x4 x5) shapeCasts_S128x8x1024_S1024x1024 := by
  unfold k0_pay2 k0_pay5 k0_pay6 k0_pay7 k0_pay8 k0_pay9 k0_pay10 k0_pay11 k0_pay12
  simp only [shapeCast_self]
  rfl

/-- The norm a point writes of the rows kept is the norm of the tile they are of. -/
theorem norm_eq (v : FVec Ideal S128x8x1024 .f32) (x5 : Vec Ideal S5x1024 .f32) :
    k0_pay4 (F := Ideal) (shapeCast S1024x1024 v shapeCasts_S128x8x1024_S1024x1024) (scaleP x5) (shiftP x5) = normP v x5 := by
  unfold k0_pay4
  simp only [shapeCast_shapeCast, shapeCast_self]
  rfl

/-- The chain of the sample's stores is the norm of the sample. -/
theorem sample_eq (x2 : Vec Ideal S1024x4096 .bf16) (x3 : Vec Ideal S1x4096 .f32) (x4 : Vec Ideal S4096x1024 .bf16)
    (x5 : Vec Ideal S5x1024 .f32) (x6 : Vec Ideal S4x128x1024 .f32) (x7 : Vec Ideal S128x3072 .f32)
    (h : FVec Ideal S512x1024 .bf16) (f : FVec Ideal S512x1024 .f32) (hh : h = k0_pay15 (shS x7) x6 (k0_pay14 (scS x7)))
    (hf : f = k0_pay19 h (colsOf x2 2) (biasOf x3 2) (rowsOf x4 2)
        (k0_pay18 (k0_pay17 h (colsOf x2 1) (biasOf x3 1)) (rowsOf x4 1) (k0_pay16 h (colsOf x2 0) (biasOf x3 0) (rowsOf x4 0)))) :
    k0_pay3 (F := Ideal) (k0_pay22 (scaleP x5)) (k0_pay23 (shiftP x5))
      (k0_pay24 (gS x7) (k0_pay20 h (colsOf x2 3)) (k0_pay21 (biasOf x3 3)) (rowsOf x4 3) f (biasP x5) x6)
      (k0_pay25 (gS x7) (k0_pay20 h (colsOf x2 3)) (k0_pay21 (biasOf x3 3)) (rowsOf x4 3) f (biasP x5) x6)
      = normS (preS x6 x7 x2 x3 x4 x5) x5 := by
  subst hf hh
  unfold k0_pay3 k0_pay25 k0_pay24 k0_pay14 k0_pay15 k0_pay16 k0_pay17 k0_pay18 k0_pay19 k0_pay20 k0_pay21 k0_pay22 k0_pay23
  simp only [shapeCast_shapeCast, shapeCast_self]
  rfl

section

variable (c : Dev nD) (i : grid0.Coords) (arg1 : Memref sig .tc .vmem S128x8x1024 .f32) (harg1 : arg1.IsWhole)
  (arg2 : Memref sig .tc .vmem S8x6144 .f32) (harg2 : arg2.IsWhole) (arg3 : Memref sig .tc .vmem S1024x4096 .bf16)
  (harg3 : arg3.IsWhole) (arg4 : Memref sig .tc .vmem S1x4096 .f32) (harg4 : arg4.IsWhole)
  (arg5 : Memref sig .tc .vmem S4096x1024 .bf16) (harg5 : arg5.IsWhole) (arg6 : Memref sig .tc .vmem S5x1024 .f32)
  (harg6 : arg6.IsWhole) (arg7 : Memref sig .tc .vmem S4x128x1024 .f32) (harg7 : arg7.IsWhole)
  (arg8 : Memref sig .tc .vmem S128x3072 .f32) (harg8 : arg8.IsWhole) (arg9 : Memref sig .tc .vmem S8x128x1024 .f32)
  (harg9 : arg9.IsWhole) (arg10 : Memref sig .tc .vmem S128x4x1024 .f32) (harg10 : arg10.IsWhole)
  (arg11 : Memref sig .tc .vmem S1024x1024 .bf16) (harg11 : arg11.IsWhole) (arg12 : Memref sig .tc .vmem S1024x1024 .f32)
  (harg12 : arg12.IsWhole) (arg13 : Memref sig .tc .vmem S1024x1024 .f32) (harg13 : arg13.IsWhole)
  (x0 : Vec Ideal S128x8x1024 .f32) (x1 : Vec Ideal S8x6144 .f32) (x2 : Vec Ideal S1024x4096 .bf16) (x3 : Vec Ideal S1x4096 .f32)
  (x4 : Vec Ideal S4096x1024 .bf16) (x5 : Vec Ideal S5x1024 .f32) (x6 : Vec Ideal S4x128x1024 .f32) (x7 : Vec Ideal S128x3072 .f32)

/-- A point after the first writes the norm of the rows kept. -/
theorem out_B (hc0 : ¬cond0_0 i) (hc1 : cond0_1 i) (hc2 : ¬cond0_2 i) (xs2 : Vec Ideal S1024x1024 .f32) :
    out0_B_8 (F := Ideal) c i arg1 harg1 arg2 harg2 arg3 harg3 arg4 harg4 arg5 harg5 arg6 harg6 arg7 harg7 arg8 harg8 arg9 harg9 arg10 harg10
      arg11 harg11 arg12 harg12 arg13 harg13 hc0 hc1 hc2 x0 x1 x2 x3 x4 x5 x6 x7 xs2
      = k0_pay4 (F := Ideal) xs2 (scaleP x5) (shiftP x5) := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10
      arg11 harg11 arg12 harg12 arg13 harg13 hc0 hc1 hc2 x0 x1 x2 x3 x4 x5 x6 x7 xs2)]
  unfold kernelRun0_B
  dsimp only
  rw [View.canon_unit_zero hz3]
  simp only [readCov_cons, View.readAt_eq_ld, harg1.read_unread, harg2.read_unread, harg3.read_unread,
    harg4.read_unread, harg5.read_unread, harg6.read_unread, harg7.read_unread, harg8.read_unread, harg13.read_unread,
    View.ld_unit_zero (S := S1024x1024) hz, View.ld_unit_zero (S := S128x8x1024) hz3, View.ld_unit_zero (S := S4x128x1024) hz3]
  rfl

/-- So does the last point. -/
theorem out_C (hc0 : ¬cond0_0 i) (hc1 : ¬cond0_1 i) (hc2 : cond0_2 i) (xs2 : Vec Ideal S1024x1024 .f32) :
    out0_C_8 (F := Ideal) c i arg1 harg1 arg2 harg2 arg3 harg3 arg4 harg4 arg5 harg5 arg6 harg6 arg7 harg7 arg8 harg8 arg9 harg9 arg10 harg10
      arg11 harg11 arg12 harg12 arg13 harg13 hc0 hc1 hc2 x0 x1 x2 x3 x4 x5 x6 x7 xs2
      = k0_pay4 (F := Ideal) xs2 (scaleP x5) (shiftP x5) := by
  unfold out0_C_8
  rw [View.read_writes_eq_canon _ _ _ (cover0_C_8 (F := Ideal) c i arg1 harg1 arg2 harg2 arg3 harg3 arg4 harg4 arg5 harg5 arg6 harg6 arg7 harg7 arg8 harg8 arg9 harg9 arg10 harg10
      arg11 harg11 arg12 harg12 arg13 harg13 hc0 hc1 hc2 x0 x1 x2 x3 x4 x5 x6 x7 xs2)]
  unfold kernelRun0_C
  dsimp only
  rw [View.canon_unit_zero hz3]
  simp only [readCov_cons, View.readAt_eq_ld, harg1.read_unread, harg2.read_unread, harg3.read_unread,
    harg4.read_unread, harg5.read_unread, harg6.read_unread, harg7.read_unread, harg8.read_unread, harg13.read_unread,
    View.ld_unit_zero (S := S1024x1024) hz, View.ld_unit_zero (S := S128x8x1024) hz3, View.ld_unit_zero (S := S4x128x1024) hz3]
  rfl

/-- The first point keeps its tile before its norm. -/
theorem kept_A (hc0 : cond0_0 i) (hc1 : cond0_1 i) (hc2 : ¬cond0_2 i) :
    sout0_A_2 (F := Ideal) c i arg1 harg1 arg2 harg2 arg3 harg3 arg4 harg4 arg5 harg5 arg6 harg6 arg7 harg7 arg8 harg8 arg9 harg9 arg10 harg10
      arg11 harg11 arg12 harg12 arg13 harg13 hc0 hc1 hc2 x0 x1 x2 x3 x4 x5 x6 x7
      = shapeCast S1024x1024 (preP x0 x1 x2 x3 x4 x5) shapeCasts_S128x8x1024_S1024x1024 := by
  unfold sout0_A_2
  rw [View.read_writes_eq_canon _ _ _ (scover0_A_2 (F := Ideal) c i arg1 harg1 arg2 harg2 arg3 harg3 arg4 harg4 arg5 harg5 arg6 harg6 arg7 harg7 arg8 harg8 arg9 harg9 arg10 harg10
      arg11 harg11 arg12 harg12 arg13 harg13 hc0 hc1 hc2 x0 x1 x2 x3 x4 x5 x6 x7)]
  unfold kernelRun0_A
  dsimp only
  sl_unfold_words
  rw [View.canon_cons_unit_zero (S := S1024x1024) hz]
  simp only [readCov_cons, View.readAt_eq_ld, harg1.read_unread, harg2.read_unread, harg3.read_unread,
    harg4.read_unread, harg5.read_unread, harg6.read_unread, harg7.read_unread, harg8.read_unread, harg13.read_unread,
    View.ld_unit_zero (S := S1024x1024) hz, View.ld_unit_zero (S := S128x8x1024) hz3, View.ld_unit_zero (S := S4x128x1024) hz3]
  exact tile_eq x0 x1 x2 x3 x4 x5

/-- So does every point but the last. -/
theorem kept_B (hc0 : ¬cond0_0 i) (hc1 : cond0_1 i) (hc2 : ¬cond0_2 i) (xs2 : Vec Ideal S1024x1024 .f32) :
    sout0_B_2 (F := Ideal) c i arg1 harg1 arg2 harg2 arg3 harg3 arg4 harg4 arg5 harg5 arg6 harg6 arg7 harg7 arg8 harg8 arg9 harg9 arg10 harg10
      arg11 harg11 arg12 harg12 arg13 harg13 hc0 hc1 hc2 x0 x1 x2 x3 x4 x5 x6 x7 xs2
      = shapeCast S1024x1024 (preP x0 x1 x2 x3 x4 x5) shapeCasts_S128x8x1024_S1024x1024 := by
  unfold sout0_B_2
  rw [View.read_writes_eq_canon _ _ _ (scover0_B_2 (F := Ideal) c i arg1 harg1 arg2 harg2 arg3 harg3 arg4 harg4 arg5 harg5 arg6 harg6 arg7 harg7 arg8 harg8 arg9 harg9 arg10 harg10
      arg11 harg11 arg12 harg12 arg13 harg13 hc0 hc1 hc2 x0 x1 x2 x3 x4 x5 x6 x7 xs2)]
  unfold kernelRun0_B
  dsimp only
  sl_unfold_words
  rw [View.canon_unit_zero hz]
  simp only [readCov_cons, View.readAt_eq_ld, harg1.read_unread, harg2.read_unread, harg3.read_unread,
    harg4.read_unread, harg5.read_unread, harg6.read_unread, harg7.read_unread, harg8.read_unread, harg13.read_unread,
    View.ld_unit_zero (S := S1024x1024) hz, View.ld_unit_zero (S := S128x8x1024) hz3, View.ld_unit_zero (S := S4x128x1024) hz3]
  exact tile_eq x0 x1 x2 x3 x4 x5

/-- The last point writes the norm of the sample. -/
theorem sample_C (hc0 : ¬cond0_0 i) (hc1 : ¬cond0_1 i) (hc2 : cond0_2 i) (xs2 : Vec Ideal S1024x1024 .f32) :
    out0_C_9 (F := Ideal) c i arg1 harg1 arg2 harg2 arg3 harg3 arg4 harg4 arg5 harg5 arg6 harg6 arg7 harg7 arg8 harg8 arg9 harg9 arg10 harg10
      arg11 harg11 arg12 harg12 arg13 harg13 hc0 hc1 hc2 x0 x1 x2 x3 x4 x5 x6 x7 xs2
      = normS (preS x6 x7 x2 x3 x4 x5) x5 := by
  unfold out0_C_9
  rw [View.read_writes_eq_canon _ _ _ (cover0_C_9 (F := Ideal) c i arg1 harg1 arg2 harg2 arg3 harg3 arg4 harg4 arg5 harg5 arg6 harg6 arg7 harg7 arg8 harg8 arg9 harg9 arg10 harg10
      arg11 harg11 arg12 harg12 arg13 harg13 hc0 hc1 hc2 x0 x1 x2 x3 x4 x5 x6 x7 xs2)]
  unfold kernelRun0_C
  dsimp only
  sl_unfold_words
  rw [View.canon_unit_zero hz3]
  simp only [readCov_cons, View.readAt_eq_ld, harg1.read_unread, harg2.read_unread, harg3.read_unread,
    harg4.read_unread, harg5.read_unread, harg6.read_unread, harg7.read_unread, harg8.read_unread, harg13.read_unread,
    View.ld_unit_zero (S := S1024x1024) hz, View.ld_unit_zero (S := S128x8x1024) hz3, View.ld_unit_zero (S := S4x128x1024) hz3]
  exact sample_eq x2 x3 x4 x5 x6 x7 _ _ rfl rfl

end

end Cert.MlpIdeal.Blocks

end
-- ==== Proof.MlpArrays.lean ====
/-
  The MLP call's result arrays as functions of its argument arrays: the points' blocks are parts of the arguments, and
  the blocks written tile the results.
-/
module

public import proofs.«01_k».proof.Proof.MlpBlocks
public import Idealize.ShloMosaic.Lib.Pipeline.ValueKit

@[expose] public section

noncomputable section

namespace Cert.MlpIdeal.Arrays

open Idealize.ShloMosaic hiding ix2 ix3
open Idealize.ShloMosaic.TcCoe Idealize.SL.Sem Idealize.ShloMosaic.ValueIdx
open Idealize.ShloMosaic.Pipeline (Dat)
open Cert.MlpIdeal Cert.MlpIdeal.Gen Cert.MlpIdeal.Blocks Cert.MlpRows

/-! ## The parts read at an index -/

/-- A part of a matrix reads the matrix at its offset. -/
theorem ld2 {A B M N : ℕ} {e : EltTy} (x : Vec Ideal ⟨2, ![A, B]⟩ e) (o0 o1 : ℕ)
    (h : ∀ a, (![o0, o1] : Fin 2 → ℕ) a + (![M, N] : Fin 2 → ℕ) a ≤ (![A, B] : Fin 2 → ℕ) a) (r : Fin M) (k : Fin N) (r' : Fin A) (k' : Fin B)
    (hr : r'.val = o0 + r.val) (hk : k'.val = o1 + k.val) :
    View.ld x (Rect.unit (s := ⟨2, ![A, B]⟩) ![o0, o1] ![M, N] h) (ix2 r k) = x (ix2 r' k') :=
  View.ld_unit_apply_of x _ _ h _ _ fun a => match a with | ⟨0, _⟩ => hr | ⟨1, _⟩ => hk

theorem colsOf_apply (w : Vec Ideal S1024x4096 .bf16) (c : Fin 4) (k j : Fin 1024) : colsOf w c (ix2 k j) = w (ix2 k (quarter c j)) := by
  fin_cases c <;> exact ld2 w _ _ _ k j k _ (Nat.zero_add _).symm rfl

theorem biasOf_apply (b : Vec Ideal S1x4096 .f32) (c : Fin 4) (j : Fin 1024) : biasOf b c (ix2 0 j) = b (ix2 0 (quarter c j)) := by
  fin_cases c <;> exact ld2 b _ _ _ 0 j 0 _ rfl rfl

theorem rowsOf_apply (w : Vec Ideal S4096x1024 .bf16) (c : Fin 4) (j d : Fin 1024) : rowsOf w c (ix2 j d) = w (ix2 (quarter c j) d) := by
  fin_cases c <;> exact ld2 w _ _ _ j d _ d rfl (Nat.zero_add _).symm

theorem biasP_apply (p : Vec Ideal S5x1024 .f32) (d : Fin 1024) : biasP p (ix2 0 d) = p (ix2 2 d) := ld2 p _ _ _ 0 d 2 d rfl (Nat.zero_add _).symm
theorem scaleP_apply (p : Vec Ideal S5x1024 .f32) (d : Fin 1024) : scaleP p (ix2 0 d) = p (ix2 3 d) := ld2 p _ _ _ 0 d 3 d rfl (Nat.zero_add _).symm
theorem shiftP_apply (p : Vec Ideal S5x1024 .f32) (d : Fin 1024) : shiftP p (ix2 0 d) = p (ix2 4 d) := ld2 p _ _ _ 0 d 4 d rfl (Nat.zero_add _).symm

theorem shM_apply (q : Vec Ideal S8x6144 .f32) (b : Fin 8) (k : Fin 1024) : shM q (ix2 b k) = q (ix2 b (part 3 k)) :=
  ld2 q _ _ _ b k b _ (Nat.zero_add _).symm rfl
theorem scM_apply (q : Vec Ideal S8x6144 .f32) (b : Fin 8) (k : Fin 1024) : scM q (ix2 b k) = q (ix2 b (part 4 k)) :=
  ld2 q _ _ _ b k b _ (Nat.zero_add _).symm rfl
theorem gM_apply (q : Vec Ideal S8x6144 .f32) (b : Fin 8) (k : Fin 1024) : gM q (ix2 b k) = q (ix2 b (part 5 k)) :=
  ld2 q _ _ _ b k b _ (Nat.zero_add _).symm rfl

/-- A unit of the last three sixths. -/
def half (c : Fin 3) (k : Fin 1024) : Fin 3072 := ⟨1024 * c.val + k.val, by omega⟩

theorem shS_apply (q : Vec Ideal S128x3072 .f32) (b : Fin 128) (k : Fin 1024) : shS q (ix2 b k) = q (ix2 b (half 0 k)) :=
  ld2 q _ _ _ b k b _ (Nat.zero_add _).symm rfl
theorem scS_apply (q : Vec Ideal S128x3072 .f32) (b : Fin 128) (k : Fin 1024) : scS q (ix2 b k) = q (ix2 b (half 1 k)) :=
  ld2 q _ _ _ b k b _ (Nat.zero_add _).symm rfl
theorem gS_apply (q : Vec Ideal S128x3072 .f32) (b : Fin 128) (k : Fin 1024) : gS q (ix2 b k) = q (ix2 b (half 2 k)) :=
  ld2 q _ _ _ b k b _ (Nat.zero_add _).symm rfl

/-- A tile's norm at a row. -/
theorem normP_apply (x0 : Vec Ideal S128x8x1024 .f32) (x1 : Vec Ideal S8x6144 .f32) (x2 : Vec Ideal S1024x4096 .bf16) (x3 : Vec Ideal S1x4096 .f32)
    (x4 : Vec Ideal S4096x1024 .bf16) (x5 : Vec Ideal S5x1024 .f32) (t : Fin 128) (b : Fin 8) (d : Fin 1024) :
    normP (preP x0 x1 x2 x3 x4 x5) x5 (ix3 b t d)
      = outAt x0 (fun b k => x1 (ix2 b (part 3 k))) (fun b k => x1 (ix2 b (part 4 k))) (fun b k => x1 (ix2 b (part 5 k))) x2 x3 x4 x5 t b d := by
  unfold normP preP
  refine (chain_apply (T := 128) (B := 8) (M := 1024) rfl x0 (shM x1) (scM x1) (gM x1) (colsOf x2) (biasOf x3) (rowsOf x4) (biasP x5) (scaleP x5) (shiftP x5) _ _ _ _ _ _ _ _ _ _ _ _
    (fun k j => x2 (ix2 k j)) (fun j => x3 (ix2 0 j)) (fun j d => x4 (ix2 j d)) (colsOf_apply x2) (biasOf_apply x3) (rowsOf_apply x4) t b d).trans ?_
  simp only [shM_apply, scM_apply, gM_apply, biasP_apply, scaleP_apply, shiftP_apply]
  rfl

/-- The sample's norm at a row. -/
theorem normS_apply (x6 : Vec Ideal S4x128x1024 .f32) (x7 : Vec Ideal S128x3072 .f32) (x2 : Vec Ideal S1024x4096 .bf16) (x3 : Vec Ideal S1x4096 .f32)
    (x4 : Vec Ideal S4096x1024 .bf16) (x5 : Vec Ideal S5x1024 .f32) (t : Fin 4) (b : Fin 128) (d : Fin 1024) :
    normS (preS x6 x7 x2 x3 x4 x5) x5 (ix3 b t d)
      = outAt x6 (fun b k => x7 (ix2 b (half 0 k))) (fun b k => x7 (ix2 b (half 1 k))) (fun b k => x7 (ix2 b (half 2 k))) x2 x3 x4 x5 t b d := by
  unfold normS preS
  refine (chain_apply (T := 4) (B := 128) (M := 512) rfl x6 (shS x7) (scS x7) (gS x7) (colsOf x2) (biasOf x3) (rowsOf x4) (biasP x5) (scaleP x5) (shiftP x5) _ _ _ _ _ _ _ _ _ _ _ _
    (fun k j => x2 (ix2 k j)) (fun j => x3 (ix2 0 j)) (fun j d => x4 (ix2 j d)) (colsOf_apply x2) (biasOf_apply x3) (rowsOf_apply x4) t b d).trans ?_
  simp only [shS_apply, scS_apply, gS_apply, biasP_apply, scaleP_apply, shiftP_apply]
  rfl

/-! ## The blocks as parts of the arrays -/

variable (m : (ℓ : Loc nD τ sig) → Buf (Elt Ideal) ℓ) (c : Dev nD)

theorem iblk1 (t : Fin cfg0.N) : (iblk m c 1 t : Vec Ideal S8x6144 .f32) = m ((c : Thread nD τ).loc main_arg1) :=
  funext fun y => congrArg (m ((c : Thread nD τ).loc main_arg1)) (funext fun a => Fin.ext
    (win0_1.rect_emb_val_of_index_zero t a (by fin_cases a <;> rfl) y))
theorem iblk2 (t : Fin cfg0.N) : (iblk m c 2 t : Vec Ideal S1024x4096 .bf16) = m ((c : Thread nD τ).loc main_arg2) :=
  funext fun y => congrArg (m ((c : Thread nD τ).loc main_arg2)) (funext fun a => Fin.ext
    (win0_2.rect_emb_val_of_index_zero t a (by fin_cases a <;> rfl) y))
theorem iblk3 (t : Fin cfg0.N) : (iblk m c 3 t : Vec Ideal S1x4096 .f32) = m ((c : Thread nD τ).loc main_arg3) :=
  funext fun y => congrArg (m ((c : Thread nD τ).loc main_arg3)) (funext fun a => Fin.ext
    (win0_3.rect_emb_val_of_index_zero t a (by fin_cases a <;> rfl) y))
theorem iblk4 (t : Fin cfg0.N) : (iblk m c 4 t : Vec Ideal S4096x1024 .bf16) = m ((c : Thread nD τ).loc main_arg4) :=
  funext fun y => congrArg (m ((c : Thread nD τ).loc main_arg4)) (funext fun a => Fin.ext
    (win0_4.rect_emb_val_of_index_zero t a (by fin_cases a <;> rfl) y))
theorem iblk5 (t : Fin cfg0.N) : (iblk m c 5 t : Vec Ideal S5x1024 .f32) = m ((c : Thread nD τ).loc main_arg5) :=
  funext fun y => congrArg (m ((c : Thread nD τ).loc main_arg5)) (funext fun a => Fin.ext
    (win0_5.rect_emb_val_of_index_zero t a (by fin_cases a <;> rfl) y))
theorem iblk6 (t : Fin cfg0.N) : (iblk m c 6 t : Vec Ideal S4x128x1024 .f32) = m ((c : Thread nD τ).loc main_arg6) :=
  funext fun y => congrArg (m ((c : Thread nD τ).loc main_arg6)) (funext fun a => Fin.ext
    (win0_6.rect_emb_val_of_index_zero t a (by fin_cases a <;> rfl) y))

/-- The sample's modulation is read from its second half on. -/
theorem iblk7 (t : Fin cfg0.N) (b : Fin 128) (k : Fin 3072) (j : Fin 6144) (hj : j.val = 1 * 3072 + k.val) :
    (iblk m c 7 t : Vec Ideal S128x3072 .f32) (ix2 b k) = m ((c : Thread nD τ).loc main_arg7) (ix2 b j) :=
  congrArg (m ((c : Thread nD τ).loc main_arg7)) (funext fun a => Fin.ext <| match a with
    | ⟨0, _⟩ => win0_7.rect_emb_val_of_index_zero t 0 rfl _
    | ⟨1, _⟩ => by
      refine (win0_7.rect_emb_val t _ 1).trans ?_
      rw [show win0_7.index t 1 = 1 from rfl]
      exact hj.symm)

/-- The tile a point reads, and the tile a point writes. -/
theorem at0 : ∀ t : Fin grid0.N, win0_0.index t 0 = min t.val 15 ∧ win0_0.index t 1 = 0 ∧ win0_0.index t 2 = 0 := by decide +kernel
theorem at8 : ∀ t : Fin grid0.N, win0_8.index t 0 = 0 ∧ win0_8.index t 1 = t.val - 1 ∧ win0_8.index t 2 = 0 := by decide +kernel

theorem iblk0 (t : Fin cfg0.N) (h : t.val < 16) (a : Fin 128) (b : Fin 8) (k : Fin 1024) (r : Fin 2048) (hr : r.val = t.val * 128 + a.val) :
    (iblk m c 0 t : Vec Ideal S128x8x1024 .f32) (ix3 a b k) = m ((c : Thread nD τ).loc main_arg0) (ix3 r b k) :=
  congrArg (m ((c : Thread nD τ).loc main_arg0)) (funext fun d => Fin.ext <| match d with
    | ⟨0, _⟩ => by
      refine (win0_0.rect_emb_val t _ 0).trans ?_
      rw [(at0 t).1, Nat.min_eq_left (by omega)]
      exact hr.symm
    | ⟨1, _⟩ => win0_0.rect_emb_val_of_index_zero t 1 (at0 t).2.1 _
    | ⟨2, _⟩ => win0_0.rect_emb_val_of_index_zero t 2 (at0 t).2.2 _)

/-! ## What the points leave, from the arrays -/

/-- The tile of point `t` before its norm. -/
def tile (t : Fin cfg0.N) : FVec Ideal S128x8x1024 .f32 :=
  preP (iblk m c 0 t) (m ((c : Thread nD τ).loc main_arg1)) (m ((c : Thread nD τ).loc main_arg2)) (m ((c : Thread nD τ).loc main_arg3))
    (m ((c : Thread nD τ).loc main_arg4)) (m ((c : Thread nD τ).loc main_arg5))

/-- Every point but the last keeps its tile. -/
theorem kept (t : Fin cfg0.N) (h : t.val < 16) :
    (outsAt0 m c t.val t.isLt).2.2 = shapeCast S1024x1024 (tile m c t) shapeCasts_S128x8x1024_S1024x1024 := by
  unfold tile
  rw [← iblk1 m c t, ← iblk2 m c t, ← iblk3 m c t, ← iblk4 m c t, ← iblk5 m c t]
  by_cases h0 : t.val % 17 = 0
  · rw [outsAt0_A m c t h0 h (by omega)]
    dsimp only
    exact kept_A ..
  · rw [outsAt0_B m c t h0 h (by omega)]
    dsimp only
    exact kept_B ..

/-- Every point but the first leaves the norm of the tile of the point before. -/
theorem written (t : Fin cfg0.N) (h : 1 ≤ t.val) :
    (outsAt0 m c t.val t.isLt).1 = normP (tile m c ⟨t.val - 1, by have := t.isLt; omega⟩) (m ((c : Thread nD τ).loc main_arg5)) := by
  have hN : cfg0.N = 17 := N_0
  have ht := t.isLt
  have hk := kept m c ⟨t.val - 1, by omega⟩ (by show t.val - 1 < 16; omega)
  rw [← norm_eq, ← hk, ← iblk5 m c t]
  by_cases h1 : t.val < 16
  · rw [outsAt0_B m c t (by omega) h1 (by omega)]
    dsimp only
    exact out_B ..
  · rw [outsAt0_C m c t (by omega) h1 (by omega)]
    dsimp only
    exact out_C ..

/-- The last point leaves the norm of the sample. -/
theorem sampled (t : Fin cfg0.N) (h : t.val = 16) :
    (outsAt0 m c t.val t.isLt).2.1 = normS (preS (m ((c : Thread nD τ).loc main_arg6)) (iblk m c 7 t) (m ((c : Thread nD τ).loc main_arg2))
      (m ((c : Thread nD τ).loc main_arg3)) (m ((c : Thread nD τ).loc main_arg4)) (m ((c : Thread nD τ).loc main_arg5)))
      (m ((c : Thread nD τ).loc main_arg5)) := by
  rw [← iblk2 m c t, ← iblk3 m c t, ← iblk4 m c t, ← iblk5 m c t, ← iblk6 m c t, outsAt0_C m c t (by omega) (by omega) (by omega)]
  dsimp only
  exact sample_C ..

/-! ## The result arrays -/

theorem flush8 : ∀ t : Fin grid0.N, win0_8.flush t = true → 1 ≤ t.val := by decide +kernel

/-- The prompt's result. -/
theorem final8 : (dats m 0 c).arrAt 8 cfg0.N = out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  refine (dats m 0 c).arrAt_eq_of_covers 8 _ (by decide +kernel) fun t hf y => ?_
  have h1 : 1 ≤ t.val := flush8 t hf
  have hN : cfg0.N = 17 := N_0
  have ht := t.isLt
  let y' : S8x128x1024.Idx := y
  have hy : (y' 1).val < 128 := (y' 1).isLt
  have ht' : t.val < 17 := ht
  have e : ((cfg0.win 8).blk t).view.emb y
      = (ix3 (y' 0) (⟨(t.val - 1) * 128 + (y' 1).val, by omega⟩ : Fin 2048) (y' 2) : S8x2048x1024.Idx) :=
    funext fun a => Fin.ext <| match a with
      | ⟨0, _⟩ => win0_8.rect_emb_val_of_index_zero t 0 (at8 t).1 y
      | ⟨1, _⟩ => by
        refine (win0_8.rect_emb_val t y 1).trans ?_
        rw [(at8 t).2.1]
        rfl
      | ⟨2, _⟩ => win0_8.rect_emb_val_of_index_zero t 2 (at8 t).2.2 y
  rw [e]
  show (dats m 0 c).after 8 t y' = _
  rw [after0_8, written m c t h1]
  refine (congrArg _ (ValueIdx.eq_ix3 y')).trans ((normP_apply _ _ _ _ _ _ _ _ _).trans ?_)
  show _ = outAt _ _ _ _ _ _ _ _ _ _ _
  unfold outAt
  congr 2
  funext k
  exact iblk0 m c _ (by show t.val - 1 < 16; omega) _ _ _ _ rfl

/-- The sample's result. -/
theorem final9 : (dats m 0 c).arrAt 9 cfg0.N = out (m ((c : Thread nD τ).loc main_arg6)) (m ((c : Thread nD τ).loc main_arg7))
    (m ((c : Thread nD τ).loc main_arg2)) (m ((c : Thread nD τ).loc main_arg3)) (m ((c : Thread nD τ).loc main_arg4))
    (m ((c : Thread nD τ).loc main_arg5)) := by
  refine (dats m 0 c).arrAt_eq_of_covers 9 _ (by decide +kernel) fun t hf y => ?_
  have hN : cfg0.N = 17 := N_0
  have h1 : t.val = 16 := by have := (flush0_9 t).mp hf; have := t.isLt; omega
  let y' : S128x4x1024.Idx := y
  have e : ((cfg0.win 9).blk t).view.emb y = y' :=
    funext fun a => Fin.ext (win0_9.rect_emb_val_of_index_zero t a (by fin_cases a <;> rfl) y)
  rw [e]
  show (dats m 0 c).after 9 t y' = _
  rw [after0_9, sampled m c t h1, ValueIdx.eq_ix3 y']
  refine (normS_apply _ _ _ _ _ _ _ _ _).trans ?_
  have hq : ∀ (i : Fin 3) (j : Fin 6), j.val = 3 + i.val →
      (fun (b : Fin 128) (k : Fin 1024) => (iblk m c 7 t : Vec Ideal S128x3072 .f32) (ix2 b (half i k)))
        = fun b k => m ((c : Thread nD τ).loc main_arg7) (ix2 b (part j k)) := fun i j hj =>
    funext fun b => funext fun k => iblk7 m c t b _ _ (by show 1024 * j.val + k.val = 1 * 3072 + (1024 * i.val + k.val); omega)
  rw [hq 0 3 rfl, hq 1 4 rfl, hq 2 5 rfl]
  rfl

end Cert.MlpIdeal.Arrays

end
-- ==== Proof.SampleRows.lean ====
/-
  The convolution's state after the sample, as a function of the arrays, and the reference read to it one operation at a time.
-/
module

public import proofs.«01_k».proof.Proof.MlpRef
public import proofs.«01_k».proof.Proof.Gen.SampleReferenceIdeal.Run
public import proofs.«01_k».proof.Proof.Gen.SampleReferenceIdeal.Read
public import Idealize.ShloMosaic.Lib.Pipeline.Value

@[expose] public section

noncomputable section

namespace Cert.SampleRows

open Idealize.ShloMosaic Idealize.ShloMosaic.TcCoe Idealize.ShloMosaic.ValueIdx
open Cert.MlpRows
open scoped BigOperators

/-- The state has the last three of the four tokens, time first: row `r` is token `1 + r / 128` of sequence `r % 128`. -/
def tok (r : Fin 384) : Fin 4 := ⟨r.val / 128 + 1, by omega⟩

def seq (r : Fin 384) : Fin 128 := ⟨r.val % 128, by omega⟩

/-- The recurrent branch's columns of the input projection. -/
def col (d : Fin 512) : Fin 1536 := ⟨512 + d.val, by omega⟩

/-- The projection of one token: its shifted and scaled row times the branch's column. -/
def proj (x : (⟨3, ![128, 4, 1024]⟩ : Shape).Idx → EReal) (q : (⟨2, ![128, 6144]⟩ : Shape).Idx → EReal)
    (w : (⟨2, ![1024, 1536]⟩ : Shape).Idx → EReal) (b : Fin 128) (t : Fin 4) (d : Fin 512) : EReal :=
  ∑ k : Fin 1024, hid (fun k => x (ix3 b t k)) (fun k => q (ix2 b (part 0 k))) (fun k => q (ix2 b (part 1 k))) k * w (ix2 k (col d))

/-- The convolution's state. -/
def state (x : (⟨3, ![128, 4, 1024]⟩ : Shape).Idx → EReal) (q : (⟨2, ![128, 6144]⟩ : Shape).Idx → EReal)
    (w : (⟨2, ![1024, 1536]⟩ : Shape).Idx → EReal) : (⟨2, ![384, 512]⟩ : Shape).Idx → EReal :=
  fun i => proj x q w (seq (i 0)) (tok (i 0)) (i 1)

end Cert.SampleRows

namespace Cert.SampleReferenceIdeal.Rows

open Idealize.ShloMosaic Idealize.ShloMosaic.TcCoe Idealize.ShloMosaic.ValueIdx
open Cert.SampleReferenceIdeal Cert.SampleReferenceIdeal.Gen Cert.SampleReferenceIdeal.Read Cert.SampleRows
open Cert.MlpRows (hid part)
open Cert.MlpReferenceIdeal.Rows (ext2 ext3)
open scoped BigOperators

variable (x0 : Vec Ideal S128x4x1024 .f32) (x1 : Vec Ideal S128x6144 .f32) (x2 : Vec Ideal S1024x1536 .bf16) (x14 : Vec Ideal S128x3x512 .f32)

theorem shifted (b : Fin 128) (t : Fin 4) (k : Fin 1024) : val_main_v9 (F := Ideal) x0 x1 (ix3 b t k)
    = hid (fun k => x0 (ix3 b t k)) (fun k => x1 (ix2 b (part 0 k))) (fun k => x1 (ix2 b (part 1 k))) k := by
  have e0 : idx_main_v0 (idx_main_v1 (idx_main_v8 (ix3 b t k))) = ix2 b (part 0 k) :=
    ext2 rfl (by show k.val = 1024 * 0 + k.val; omega)
  have e1 : idx_main_v2 (idx_main_v3 (idx_main_v6 (ix3 b t k))) = ix2 b (part 1 k) :=
    ext2 rfl (by show 1024 + k.val = 1024 * 1 + k.val; omega)
  simp only [val_main_v9_apply, val_main_v8_apply, val_main_v7_apply, val_main_v6_apply, val_main_v5_apply, val_main_v4_apply,
    val_main_cst_apply, val_main_v3_apply, val_main_v2_apply, val_main_v1_apply, val_main_v0_apply]
  rw [e0, e1]
  rfl

theorem projected (b : Fin 128) (t : Fin 4) (d : Fin 512) : val_main_v12 (F := Ideal) x0 x1 x2 (ix3 b t d) = proj x0 x1 x2 b t d := by
  have e : idx_main_v12 (ix3 b t d) = ix3 b t (col d) := ext3 rfl rfl rfl
  have l : ∀ k, lidx_main_v11 (ix3 b t (col d)) k = ix3 b t k := fun k => ext3 rfl rfl rfl
  have r : ∀ k, ridx_main_v11 (ix3 b t (col d)) k = ix2 k (col d) := fun k => ext2 rfl rfl
  simp only [val_main_v12_apply, e, val_main_v11_apply, l, r, shifted, val_main_v10_apply]
  rfl

/-- The reference's result. -/
theorem result : val_main_v16 (F := Ideal) x0 x1 x2 x14 = state x0 x1 x2 := by
  funext i
  obtain ⟨r, d, rfl⟩ : ∃ (r : Fin 384) (d : Fin 512), i = ix2 r d := ⟨i 0, i 1, eq_ix2 i⟩
  have e16 : idx_main_v16 (ix2 r d) = ix3 (⟨r.val / 128, by omega⟩ : Fin 3) (seq r) d := by
    refine ext3 ?_ ?_ ?_
    · show (r.val * 512 + d.val) / 65536 = r.val / 128; omega
    · show (r.val * 512 + d.val) / 512 % 128 = r.val % 128; omega
    · show (r.val * 512 + d.val) % 512 = d.val; omega
  have e15 : idx_main_v15 (ix3 (⟨r.val / 128, by omega⟩ : Fin 3) (seq r) d) = ix3 (seq r) (⟨r.val / 128, by omega⟩ : Fin 3) d := ext3 rfl rfl rfl
  have e14 : idx_main_v14 (ix3 (seq r) (⟨r.val / 128, by omega⟩ : Fin 3) d) = ix3 (seq r) (⟨4 + r.val / 128, by omega⟩ : Fin 7) d := ext3 rfl rfl rfl
  rw [val_main_v16_apply, e16, val_main_v15_apply, e15, val_main_v14_apply, e14]
  unfold val_main_v13
  refine (concatenate_pair_apply_right (s₁ := S128x3x512) (s₂ := S128x4x512) (1 : Fin S128x7x512.rank) x14 (val_main_v12 (F := Ideal) x0 x1 x2)
    concatenates_S128x3x512_S128x4x512_S128x7x512_d1 (ix3 (seq r) (⟨4 + r.val / 128, by omega⟩ : Fin 7) d) rfl rfl (ix3 (seq r) (tok r) d) (fun a ha => ?_) ?_).trans (projected x0 x1 x2 _ _ _)
  · match a with
    | ⟨0, _⟩ => rfl
    | ⟨1, _⟩ => exact absurd rfl ha
    | ⟨2, _⟩ => rfl
  · show r.val / 128 + 1 + 3 = 4 + r.val / 128
    omega

end Cert.SampleReferenceIdeal.Rows

end
-- ==== Proof.SampleConv.lean ====
/-
  What the sample's mixer call leaves as the convolution's state, over the extended reals.

  The grid has one point. Its body projects every token on the recurrent branch's columns, puts the projections behind the
  three tokens kept from before, and writes the last three tokens of the whole out.
-/
module

public import proofs.«01_k».proof.Proof.SampleRows
public import proofs.«01_k».proof.Proof.MlpArrays
public import proofs.«01_k».proof.Proof.Gen.SampleIdeal.Value
public import Idealize.ShloMosaic.Lib.Pipeline.Value
public import Idealize.ShloMosaic.Lib.Pipeline.ValueKit
public import Idealize.ShloMosaic.Lib.Tactic

@[expose] public section

set_option maxRecDepth 16384

noncomputable section

namespace Cert.SampleIdeal.Conv

open Idealize.ShloMosaic hiding ix2 ix3
open Idealize.ShloMosaic.TcCoe Idealize.SL.Sem Idealize.ShloMosaic.ValueIdx
open Idealize.ShloMosaic.Pipeline (Dat)
open Cert.SampleIdeal Cert.SampleIdeal.Gen Cert.SampleRows
open Cert.MlpRows (hid part hidV hidV_apply rowOf)
open Cert.MlpIdeal.Blocks (hz hz3 readCov_cons)
open Cert.MlpIdeal.Arrays (ld2)

/-- A load inside the part written last reads what was written there. -/
theorem readCov_inside {Val : EltTy → Type} [∀ e, Nonempty (Val e)] {sig : RefSig} {κ : Kind} {sp : Space} {S : Shape} {e : EltTy}
    (v : View sig κ sp S e) (r : Rect S) (w : r.shape.Idx → Val e) (L : List (View.Piece Val S e)) (B : LoadRect S)
    (f : B.shape.Idx → r.shape.Idx) (h : ∀ j, B.idx j = r.emb (f j)) :
    v.readCov ((⟨r, w⟩ : View.Piece Val S e) :: L) B = fun j => w (f j) := by
  rw [View.readCov_eq_canon']
  exact funext fun j => by rw [h]; exact View.canon_cons_emb r w L (f j)

/-- The last three tokens among the four. -/
def later (j : S384x512.Idx) : S512x512.Idx := ix2 (⟨128 + (j 0).val, by have : (j 0).val < 384 := (j 0).isLt; omega⟩ : Fin 512) (j 1)

/-- The parts of the modulation and of the input projection that the call uses here. -/
def shiftQ (q : Vec Ideal S128x6144 .f32) : FVec Ideal S128x1024 .f32 :=
  View.ld q (Rect.unit (s := S128x6144) ![0, 0] S128x1024.size inb_S128x6144_S128x1024_0_0)
def scaleQ (q : Vec Ideal S128x6144 .f32) : FVec Ideal S128x1024 .f32 :=
  View.ld q (Rect.unit (s := S128x6144) ![0, 1024] S128x1024.size inb_S128x6144_S128x1024_0_1024)
def colsW (w : Vec Ideal S1024x1536 .bf16) : FVec Ideal S1024x512 .bf16 :=
  View.ld w (Rect.unit (s := S1024x1536) ![0, 512] S1024x512.size inb_S1024x1536_S1024x512_0_512)

/-- The projections of all tokens. -/
def rows (x : Vec Ideal S128x4x1024 .f32) (q : Vec Ideal S128x6144 .f32) (w : Vec Ideal S1024x1536 .bf16) : FVec Ideal S512x512 .f32 :=
  k0_pay10 (F := Ideal) (k0_pay8 (shiftQ q) (scaleQ q) x) (colsW w)

theorem rows_apply (x : Vec Ideal S128x4x1024 .f32) (q : Vec Ideal S128x6144 .f32) (w : Vec Ideal S1024x1536 .bf16)
    (t : Fin 4) (b : Fin 128) (d : Fin 512) : rows x q w (ix2 (rowOf (M := 512) rfl t b) d) = proj x q w b t d := by
  have hh : k0_pay8 (F := Ideal) (shiftQ q) (scaleQ q) x = hidV (transpose S4x128x1024 [1, 0, 2] x transposes_S128x4x1024_p1_0_2_S4x128x1024)
      (shiftQ q) (scaleQ q) shapeCasts_S128x1024_S1x128x1024 broadcasts_S1x128x1024_S4x128x1024 shapeCasts_S4x128x1024_S512x1024
      bitsLt_bf16_f32 := by
    unfold k0_pay8 k0_pay6
    simp only [shapeCast_self]
    rfl
  have hx : ∀ k, transpose S4x128x1024 [1, 0, 2] x transposes_S128x4x1024_p1_0_2_S4x128x1024 (ix3 t b k) = x (ix3 b t k) := fun k =>
    transpose_apply [1, 0, 2] x _ _ (ix3 b t k) fun c => match c with | ⟨0, _⟩ => rfl | ⟨1, _⟩ => rfl | ⟨2, _⟩ => rfl
  have hs : ∀ k, shiftQ q (ix2 b k) = q (ix2 b (part 0 k)) := fun k => ld2 q _ _ _ b k b _ (Nat.zero_add _).symm rfl
  have hc : ∀ k, scaleQ q (ix2 b k) = q (ix2 b (part 1 k)) := fun k => ld2 q _ _ _ b k b _ (Nat.zero_add _).symm rfl
  have hw : ∀ k, colsW w (ix2 k d) = w (ix2 k (col d)) := fun k => ld2 w _ _ _ k d k _ (Nat.zero_add _).symm rfl
  unfold rows
  rw [hh]
  unfold k0_pay10
  simp only [shapeCast_self]
  show FloatOps.matmul (DotDims.plain 512 1024 512) none _ _ (constant S512x512 .f32 0x00000000#32) (ix2 (rowOf (M := 512) rfl t b) d) = _
  rw [Ideal.matmul_plain_apply]
  show Ideal.ofBits .f32 0x00000000#32 + _ = _
  rw [Ideal.ofBits_zero_f32, zero_add]
  unfold proj
  refine Finset.sum_congr rfl fun k _ => ?_
  rw [hw]
  refine congrArg (· * _) ((hidV_apply (T := 4) (B := 128) (M := 512) rfl _ _ _ _ _ _ _ t b k).trans ?_)
  simp only [hx, hs, hc]

variable (m : (ℓ : Loc nD τ sig) → Buf (Elt Ideal) ℓ) (c : Dev nD)

/-- The only block is the first. -/
theorem at0 : ∀ t : Fin grid0.N, win0_0.index t 0 = 0 ∧ win0_0.index t 1 = 0 ∧ win0_0.index t 2 = 0 := by decide +kernel

theorem iblk0 (t : Fin cfg0.N) : (iblk m c 0 t : Vec Ideal S128x4x1024 .f32) = m ((c : Thread nD τ).loc main_arg0) :=
  Eq.trans (funext fun y => congrArg (V m c main_arg0) (funext fun a => Fin.ext
    (win0_0.rect_emb_val_of_index_zero t a (match a with | ⟨0, _⟩ => (at0 t).1 | ⟨1, _⟩ => (at0 t).2.1 | ⟨2, _⟩ => (at0 t).2.2) y))) (V_main_arg0 m c)
theorem iblk1 (t : Fin cfg0.N) : (iblk m c 1 t : Vec Ideal S128x6144 .f32) = m ((c : Thread nD τ).loc main_arg1) :=
  Eq.trans (funext fun y => congrArg (V m c main_arg1) (funext fun a => Fin.ext
    (win0_1.rect_emb_val_of_index_zero t a (by fin_cases a <;> rfl) y))) (V_main_arg1 m c)
theorem iblk2 (t : Fin cfg0.N) : (iblk m c 2 t : Vec Ideal S1024x1536 .bf16) = m ((c : Thread nD τ).loc main_arg2) :=
  Eq.trans (funext fun y => congrArg (V m c main_arg2) (funext fun a => Fin.ext
    (win0_2.rect_emb_val_of_index_zero t a (by fin_cases a <;> rfl) y))) (V_main_arg2 m c)

/-- The point leaves the last three tokens' projections. -/
theorem left (t : Fin cfg0.N) : (outsAt0 m c t).2.1
    = fun j => rows (iblk m c 0 t) (iblk m c 1 t) (iblk m c 2 t) (later j) := by
  unfold outsAt0
  dsimp only
  unfold out0_A_19
  refine (View.read_writes_eq_canon _ _ _ (fun y => cover0_A_19 ..)).trans ?_
  unfold kernelRun0_A
  dsimp only
  sl_unfold_words
  rw [View.canon_unit_zero hz]
  rw [readCov_inside _ _ _ _ _ later fun j => funext fun a => Fin.ext (by
    match a with
    | ⟨0, _⟩ => show 512 + 1 * (j 0).val = 384 + 1 * (128 + (j 0).val); omega
    | ⟨1, _⟩ => rfl)]
  funext j
  simp only [readCov_cons, View.readAt_eq_ld, (hs0_0 t).read_unread, (hs0_1 t).read_unread, (hs0_2 t).read_unread,
    View.ld_unit_zero (S := S128x4x1024) hz3]
  rfl

/-- The state's array after the call. -/
theorem final : (dats m 0 c).arrAt 19 cfg0.N = state (m ((c : Thread nD τ).loc main_arg0)) (m ((c : Thread nD τ).loc main_arg1))
    (m ((c : Thread nD τ).loc main_arg2)) := by
  refine (dats m 0 c).arrAt_eq_of_covers 19 _ (by decide +kernel) fun t hf y => ?_
  let y' : S384x512.Idx := y
  have e : ((cfg0.win 19).blk t).view.emb y = y' :=
    funext fun a => Fin.ext (win0_19.rect_emb_val_of_index_zero t a (by fin_cases a <;> rfl) y)
  rw [e]
  show (dats m 0 c).after 19 t y' = _
  rw [after0_19, left m c t, iblk0, iblk1, iblk2]
  have h : later y' = ix2 (rowOf (M := 512) rfl (tok (y' 0)) (seq (y' 0))) (y' 1) := by
    have h0 : (y' 0).val < 384 := (y' 0).isLt
    refine Cert.MlpReferenceIdeal.Rows.ext2 ?_ rfl
    show 128 + (y' 0).val = ((y' 0).val / 128 + 1) * 128 + (y' 0).val % 128
    omega
  show rows _ _ _ (later y') = _
  rw [h]
  exact rows_apply ..

end Cert.SampleIdeal.Conv

end
-- ==== Proof.lean ====
module

public import proofs.«01_k».proof.Defs
public import proofs.«01_k».proof.Proof.Gen.Kernel
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Launch
public import proofs.«01_k».proof.Proof.Gen.Mlp
public import proofs.«01_k».proof.Proof.Gen.MlpReferenceIdeal
public import proofs.«01_k».proof.Proof.Gen.MlpReferenceIdeal.Run
public import proofs.«01_k».proof.Proof.MlpRef
public import proofs.«01_k».proof.Proof.MlpArrays
public import proofs.«01_k».proof.Proof.Gen.Sample
public import proofs.«01_k».proof.Proof.Gen.SampleReferenceIdeal
public import proofs.«01_k».proof.Proof.SampleRows
public import proofs.«01_k».proof.Proof.SampleConv
public import proofs.«01_k».proof.Proof.Gen.MlpIdeal.Value
public import proofs.«01_k».proof.Proof.Gen.SampleIdeal.Value

@[expose] public section

noncomputable section

namespace Cert.Proof

open Idealize.ShloMosaic Idealize.ShloMosaic.TcCoe Idealize.SL.Sem

section

open Cert.KernelIdeal

/-- The mixer over given floats runs, every argument ends as it was, and every counter is zero again. -/
def Quiet (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0)

theorem quiet (F : FTy → Type) [FloatOps F] : Quiet F := fun m ρ _ =>
  (θ_run defs _ _).mono (fun _ h => ⟨fun c => by
    have := h.1 c
    simpa only [List.forall_mem_cons, List.not_mem_nil, IsEmpty.forall_iff, implies_true, and_true] using this, h.2⟩)
    (Body.run_frame m ρ)

end

theorem frame_ideal : Cert.quiescent_KernelIdeal (hKernelIdeal := Cert.KernelIdeal.Gen.facts) := quiet Ideal

/-- The two programs are the same text. -/
theorem same_text : Cert.quiescent_Kernel (hKernel := Cert.Kernel.Gen.facts) = Quiet Bits := by sl_kernel_rfl

theorem frame_kernel : Cert.quiescent_Kernel (hKernel := Cert.Kernel.Gen.facts) := same_text ▸ quiet Bits

section

open Cert.MlpIdeal

/-- The feed-forward call over given floats runs, every argument ends as it was, and every counter is zero again. -/
def MlpQuiet (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem mlpQuiet (F : FTy → Type) [FloatOps F] : MlpQuiet F := fun m ρ _ => Gen.frame m ρ

end

theorem frame_mlp_ideal : Cert.quiescent_MlpIdeal (hMlpIdeal := Cert.MlpIdeal.Gen.facts) := mlpQuiet Ideal

/-- The two programs are the same text. -/
theorem same_mlp : Cert.quiescent_Mlp (hMlp := Cert.Mlp.Gen.facts) = MlpQuiet Bits := by sl_kernel_rfl

theorem frame_mlp : Cert.quiescent_Mlp (hMlp := Cert.Mlp.Gen.facts) := same_mlp ▸ mlpQuiet Bits

theorem frame_reference : Cert.quiescent_MlpReferenceIdeal (hMlpReferenceIdeal := Cert.MlpReferenceIdeal.Gen.facts) :=
  fun m ρ _ => (θ_run _ _ _).mono
    (fun r h => ⟨fun c => (h c).2.2, Idealize.ShloMosaic.sem_eq_zero_of_no_sems (by decide) r.2⟩)
    (Cert.MlpReferenceIdeal.Value.run m ρ)

/-- Both runs end with `MlpRows.out` of the arguments. -/
theorem algebraic_mlp : Cert.algebraic_MlpIdeal_MlpReferenceIdeal (hMlpIdeal := Cert.MlpIdeal.Gen.facts)
    (hMlpReferenceIdeal := Cert.MlpReferenceIdeal.Gen.facts) := by
  intro m g m' g' _ hagree
  refine ⟨fun c => (Cert.MlpIdeal.Gen.dats m 0 c).arrAt 8 Cert.MlpIdeal.cfg0.N,
    fun c => (Cert.MlpIdeal.Gen.dats m 0 c).arrAt 9 Cert.MlpIdeal.cfg0.N, Cert.MlpIdeal.Value.run_blocks m g,
    (θ_run _ _ _).mono (fun r h c => ⟨(h c).1.trans ?_, (h c).2.1.trans ?_, (h c).2.2⟩) (Cert.MlpReferenceIdeal.Value.run m' g')⟩
  · obtain ⟨h0, h1, h2, h3, h4, h5, -, -⟩ := hagree c
    rw [Cert.MlpReferenceIdeal.Read.val_main_v60_eq, Cert.MlpReferenceIdeal.Rows.prompt, h0, h1, h2, h3, h4, h5]
    exact (Cert.MlpIdeal.Arrays.final8 m c).symm
  · obtain ⟨-, -, h2, h3, h4, h5, h6, h7⟩ := hagree c
    rw [Cert.MlpReferenceIdeal.Read.val_main_v119_eq, Cert.MlpReferenceIdeal.Rows.sample, h2, h3, h4, h5, h6, h7]
    exact (Cert.MlpIdeal.Arrays.final9 m c).symm

section

open Cert.SampleIdeal

/-- The sample's mixer over given floats runs, every argument ends as it was, and every counter is zero again. -/
def SampleQuiet (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0)

theorem sampleQuiet (F : FTy → Type) [FloatOps F] : SampleQuiet F := fun m ρ _ => Gen.frame m ρ

end

theorem frame_sample_ideal : Cert.quiescent_SampleIdeal (hSampleIdeal := Cert.SampleIdeal.Gen.facts) := sampleQuiet Ideal

/-- The two programs are the same text. -/
theorem same_sample : Cert.quiescent_Sample (hSample := Cert.Sample.Gen.facts) = SampleQuiet Bits := by sl_kernel_rfl

theorem frame_sample : Cert.quiescent_Sample (hSample := Cert.Sample.Gen.facts) := same_sample ▸ sampleQuiet Bits

theorem frame_sample_reference : Cert.quiescent_SampleReferenceIdeal (hSampleReferenceIdeal := Cert.SampleReferenceIdeal.Gen.facts) :=
  fun m ρ _ => (θ_run _ _ _).mono
    (fun r h => ⟨fun c => (h c).2, Idealize.ShloMosaic.sem_eq_zero_of_no_sems (by decide) r.2⟩)
    (Cert.SampleReferenceIdeal.Value.run m ρ)

/-- Both runs end with `SampleRows.state` of the arguments. -/
theorem algebraic_sample : Cert.algebraic_SampleIdeal_SampleReferenceIdeal (hSampleIdeal := Cert.SampleIdeal.Gen.facts)
    (hSampleReferenceIdeal := Cert.SampleReferenceIdeal.Gen.facts) := by
  intro m g m' g' _ hagree
  refine ⟨fun c => (Cert.SampleIdeal.Gen.dats m 0 c).arrAt 19 Cert.SampleIdeal.cfg0.N,
    (θ_run _ _ _).mono (fun r h c => ⟨(h c).2.1, (h c).2.2.2.2.2.2.2⟩) (Cert.SampleIdeal.Value.run_blocks m g),
    (θ_run _ _ _).mono (fun r h c => ⟨(h c).1.trans ?_, (h c).2⟩) (Cert.SampleReferenceIdeal.Value.run m' g')⟩
  obtain ⟨h0, h1, h2, -⟩ := hagree c
  rw [Cert.SampleReferenceIdeal.Read.val_main_v16_eq, Cert.SampleReferenceIdeal.Rows.result, h0, h1, h2]
  exact (Cert.SampleIdeal.Conv.final m c).symm

theorem claim : Cert.Claim :=
  ⟨Cert.Kernel.Gen.facts, Cert.KernelIdeal.Gen.facts, Cert.Mlp.Gen.facts, Cert.MlpIdeal.Gen.facts,
    Cert.MlpReferenceIdeal.Gen.facts, Cert.Sample.Gen.facts, Cert.SampleIdeal.Gen.facts, Cert.SampleReferenceIdeal.Gen.facts,
    frame_kernel, frame_ideal, frame_mlp, frame_mlp_ideal, frame_reference, frame_sample, frame_sample_ideal, frame_sample_reference,
    trivial, trivial, algebraic_mlp, trivial, algebraic_sample⟩

end Cert.Proof

end
